-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S4096x2048 : Shape := ⟨2, ![4096, 2048]⟩
abbrev S512x1024 : Shape := ⟨2, ![512, 1024]⟩
abbrev S2x512x1024 : Shape := ⟨3, ![2, 512, 1024]⟩
abbrev S8x128 : Shape := ⟨2, ![8, 128]⟩
abbrev S3x8x128 : Shape := ⟨3, ![3, 8, 128]⟩
abbrev S2x2 : Shape := ⟨2, ![2, 2]⟩
abbrev S2 : Shape := ⟨1, ![2]⟩
abbrev S3 : Shape := ⟨1, ![3]⟩
abbrev S_ : Shape := ⟨0, ![]⟩
abbrev S512x512 : Shape := ⟨2, ![512, 512]⟩
abbrev S1x1 : Shape := ⟨2, ![1, 1]⟩
abbrev S1x512x512 : Shape := ⟨3, ![1, 512, 512]⟩
abbrev S1x512x1024 : Shape := ⟨3, ![1, 512, 1024]⟩
abbrev S1 : Shape := ⟨1, ![1]⟩
abbrev S1x1x1 : Shape := ⟨3, ![1, 1, 1]⟩
abbrev S1x8x128 : Shape := ⟨3, ![1, 8, 128]⟩

abbrev nBuf : Space → Nat
  | .hbm => 3
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S4096x2048, .f32⟩
  | .local _ .vmem, ⟨0, _⟩ => ⟨S4096x512, .f32⟩
  | .local _ .vmem, ⟨1, _⟩ => ⟨S512x2048, .f32⟩
  | .local _ .vmem, ⟨2, _⟩ => ⟨S512x1024, .f32⟩
  | .local _ .vmem, ⟨3, _⟩ => ⟨S512x1024, .f32⟩
  | .local _ .vmem, ⟨4, _⟩ => ⟨S2x512x1024, .f32⟩
  | .local _ .vmem, ⟨5, _⟩ => ⟨S2x512x1024, .f32⟩
  | .local _ .vmem, ⟨6, _⟩ => ⟨S2x512x1024, .f32⟩
  | .local _ .vmem, ⟨7, _⟩ => ⟨S2x512x1024, .f32⟩
  | .local _ .vmem, ⟨8, _⟩ => ⟨S8x128, .f32⟩
  | .local _ .vmem, ⟨9, _⟩ => ⟨S3x8x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 3 → Bool
  | ⟨0, _⟩ => true
  | ⟨1, _⟩ => true
  | ⟨2, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 3 36 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_sem0_0 : DmaSem sig := 0
abbrev cc0_sem1_0 : DmaSem sig := 1
abbrev barrier0 : Sem sig := 2

abbrev nD : Nat := 8
abbrev τ : Topo := Topo.v7x

variable {F : FTy → Type} [FloatOps F]

abbrev grid0 : Pipeline.Grid := .none

def k0_dev1 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_19 : BitVec 32 := 1#32
  let v36 : BitVec 32 := Scalar.muli v34 c1_i32_19
  let v37 : BitVec 32 := Scalar.addi c0_i32_20 v36
  v37.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_22 : BitVec 32 := 1#32
  let v38 : BitVec 32 := Scalar.muli v19 c1_i32_22
  let v39 : BitVec 32 := Scalar.addi c0_i32_23 v38
  v39.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c512_i32 : BitVec 32 := 512#32
  let v40 : BitVec 32 := Scalar.muli v5 c512_i32
  let v41 : Index := Scalar.indexCast v40
  let c0 : Index := 0#32
  ![v41.toNat, 0]
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_33 : BitVec 32 := 1#32
  let v50 : BitVec 32 := Scalar.muli v19 c1_i32_33
  let v51 : BitVec 32 := Scalar.addi c0_i32_34 v50
  v51.toNat
def k0_dev4 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_44 : BitVec 32 := 1#32
  let v59 : BitVec 32 := Scalar.muli v19 c1_i32_44
  let v60 : BitVec 32 := Scalar.addi c0_i32_45 v59
  v60.toNat
def k0_dev5 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_61 : BitVec 32 := 1#32
  let v78 : BitVec 32 := Scalar.muli v34 c1_i32_61
  let v79 : BitVec 32 := Scalar.addi c0_i32_62 v78
  v79.toNat
def k0_dev6 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_72 : BitVec 32 := 1#32
  let v87 : BitVec 32 := Scalar.muli v34 c1_i32_72
  let v88 : BitVec 32 := Scalar.addi c0_i32_73 v87
  v88.toNat
def k0_off2 (d0 : Dev nD) (c_m1_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v96 : BitVec 32 := Scalar.addi v5 c_m1_i32
  let c8_i32_78 : BitVec 32 := 8#32
  let c0_i32_79 : BitVec 32 := 0#32
  let v97 : BitVec 1 := Scalar.cmpi .eq c8_i32_78 c0_i32_79
  let c1_i32_80 : BitVec 32 := 1#32
  let v98 : BitVec 32 := Scalar.select v97 c1_i32_80 c8_i32_78
  let v99 : BitVec 32 := Scalar.remsi v96 v98
  let c0_i32_82 : BitVec 32 := 0#32
  let v101 : BitVec 1 := Scalar.cmpi .slt v99 c0_i32_82
  let c0_i32_83 : BitVec 32 := 0#32
  let v102 : BitVec 1 := Scalar.cmpi .slt v98 c0_i32_83
  let v103 : BitVec 1 := Scalar.xori v101 v102
  let c0_i32_81 : BitVec 32 := 0#32
  let v100 : BitVec 1 := Scalar.cmpi .ne v99 c0_i32_81
  let v104 : BitVec 1 := Scalar.andi v103 v100
  let v105 : BitVec 32 := Scalar.addi v99 v98
  let v106 : BitVec 32 := Scalar.select v104 v105 v99
  let c512_i32_84 : BitVec 32 := 512#32
  let v107 : BitVec 32 := Scalar.muli v106 c512_i32_84
  let v108 : Index := Scalar.indexCast v107
  let c0_85 : Index := 0#32
  ![v108.toNat, 0]
def k0_off2_at (r : Fin 14) : BitVec 32 :=
  if r.val < 7 then
    if r.val < 3 then
      if r.val < 1 then
        4294967295#32
      else
        if r.val < 2 then
          1#32
        else
          4294967294#32
    else
      if r.val < 5 then
        if r.val < 4 then
          2#32
        else
          4294967293#32
      else
        if r.val < 6 then
          3#32
        else
          4294967292#32
  else
    if r.val < 10 then
      if r.val < 8 then
        4#32
      else
        if r.val < 9 then
          4294967291#32
        else
          5#32
    else
      if r.val < 12 then
        if r.val < 11 then
          4294967290#32
        else
          6#32
      else
        if r.val < 13 then
          4294967289#32
        else
          7#32
def k0_dev7 (d0 : Dev nD) : Nat :=
  let c0_i32_138 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_137 : BitVec 32 := 1#32
  let v158 : BitVec 32 := Scalar.muli v34 c1_i32_137
  let v159 : BitVec 32 := Scalar.addi c0_i32_138 v158
  v159.toNat
def k0_dev8 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_144 : BitVec 32 := 1#32
  let v160 : BitVec 32 := Scalar.muli v19 c1_i32_144
  let v161 : BitVec 32 := Scalar.addi c0_i32_145 v160
  v161.toNat
def k0_dev9 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_180 : BitVec 32 := 1#32
  let v189 : BitVec 32 := Scalar.muli v19 c1_i32_180
  let v190 : BitVec 32 := Scalar.addi c0_i32_181 v189
  v190.toNat
def k0_dev10 (d0 : Dev nD) : Nat :=
  let c0_i32_188 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_187 : BitVec 32 := 1#32
  let v191 : BitVec 32 := Scalar.muli v34 c1_i32_187
  let v192 : BitVec 32 := Scalar.addi c0_i32_188 v191
  v192.toNat
def k0_dev11 (d0 : Dev nD) : Nat :=
  let c0_i32_223 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_222 : BitVec 32 := 1#32
  let v220 : BitVec 32 := Scalar.muli v34 c1_i32_222
  let v221 : BitVec 32 := Scalar.addi c0_i32_223 v220
  v221.toNat
def k0_dev12 (d0 : Dev nD) : Nat :=
  let c0_i32_230 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_229 : BitVec 32 := 1#32
  let v222 : BitVec 32 := Scalar.muli v19 c1_i32_229
  let v223 : BitVec 32 := Scalar.addi c0_i32_230 v222
  v223.toNat
def k0_dev13 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_265 : BitVec 32 := 1#32
  let v251 : BitVec 32 := Scalar.muli v19 c1_i32_265
  let v252 : BitVec 32 := Scalar.addi c0_i32_266 v251
  v252.toNat
def k0_dev14 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_272 : BitVec 32 := 1#32
  let v253 : BitVec 32 := Scalar.muli v34 c1_i32_272
  let v254 : BitVec 32 := Scalar.addi c0_i32_273 v253
  v254.toNat
def k0_dev15 (d0 : Dev nD) : Nat :=
  let c0_i32_337 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_336 : BitVec 32 := 1#32
  let v324 : BitVec 32 := Scalar.muli v34 c1_i32_336
  let v325 : BitVec 32 := Scalar.addi c0_i32_337 v324
  v325.toNat
def k0_dev16 (d0 : Dev nD) : Nat :=
  let c0_i32_346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_345 : BitVec 32 := 1#32
  let v326 : BitVec 32 := Scalar.muli v19 c1_i32_345
  let v327 : BitVec 32 := Scalar.addi c0_i32_346 v326
  v327.toNat
def k0_dev17 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_381 : BitVec 32 := 1#32
  let v355 : BitVec 32 := Scalar.muli v19 c1_i32_381
  let v356 : BitVec 32 := Scalar.addi c0_i32_382 v355
  v356.toNat
def k0_dev18 (d0 : Dev nD) : Nat :=
  let c0_i32_391 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_390 : BitVec 32 := 1#32
  let v357 : BitVec 32 := Scalar.muli v34 c1_i32_390
  let v358 : BitVec 32 := Scalar.addi c0_i32_391 v357
  v358.toNat
def k0_dev19 (d0 : Dev nD) : Nat :=
  let c0_i32_427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_426 : BitVec 32 := 1#32
  let v386 : BitVec 32 := Scalar.muli v34 c1_i32_426
  let v387 : BitVec 32 := Scalar.addi c0_i32_427 v386
  v387.toNat
def k0_dev20 (d0 : Dev nD) : Nat :=
  let c0_i32_436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_435 : BitVec 32 := 1#32
  let v388 : BitVec 32 := Scalar.muli v19 c1_i32_435
  let v389 : BitVec 32 := Scalar.addi c0_i32_436 v388
  v389.toNat
def k0_dev21 (d0 : Dev nD) : Nat :=
  let c0_i32_472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_471 : BitVec 32 := 1#32
  let v417 : BitVec 32 := Scalar.muli v19 c1_i32_471
  let v418 : BitVec 32 := Scalar.addi c0_i32_472 v417
  v418.toNat
def k0_dev22 (d0 : Dev nD) : Nat :=
  let c0_i32_481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_480 : BitVec 32 := 1#32
  let v419 : BitVec 32 := Scalar.muli v34 c1_i32_480
  let v420 : BitVec 32 := Scalar.addi c0_i32_481 v419
  v420.toNat
def k0_dev23 (d0 : Dev nD) : Nat :=
  let c0_i32_545 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_544 : BitVec 32 := 1#32
  let v490 : BitVec 32 := Scalar.muli v34 c1_i32_544
  let v491 : BitVec 32 := Scalar.addi c0_i32_545 v490
  v491.toNat
def k0_dev24 (d0 : Dev nD) : Nat :=
  let c0_i32_554 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_553 : BitVec 32 := 1#32
  let v492 : BitVec 32 := Scalar.muli v19 c1_i32_553
  let v493 : BitVec 32 := Scalar.addi c0_i32_554 v492
  v493.toNat
def k0_dev25 (d0 : Dev nD) : Nat :=
  let c0_i32_590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_589 : BitVec 32 := 1#32
  let v521 : BitVec 32 := Scalar.muli v19 c1_i32_589
  let v522 : BitVec 32 := Scalar.addi c0_i32_590 v521
  v522.toNat
def k0_dev26 (d0 : Dev nD) : Nat :=
  let c0_i32_599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_598 : BitVec 32 := 1#32
  let v523 : BitVec 32 := Scalar.muli v34 c1_i32_598
  let v524 : BitVec 32 := Scalar.addi c0_i32_599 v523
  v524.toNat
def k0_dev27 (d0 : Dev nD) : Nat :=
  let c0_i32_635 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_634 : BitVec 32 := 1#32
  let v552 : BitVec 32 := Scalar.muli v34 c1_i32_634
  let v553 : BitVec 32 := Scalar.addi c0_i32_635 v552
  v553.toNat
def k0_dev28 (d0 : Dev nD) : Nat :=
  let c0_i32_644 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_643 : BitVec 32 := 1#32
  let v554 : BitVec 32 := Scalar.muli v19 c1_i32_643
  let v555 : BitVec 32 := Scalar.addi c0_i32_644 v554
  v555.toNat
def k0_dev29 (d0 : Dev nD) : Nat :=
  let c0_i32_680 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_679 : BitVec 32 := 1#32
  let v583 : BitVec 32 := Scalar.muli v19 c1_i32_679
  let v584 : BitVec 32 := Scalar.addi c0_i32_680 v583
  v584.toNat
def k0_dev30 (d0 : Dev nD) : Nat :=
  let c0_i32_689 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_688 : BitVec 32 := 1#32
  let v585 : BitVec 32 := Scalar.muli v34 c1_i32_688
  let v586 : BitVec 32 := Scalar.addi c0_i32_689 v585
  v586.toNat
def k0_dev31 (d0 : Dev nD) : Nat :=
  let c0_i32_754 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_753 : BitVec 32 := 1#32
  let v656 : BitVec 32 := Scalar.muli v34 c1_i32_753
  let v657 : BitVec 32 := Scalar.addi c0_i32_754 v656
  v657.toNat
def k0_dev32 (d0 : Dev nD) : Nat :=
  let c0_i32_763 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_762 : BitVec 32 := 1#32
  let v658 : BitVec 32 := Scalar.muli v19 c1_i32_762
  let v659 : BitVec 32 := Scalar.addi c0_i32_763 v658
  v659.toNat
def k0_dev33 (d0 : Dev nD) : Nat :=
  let c0_i32_799 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_798 : BitVec 32 := 1#32
  let v687 : BitVec 32 := Scalar.muli v19 c1_i32_798
  let v688 : BitVec 32 := Scalar.addi c0_i32_799 v687
  v688.toNat
def k0_dev34 (d0 : Dev nD) : Nat :=
  let c0_i32_808 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_807 : BitVec 32 := 1#32
  let v689 : BitVec 32 := Scalar.muli v34 c1_i32_807
  let v690 : BitVec 32 := Scalar.addi c0_i32_808 v689
  v690.toNat
def k0_dev35 (d0 : Dev nD) : Nat :=
  let c0_i32_844 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_843 : BitVec 32 := 1#32
  let v718 : BitVec 32 := Scalar.muli v34 c1_i32_843
  let v719 : BitVec 32 := Scalar.addi c0_i32_844 v718
  v719.toNat
def k0_dev36 (d0 : Dev nD) : Nat :=
  let c0_i32_853 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_852 : BitVec 32 := 1#32
  let v720 : BitVec 32 := Scalar.muli v19 c1_i32_852
  let v721 : BitVec 32 := Scalar.addi c0_i32_853 v720
  v721.toNat
def k0_dev37 (d0 : Dev nD) : Nat :=
  let c0_i32_889 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_888 : BitVec 32 := 1#32
  let v749 : BitVec 32 := Scalar.muli v19 c1_i32_888
  let v750 : BitVec 32 := Scalar.addi c0_i32_889 v749
  v750.toNat
def k0_dev38 (d0 : Dev nD) : Nat :=
  let c0_i32_898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_897 : BitVec 32 := 1#32
  let v751 : BitVec 32 := Scalar.muli v34 c1_i32_897
  let v752 : BitVec 32 := Scalar.addi c0_i32_898 v751
  v752.toNat
def k0_dev39 (d0 : Dev nD) : Nat :=
  let c0_i32_962 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_961 : BitVec 32 := 1#32
  let v822 : BitVec 32 := Scalar.muli v34 c1_i32_961
  let v823 : BitVec 32 := Scalar.addi c0_i32_962 v822
  v823.toNat
def k0_dev40 (d0 : Dev nD) : Nat :=
  let c0_i32_971 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_970 : BitVec 32 := 1#32
  let v824 : BitVec 32 := Scalar.muli v19 c1_i32_970
  let v825 : BitVec 32 := Scalar.addi c0_i32_971 v824
  v825.toNat
def k0_dev41 (d0 : Dev nD) : Nat :=
  let c0_i32_1007 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1006 : BitVec 32 := 1#32
  let v853 : BitVec 32 := Scalar.muli v19 c1_i32_1006
  let v854 : BitVec 32 := Scalar.addi c0_i32_1007 v853
  v854.toNat
def k0_dev42 (d0 : Dev nD) : Nat :=
  let c0_i32_1016 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1015 : BitVec 32 := 1#32
  let v855 : BitVec 32 := Scalar.muli v34 c1_i32_1015
  let v856 : BitVec 32 := Scalar.addi c0_i32_1016 v855
  v856.toNat
def k0_dev43 (d0 : Dev nD) : Nat :=
  let c0_i32_1052 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1051 : BitVec 32 := 1#32
  let v884 : BitVec 32 := Scalar.muli v34 c1_i32_1051
  let v885 : BitVec 32 := Scalar.addi c0_i32_1052 v884
  v885.toNat
def k0_dev44 (d0 : Dev nD) : Nat :=
  let c0_i32_1061 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1060 : BitVec 32 := 1#32
  let v886 : BitVec 32 := Scalar.muli v19 c1_i32_1060
  let v887 : BitVec 32 := Scalar.addi c0_i32_1061 v886
  v887.toNat
def k0_dev45 (d0 : Dev nD) : Nat :=
  let c0_i32_1097 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1096 : BitVec 32 := 1#32
  let v915 : BitVec 32 := Scalar.muli v19 c1_i32_1096
  let v916 : BitVec 32 := Scalar.addi c0_i32_1097 v915
  v916.toNat
def k0_dev46 (d0 : Dev nD) : Nat :=
  let c0_i32_1106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1105 : BitVec 32 := 1#32
  let v917 : BitVec 32 := Scalar.muli v34 c1_i32_1105
  let v918 : BitVec 32 := Scalar.addi c0_i32_1106 v917
  v918.toNat
def k0_dev47 (d0 : Dev nD) : Nat :=
  let c0_i32_1170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1169 : BitVec 32 := 1#32
  let v988 : BitVec 32 := Scalar.muli v34 c1_i32_1169
  let v989 : BitVec 32 := Scalar.addi c0_i32_1170 v988
  v989.toNat
def k0_dev48 (d0 : Dev nD) : Nat :=
  let c0_i32_1179 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1178 : BitVec 32 := 1#32
  let v990 : BitVec 32 := Scalar.muli v19 c1_i32_1178
  let v991 : BitVec 32 := Scalar.addi c0_i32_1179 v990
  v991.toNat
def k0_dev49 (d0 : Dev nD) : Nat :=
  let c0_i32_1215 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1214 : BitVec 32 := 1#32
  let v1019 : BitVec 32 := Scalar.muli v19 c1_i32_1214
  let v1020 : BitVec 32 := Scalar.addi c0_i32_1215 v1019
  v1020.toNat
def k0_dev50 (d0 : Dev nD) : Nat :=
  let c0_i32_1224 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1223 : BitVec 32 := 1#32
  let v1021 : BitVec 32 := Scalar.muli v34 c1_i32_1223
  let v1022 : BitVec 32 := Scalar.addi c0_i32_1224 v1021
  v1022.toNat
def k0_dev51 (d0 : Dev nD) : Nat :=
  let c0_i32_1260 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1259 : BitVec 32 := 1#32
  let v1050 : BitVec 32 := Scalar.muli v34 c1_i32_1259
  let v1051 : BitVec 32 := Scalar.addi c0_i32_1260 v1050
  v1051.toNat
def k0_dev52 (d0 : Dev nD) : Nat :=
  let c0_i32_1269 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1268 : BitVec 32 := 1#32
  let v1052 : BitVec 32 := Scalar.muli v19 c1_i32_1268
  let v1053 : BitVec 32 := Scalar.addi c0_i32_1269 v1052
  v1053.toNat
def k0_dev53 (d0 : Dev nD) : Nat :=
  let c0_i32_1305 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1304 : BitVec 32 := 1#32
  let v1081 : BitVec 32 := Scalar.muli v19 c1_i32_1304
  let v1082 : BitVec 32 := Scalar.addi c0_i32_1305 v1081
  v1082.toNat
def k0_dev54 (d0 : Dev nD) : Nat :=
  let c0_i32_1314 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1313 : BitVec 32 := 1#32
  let v1083 : BitVec 32 := Scalar.muli v34 c1_i32_1313
  let v1084 : BitVec 32 := Scalar.addi c0_i32_1314 v1083
  v1084.toNat
def k0_dev55 (d0 : Dev nD) : Nat :=
  let c0_i32_1378 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1377 : BitVec 32 := 1#32
  let v1154 : BitVec 32 := Scalar.muli v34 c1_i32_1377
  let v1155 : BitVec 32 := Scalar.addi c0_i32_1378 v1154
  v1155.toNat
def k0_dev56 (d0 : Dev nD) : Nat :=
  let c0_i32_1387 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1386 : BitVec 32 := 1#32
  let v1156 : BitVec 32 := Scalar.muli v19 c1_i32_1386
  let v1157 : BitVec 32 := Scalar.addi c0_i32_1387 v1156
  v1157.toNat
def k0_dev57 (d0 : Dev nD) : Nat :=
  let c0_i32_1427 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1426 : BitVec 32 := 1#32
  let v1191 : BitVec 32 := Scalar.muli v19 c1_i32_1426
  let v1192 : BitVec 32 := Scalar.addi c0_i32_1427 v1191
  v1192.toNat
def k0_dev58 (d0 : Dev nD) : Nat :=
  let c0_i32_1436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1435 : BitVec 32 := 1#32
  let v1193 : BitVec 32 := Scalar.muli v34 c1_i32_1435
  let v1194 : BitVec 32 := Scalar.addi c0_i32_1436 v1193
  v1194.toNat
def k0_dev59 (d0 : Dev nD) : Nat :=
  let c0_i32_1475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1474 : BitVec 32 := 1#32
  let v1228 : BitVec 32 := Scalar.muli v34 c1_i32_1474
  let v1229 : BitVec 32 := Scalar.addi c0_i32_1475 v1228
  v1229.toNat
def k0_dev60 (d0 : Dev nD) : Nat :=
  let c0_i32_1484 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1483 : BitVec 32 := 1#32
  let v1230 : BitVec 32 := Scalar.muli v19 c1_i32_1483
  let v1231 : BitVec 32 := Scalar.addi c0_i32_1484 v1230
  v1231.toNat
def k0_dev61 (d0 : Dev nD) : Nat :=
  let c0_i32_1523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1522 : BitVec 32 := 1#32
  let v1265 : BitVec 32 := Scalar.muli v19 c1_i32_1522
  let v1266 : BitVec 32 := Scalar.addi c0_i32_1523 v1265
  v1266.toNat
def k0_dev62 (d0 : Dev nD) : Nat :=
  let c0_i32_1532 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1531 : BitVec 32 := 1#32
  let v1267 : BitVec 32 := Scalar.muli v34 c1_i32_1531
  let v1268 : BitVec 32 := Scalar.addi c0_i32_1532 v1267
  v1268.toNat
def k0_dev63 (d0 : Dev nD) : Nat :=
  let c0_i32_1549 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1540 : BitVec 32 := 1#32
  let v1282 : BitVec 32 := Scalar.xori v2 c1_i32_1540
  let c1_i32_1548 : BitVec 32 := 1#32
  let v1289 : BitVec 32 := Scalar.muli v1282 c1_i32_1548
  let v1290 : BitVec 32 := Scalar.addi c0_i32_1549 v1289
  v1290.toNat
def k0_dev64 (d0 : Dev nD) : Nat :=
  let c0_i32_1574 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1541 : BitVec 32 := 3#32
  let v1283 : BitVec 32 := Scalar.xori v2 c3_i32_1541
  let c1_i32_1573 : BitVec 32 := 1#32
  let v1314 : BitVec 32 := Scalar.muli v1283 c1_i32_1573
  let v1315 : BitVec 32 := Scalar.addi c0_i32_1574 v1314
  v1315.toNat
def k0_dev65 (d0 : Dev nD) : Nat :=
  let c0_i32_1599 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_1542 : BitVec 32 := 4#32
  let v1284 : BitVec 32 := Scalar.xori v2 c4_i32_1542
  let c1_i32_1598 : BitVec 32 := 1#32
  let v1339 : BitVec 32 := Scalar.muli v1284 c1_i32_1598
  let v1340 : BitVec 32 := Scalar.addi c0_i32_1599 v1339
  v1340.toNat
def k0_dev66 (d0 : Dev nD) : Nat :=
  let c0_i32_1650 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1649 : BitVec 32 := 1#32
  let v1375 : BitVec 32 := Scalar.muli v19 c1_i32_1649
  let v1376 : BitVec 32 := Scalar.addi c0_i32_1650 v1375
  v1376.toNat
def k0_dev67 (d0 : Dev nD) : Nat :=
  let c0_i32_1685 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1684 : BitVec 32 := 1#32
  let v1397 : BitVec 32 := Scalar.muli v34 c1_i32_1684
  let v1398 : BitVec 32 := Scalar.addi c0_i32_1685 v1397
  v1398.toNat
def k0_dev68 (d0 : Dev nD) : Nat :=
  let c0_i32_1720 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1719 : BitVec 32 := 1#32
  let v1419 : BitVec 32 := Scalar.muli v19 c1_i32_1719
  let v1420 : BitVec 32 := Scalar.addi c0_i32_1720 v1419
  v1420.toNat
def k0_dev69 (d0 : Dev nD) : Nat :=
  let c0_i32_1755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1754 : BitVec 32 := 1#32
  let v1441 : BitVec 32 := Scalar.muli v34 c1_i32_1754
  let v1442 : BitVec 32 := Scalar.addi c0_i32_1755 v1441
  v1442.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_1765 : BitVec 32 := 4294967295#32
  let v1463 : BitVec 32 := Scalar.subi v5 c_m1_i32_1765
  let c8_i32_1766 : BitVec 32 := 8#32
  let c0_i32_1767 : BitVec 32 := 0#32
  let v1464 : BitVec 1 := Scalar.cmpi .eq c8_i32_1766 c0_i32_1767
  let c1_i32_1768 : BitVec 32 := 1#32
  let v1465 : BitVec 32 := Scalar.select v1464 c1_i32_1768 c8_i32_1766
  let v1466 : BitVec 32 := Scalar.remsi v1463 v1465
  let c0_i32_1770 : BitVec 32 := 0#32
  let v1468 : BitVec 1 := Scalar.cmpi .slt v1466 c0_i32_1770
  let c0_i32_1771 : BitVec 32 := 0#32
  let v1469 : BitVec 1 := Scalar.cmpi .slt v1465 c0_i32_1771
  let v1470 : BitVec 1 := Scalar.xori v1468 v1469
  let c0_i32_1769 : BitVec 32 := 0#32
  let v1467 : BitVec 1 := Scalar.cmpi .ne v1466 c0_i32_1769
  let v1471 : BitVec 1 := Scalar.andi v1470 v1467
  let v1472 : BitVec 32 := Scalar.addi v1466 v1465
  let v1473 : BitVec 32 := Scalar.select v1471 v1472 v1466
  let c512_i32_1772 : BitVec 32 := 512#32
  let v1474 : BitVec 32 := Scalar.muli v1473 c512_i32_1772
  let c0_i32_1774 : BitVec 32 := 0#32
  ![v1474.toNat, 0]
def k0_off4 (d0 : Dev nD) (c0_i32_1784 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v1492 : BitVec 32 := Scalar.addi v5 c0_i32_1784
  let c8_i32_1785 : BitVec 32 := 8#32
  let c0_i32_1786 : BitVec 32 := 0#32
  let v1493 : BitVec 1 := Scalar.cmpi .eq c8_i32_1785 c0_i32_1786
  let c1_i32_1787 : BitVec 32 := 1#32
  let v1494 : BitVec 32 := Scalar.select v1493 c1_i32_1787 c8_i32_1785
  let v1495 : BitVec 32 := Scalar.remsi v1492 v1494
  let c0_i32_1789 : BitVec 32 := 0#32
  let v1497 : BitVec 1 := Scalar.cmpi .slt v1495 c0_i32_1789
  let c0_i32_1790 : BitVec 32 := 0#32
  let v1498 : BitVec 1 := Scalar.cmpi .slt v1494 c0_i32_1790
  let v1499 : BitVec 1 := Scalar.xori v1497 v1498
  let c0_i32_1788 : BitVec 32 := 0#32
  let v1496 : BitVec 1 := Scalar.cmpi .ne v1495 c0_i32_1788
  let v1500 : BitVec 1 := Scalar.andi v1499 v1496
  let v1501 : BitVec 32 := Scalar.addi v1495 v1494
  let v1502 : BitVec 32 := Scalar.select v1500 v1501 v1495
  let c512_i32_1791 : BitVec 32 := 512#32
  let v1503 : BitVec 32 := Scalar.muli v1502 c512_i32_1791
  let c0_i32_1795 : BitVec 32 := 0#32
  ![v1503.toNat, 0]
def k0_off4_at (r : Fin 7) : BitVec 32 :=
  if r.val < 3 then
    if r.val < 1 then
      0#32
    else
      if r.val < 2 then
        4294967295#32
      else
        4294967294#32
  else
    if r.val < 5 then
      if r.val < 4 then
        4294967293#32
      else
        4294967292#32
    else
      if r.val < 6 then
        4294967291#32
      else
        4294967290#32
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c_m1_i32_1803 : BitVec 32 := 4294967295#32
  let v1521 : BitVec 32 := Scalar.subi v5 c_m1_i32_1803
  let c8_i32_1804 : BitVec 32 := 8#32
  let c0_i32_1805 : BitVec 32 := 0#32
  let v1522 : BitVec 1 := Scalar.cmpi .eq c8_i32_1804 c0_i32_1805
  let c1_i32_1806 : BitVec 32 := 1#32
  let v1523 : BitVec 32 := Scalar.select v1522 c1_i32_1806 c8_i32_1804
  let v1524 : BitVec 32 := Scalar.remsi v1521 v1523
  let c0_i32_1808 : BitVec 32 := 0#32
  let v1526 : BitVec 1 := Scalar.cmpi .slt v1524 c0_i32_1808
  let c0_i32_1809 : BitVec 32 := 0#32
  let v1527 : BitVec 1 := Scalar.cmpi .slt v1523 c0_i32_1809
  let v1528 : BitVec 1 := Scalar.xori v1526 v1527
  let c0_i32_1807 : BitVec 32 := 0#32
  let v1525 : BitVec 1 := Scalar.cmpi .ne v1524 c0_i32_1807
  let v1529 : BitVec 1 := Scalar.andi v1528 v1525
  let v1530 : BitVec 32 := Scalar.addi v1524 v1523
  let v1531 : BitVec 32 := Scalar.select v1529 v1530 v1524
  let c512_i32_1810 : BitVec 32 := 512#32
  let v1532 : BitVec 32 := Scalar.muli v1531 c512_i32_1810
  let c512_i32_1812 : BitVec 32 := 512#32
  ![v1532.toNat, 512]
def k0_off6 (d0 : Dev nD) (c0_i32_1822 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v1550 : BitVec 32 := Scalar.addi v5 c0_i32_1822
  let c8_i32_1823 : BitVec 32 := 8#32
  let c0_i32_1824 : BitVec 32 := 0#32
  let v1551 : BitVec 1 := Scalar.cmpi .eq c8_i32_1823 c0_i32_1824
  let c1_i32_1825 : BitVec 32 := 1#32
  let v1552 : BitVec 32 := Scalar.select v1551 c1_i32_1825 c8_i32_1823
  let v1553 : BitVec 32 := Scalar.remsi v1550 v1552
  let c0_i32_1827 : BitVec 32 := 0#32
  let v1555 : BitVec 1 := Scalar.cmpi .slt v1553 c0_i32_1827
  let c0_i32_1828 : BitVec 32 := 0#32
  let v1556 : BitVec 1 := Scalar.cmpi .slt v1552 c0_i32_1828
  let v1557 : BitVec 1 := Scalar.xori v1555 v1556
  let c0_i32_1826 : BitVec 32 := 0#32
  let v1554 : BitVec 1 := Scalar.cmpi .ne v1553 c0_i32_1826
  let v1558 : BitVec 1 := Scalar.andi v1557 v1554
  let v1559 : BitVec 32 := Scalar.addi v1553 v1552
  let v1560 : BitVec 32 := Scalar.select v1558 v1559 v1553
  let c512_i32_1829 : BitVec 32 := 512#32
  let v1561 : BitVec 32 := Scalar.muli v1560 c512_i32_1829
  let c512_i32_1833 : BitVec 32 := 512#32
  ![v1561.toNat, 512]
def k0_off6_at (r : Fin 7) : BitVec 32 :=
  if r.val < 3 then
    if r.val < 1 then
      0#32
    else
      if r.val < 2 then
        4294967295#32
      else
        4294967294#32
  else
    if r.val < 5 then
      if r.val < 4 then
        4294967293#32
      else
        4294967292#32
    else
      if r.val < 6 then
        4294967291#32
      else
        4294967290#32
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_1841 : BitVec 32 := 1#32
  let v1579 : BitVec 32 := Scalar.subi v5 c1_i32_1841
  let c8_i32_1842 : BitVec 32 := 8#32
  let c0_i32_1843 : BitVec 32 := 0#32
  let v1580 : BitVec 1 := Scalar.cmpi .eq c8_i32_1842 c0_i32_1843
  let c1_i32_1844 : BitVec 32 := 1#32
  let v1581 : BitVec 32 := Scalar.select v1580 c1_i32_1844 c8_i32_1842
  let v1582 : BitVec 32 := Scalar.remsi v1579 v1581
  let c0_i32_1846 : BitVec 32 := 0#32
  let v1584 : BitVec 1 := Scalar.cmpi .slt v1582 c0_i32_1846
  let c0_i32_1847 : BitVec 32 := 0#32
  let v1585 : BitVec 1 := Scalar.cmpi .slt v1581 c0_i32_1847
  let v1586 : BitVec 1 := Scalar.xori v1584 v1585
  let c0_i32_1845 : BitVec 32 := 0#32
  let v1583 : BitVec 1 := Scalar.cmpi .ne v1582 c0_i32_1845
  let v1587 : BitVec 1 := Scalar.andi v1586 v1583
  let v1588 : BitVec 32 := Scalar.addi v1582 v1581
  let v1589 : BitVec 32 := Scalar.select v1587 v1588 v1582
  let c512_i32_1848 : BitVec 32 := 512#32
  let v1590 : BitVec 32 := Scalar.muli v1589 c512_i32_1848
  let c1024_i32 : BitVec 32 := 1024#32
  ![v1590.toNat, 1024]
def k0_off8 (d0 : Dev nD) (c0_i32_1859 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v1608 : BitVec 32 := Scalar.addi v5 c0_i32_1859
  let c8_i32_1860 : BitVec 32 := 8#32
  let c0_i32_1861 : BitVec 32 := 0#32
  let v1609 : BitVec 1 := Scalar.cmpi .eq c8_i32_1860 c0_i32_1861
  let c1_i32_1862 : BitVec 32 := 1#32
  let v1610 : BitVec 32 := Scalar.select v1609 c1_i32_1862 c8_i32_1860
  let v1611 : BitVec 32 := Scalar.remsi v1608 v1610
  let c0_i32_1864 : BitVec 32 := 0#32
  let v1613 : BitVec 1 := Scalar.cmpi .slt v1611 c0_i32_1864
  let c0_i32_1865 : BitVec 32 := 0#32
  let v1614 : BitVec 1 := Scalar.cmpi .slt v1610 c0_i32_1865
  let v1615 : BitVec 1 := Scalar.xori v1613 v1614
  let c0_i32_1863 : BitVec 32 := 0#32
  let v1612 : BitVec 1 := Scalar.cmpi .ne v1611 c0_i32_1863
  let v1616 : BitVec 1 := Scalar.andi v1615 v1612
  let v1617 : BitVec 32 := Scalar.addi v1611 v1610
  let v1618 : BitVec 32 := Scalar.select v1616 v1617 v1611
  let c512_i32_1866 : BitVec 32 := 512#32
  let v1619 : BitVec 32 := Scalar.muli v1618 c512_i32_1866
  let c1024_i32_1870 : BitVec 32 := 1024#32
  ![v1619.toNat, 1024]
def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_1878 : BitVec 32 := 1#32
  let v1637 : BitVec 32 := Scalar.subi v5 c1_i32_1878
  let c8_i32_1879 : BitVec 32 := 8#32
  let c0_i32_1880 : BitVec 32 := 0#32
  let v1638 : BitVec 1 := Scalar.cmpi .eq c8_i32_1879 c0_i32_1880
  let c1_i32_1881 : BitVec 32 := 1#32
  let v1639 : BitVec 32 := Scalar.select v1638 c1_i32_1881 c8_i32_1879
  let v1640 : BitVec 32 := Scalar.remsi v1637 v1639
  let c0_i32_1883 : BitVec 32 := 0#32
  let v1642 : BitVec 1 := Scalar.cmpi .slt v1640 c0_i32_1883
  let c0_i32_1884 : BitVec 32 := 0#32
  let v1643 : BitVec 1 := Scalar.cmpi .slt v1639 c0_i32_1884
  let v1644 : BitVec 1 := Scalar.xori v1642 v1643
  let c0_i32_1882 : BitVec 32 := 0#32
  let v1641 : BitVec 1 := Scalar.cmpi .ne v1640 c0_i32_1882
  let v1645 : BitVec 1 := Scalar.andi v1644 v1641
  let v1646 : BitVec 32 := Scalar.addi v1640 v1639
  let v1647 : BitVec 32 := Scalar.select v1645 v1646 v1640
  let c512_i32_1885 : BitVec 32 := 512#32
  let v1648 : BitVec 32 := Scalar.muli v1647 c512_i32_1885
  let c1536_i32 : BitVec 32 := 1536#32
  ![v1648.toNat, 1536]
def k0_off10 (d0 : Dev nD) (c0_i32_1896 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v1666 : BitVec 32 := Scalar.addi v5 c0_i32_1896
  let c8_i32_1897 : BitVec 32 := 8#32
  let c0_i32_1898 : BitVec 32 := 0#32
  let v1667 : BitVec 1 := Scalar.cmpi .eq c8_i32_1897 c0_i32_1898
  let c1_i32_1899 : BitVec 32 := 1#32
  let v1668 : BitVec 32 := Scalar.select v1667 c1_i32_1899 c8_i32_1897
  let v1669 : BitVec 32 := Scalar.remsi v1666 v1668
  let c0_i32_1901 : BitVec 32 := 0#32
  let v1671 : BitVec 1 := Scalar.cmpi .slt v1669 c0_i32_1901
  let c0_i32_1902 : BitVec 32 := 0#32
  let v1672 : BitVec 1 := Scalar.cmpi .slt v1668 c0_i32_1902
  let v1673 : BitVec 1 := Scalar.xori v1671 v1672
  let c0_i32_1900 : BitVec 32 := 0#32
  let v1670 : BitVec 1 := Scalar.cmpi .ne v1669 c0_i32_1900
  let v1674 : BitVec 1 := Scalar.andi v1673 v1670
  let v1675 : BitVec 32 := Scalar.addi v1669 v1668
  let v1676 : BitVec 32 := Scalar.select v1674 v1675 v1669
  let c512_i32_1903 : BitVec 32 := 512#32
  let v1677 : BitVec 32 := Scalar.muli v1676 c512_i32_1903
  let c1536_i32_1907 : BitVec 32 := 1536#32
  ![v1677.toNat, 1536]
def k0_dev70 (d0 : Dev nD) : Nat :=
  let c0_i32_1929 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1928 : BitVec 32 := 1#32
  let v1694 : BitVec 32 := Scalar.muli v34 c1_i32_1928
  let v1695 : BitVec 32 := Scalar.addi c0_i32_1929 v1694
  v1695.toNat
def k0_dev71 (d0 : Dev nD) : Nat :=
  let c0_i32_1951 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1950 : BitVec 32 := 1#32
  let v1704 : BitVec 32 := Scalar.muli v19 c1_i32_1950
  let v1705 : BitVec 32 := Scalar.addi c0_i32_1951 v1704
  v1705.toNat
def k0_dev72 (d0 : Dev nD) : Nat :=
  let c0_i32_1975 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_1974 : BitVec 32 := 1#32
  let v1725 : BitVec 32 := Scalar.muli v19 c1_i32_1974
  let v1726 : BitVec 32 := Scalar.addi c0_i32_1975 v1725
  v1726.toNat
def k0_dev73 (d0 : Dev nD) : Nat :=
  let c0_i32_1997 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_1996 : BitVec 32 := 1#32
  let v1735 : BitVec 32 := Scalar.muli v34 c1_i32_1996
  let v1736 : BitVec 32 := Scalar.addi c0_i32_1997 v1735
  v1736.toNat
def k0_dev74 (d0 : Dev nD) : Nat :=
  let c0_i32_2021 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2020 : BitVec 32 := 1#32
  let v1756 : BitVec 32 := Scalar.muli v34 c1_i32_2020
  let v1757 : BitVec 32 := Scalar.addi c0_i32_2021 v1756
  v1757.toNat
def k0_dev75 (d0 : Dev nD) : Nat :=
  let c0_i32_2043 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2042 : BitVec 32 := 1#32
  let v1766 : BitVec 32 := Scalar.muli v19 c1_i32_2042
  let v1767 : BitVec 32 := Scalar.addi c0_i32_2043 v1766
  v1767.toNat
def k0_dev76 (d0 : Dev nD) : Nat :=
  let c0_i32_2067 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2066 : BitVec 32 := 1#32
  let v1787 : BitVec 32 := Scalar.muli v19 c1_i32_2066
  let v1788 : BitVec 32 := Scalar.addi c0_i32_2067 v1787
  v1788.toNat
def k0_dev77 (d0 : Dev nD) : Nat :=
  let c0_i32_2089 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2088 : BitVec 32 := 1#32
  let v1797 : BitVec 32 := Scalar.muli v34 c1_i32_2088
  let v1798 : BitVec 32 := Scalar.addi c0_i32_2089 v1797
  v1798.toNat
def k0_dev78 (d0 : Dev nD) : Nat :=
  let c0_i32_2197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2196 : BitVec 32 := 1#32
  let v1938 : BitVec 32 := Scalar.muli v34 c1_i32_2196
  let v1939 : BitVec 32 := Scalar.addi c0_i32_2197 v1938
  v1939.toNat
def k0_dev79 (d0 : Dev nD) : Nat :=
  let c0_i32_2219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2218 : BitVec 32 := 1#32
  let v1948 : BitVec 32 := Scalar.muli v19 c1_i32_2218
  let v1949 : BitVec 32 := Scalar.addi c0_i32_2219 v1948
  v1949.toNat
def k0_dev80 (d0 : Dev nD) : Nat :=
  let c0_i32_2243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2242 : BitVec 32 := 1#32
  let v1969 : BitVec 32 := Scalar.muli v19 c1_i32_2242
  let v1970 : BitVec 32 := Scalar.addi c0_i32_2243 v1969
  v1970.toNat
def k0_dev81 (d0 : Dev nD) : Nat :=
  let c0_i32_2265 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2264 : BitVec 32 := 1#32
  let v1979 : BitVec 32 := Scalar.muli v34 c1_i32_2264
  let v1980 : BitVec 32 := Scalar.addi c0_i32_2265 v1979
  v1980.toNat
def k0_dev82 (d0 : Dev nD) : Nat :=
  let c0_i32_2289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2288 : BitVec 32 := 1#32
  let v2000 : BitVec 32 := Scalar.muli v34 c1_i32_2288
  let v2001 : BitVec 32 := Scalar.addi c0_i32_2289 v2000
  v2001.toNat
def k0_dev83 (d0 : Dev nD) : Nat :=
  let c0_i32_2311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2310 : BitVec 32 := 1#32
  let v2010 : BitVec 32 := Scalar.muli v19 c1_i32_2310
  let v2011 : BitVec 32 := Scalar.addi c0_i32_2311 v2010
  v2011.toNat
def k0_dev84 (d0 : Dev nD) : Nat :=
  let c0_i32_2335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2334 : BitVec 32 := 1#32
  let v2031 : BitVec 32 := Scalar.muli v19 c1_i32_2334
  let v2032 : BitVec 32 := Scalar.addi c0_i32_2335 v2031
  v2032.toNat
def k0_dev85 (d0 : Dev nD) : Nat :=
  let c0_i32_2357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2356 : BitVec 32 := 1#32
  let v2041 : BitVec 32 := Scalar.muli v34 c1_i32_2356
  let v2042 : BitVec 32 := Scalar.addi c0_i32_2357 v2041
  v2042.toNat
def k0_dev86 (d0 : Dev nD) : Nat :=
  let c0_i32_2465 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2464 : BitVec 32 := 1#32
  let v2182 : BitVec 32 := Scalar.muli v34 c1_i32_2464
  let v2183 : BitVec 32 := Scalar.addi c0_i32_2465 v2182
  v2183.toNat
def k0_dev87 (d0 : Dev nD) : Nat :=
  let c0_i32_2487 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2486 : BitVec 32 := 1#32
  let v2192 : BitVec 32 := Scalar.muli v19 c1_i32_2486
  let v2193 : BitVec 32 := Scalar.addi c0_i32_2487 v2192
  v2193.toNat
def k0_dev88 (d0 : Dev nD) : Nat :=
  let c0_i32_2511 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2510 : BitVec 32 := 1#32
  let v2213 : BitVec 32 := Scalar.muli v19 c1_i32_2510
  let v2214 : BitVec 32 := Scalar.addi c0_i32_2511 v2213
  v2214.toNat
def k0_dev89 (d0 : Dev nD) : Nat :=
  let c0_i32_2533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2532 : BitVec 32 := 1#32
  let v2223 : BitVec 32 := Scalar.muli v34 c1_i32_2532
  let v2224 : BitVec 32 := Scalar.addi c0_i32_2533 v2223
  v2224.toNat
def k0_dev90 (d0 : Dev nD) : Nat :=
  let c0_i32_2557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2556 : BitVec 32 := 1#32
  let v2244 : BitVec 32 := Scalar.muli v34 c1_i32_2556
  let v2245 : BitVec 32 := Scalar.addi c0_i32_2557 v2244
  v2245.toNat
def k0_dev91 (d0 : Dev nD) : Nat :=
  let c0_i32_2579 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2578 : BitVec 32 := 1#32
  let v2254 : BitVec 32 := Scalar.muli v19 c1_i32_2578
  let v2255 : BitVec 32 := Scalar.addi c0_i32_2579 v2254
  v2255.toNat
def k0_dev92 (d0 : Dev nD) : Nat :=
  let c0_i32_2603 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2602 : BitVec 32 := 1#32
  let v2275 : BitVec 32 := Scalar.muli v19 c1_i32_2602
  let v2276 : BitVec 32 := Scalar.addi c0_i32_2603 v2275
  v2276.toNat
def k0_dev93 (d0 : Dev nD) : Nat :=
  let c0_i32_2625 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2624 : BitVec 32 := 1#32
  let v2285 : BitVec 32 := Scalar.muli v34 c1_i32_2624
  let v2286 : BitVec 32 := Scalar.addi c0_i32_2625 v2285
  v2286.toNat
def k0_dev94 (d0 : Dev nD) : Nat :=
  let c0_i32_2733 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2732 : BitVec 32 := 1#32
  let v2426 : BitVec 32 := Scalar.muli v34 c1_i32_2732
  let v2427 : BitVec 32 := Scalar.addi c0_i32_2733 v2426
  v2427.toNat
def k0_dev95 (d0 : Dev nD) : Nat :=
  let c0_i32_2755 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2754 : BitVec 32 := 1#32
  let v2436 : BitVec 32 := Scalar.muli v19 c1_i32_2754
  let v2437 : BitVec 32 := Scalar.addi c0_i32_2755 v2436
  v2437.toNat
def k0_dev96 (d0 : Dev nD) : Nat :=
  let c0_i32_2779 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2778 : BitVec 32 := 1#32
  let v2457 : BitVec 32 := Scalar.muli v19 c1_i32_2778
  let v2458 : BitVec 32 := Scalar.addi c0_i32_2779 v2457
  v2458.toNat
def k0_dev97 (d0 : Dev nD) : Nat :=
  let c0_i32_2801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2800 : BitVec 32 := 1#32
  let v2467 : BitVec 32 := Scalar.muli v34 c1_i32_2800
  let v2468 : BitVec 32 := Scalar.addi c0_i32_2801 v2467
  v2468.toNat
def k0_dev98 (d0 : Dev nD) : Nat :=
  let c0_i32_2825 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2824 : BitVec 32 := 1#32
  let v2488 : BitVec 32 := Scalar.muli v34 c1_i32_2824
  let v2489 : BitVec 32 := Scalar.addi c0_i32_2825 v2488
  v2489.toNat
def k0_dev99 (d0 : Dev nD) : Nat :=
  let c0_i32_2847 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2846 : BitVec 32 := 1#32
  let v2498 : BitVec 32 := Scalar.muli v19 c1_i32_2846
  let v2499 : BitVec 32 := Scalar.addi c0_i32_2847 v2498
  v2499.toNat
def k0_dev100 (d0 : Dev nD) : Nat :=
  let c0_i32_2871 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_2870 : BitVec 32 := 1#32
  let v2519 : BitVec 32 := Scalar.muli v19 c1_i32_2870
  let v2520 : BitVec 32 := Scalar.addi c0_i32_2871 v2519
  v2520.toNat
def k0_dev101 (d0 : Dev nD) : Nat :=
  let c0_i32_2893 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_2892 : BitVec 32 := 1#32
  let v2529 : BitVec 32 := Scalar.muli v34 c1_i32_2892
  let v2530 : BitVec 32 := Scalar.addi c0_i32_2893 v2529
  v2530.toNat
def k0_dev102 (d0 : Dev nD) : Nat :=
  let c0_i32_3001 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_3000 : BitVec 32 := 1#32
  let v2670 : BitVec 32 := Scalar.muli v34 c1_i32_3000
  let v2671 : BitVec 32 := Scalar.addi c0_i32_3001 v2670
  v2671.toNat
def k0_dev103 (d0 : Dev nD) : Nat :=
  let c0_i32_3023 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3022 : BitVec 32 := 1#32
  let v2680 : BitVec 32 := Scalar.muli v19 c1_i32_3022
  let v2681 : BitVec 32 := Scalar.addi c0_i32_3023 v2680
  v2681.toNat
def k0_dev104 (d0 : Dev nD) : Nat :=
  let c0_i32_3047 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3046 : BitVec 32 := 1#32
  let v2701 : BitVec 32 := Scalar.muli v19 c1_i32_3046
  let v2702 : BitVec 32 := Scalar.addi c0_i32_3047 v2701
  v2702.toNat
def k0_dev105 (d0 : Dev nD) : Nat :=
  let c0_i32_3069 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_3068 : BitVec 32 := 1#32
  let v2711 : BitVec 32 := Scalar.muli v34 c1_i32_3068
  let v2712 : BitVec 32 := Scalar.addi c0_i32_3069 v2711
  v2712.toNat
def k0_dev106 (d0 : Dev nD) : Nat :=
  let c0_i32_3093 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_3092 : BitVec 32 := 1#32
  let v2732 : BitVec 32 := Scalar.muli v34 c1_i32_3092
  let v2733 : BitVec 32 := Scalar.addi c0_i32_3093 v2732
  v2733.toNat
def k0_dev107 (d0 : Dev nD) : Nat :=
  let c0_i32_3115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3114 : BitVec 32 := 1#32
  let v2742 : BitVec 32 := Scalar.muli v19 c1_i32_3114
  let v2743 : BitVec 32 := Scalar.addi c0_i32_3115 v2742
  v2743.toNat
def k0_dev108 (d0 : Dev nD) : Nat :=
  let c0_i32_3139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_3138 : BitVec 32 := 1#32
  let v2763 : BitVec 32 := Scalar.muli v19 c1_i32_3138
  let v2764 : BitVec 32 := Scalar.addi c0_i32_3139 v2763
  v2764.toNat
def k0_dev109 (d0 : Dev nD) : Nat :=
  let c0_i32_3161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_8 : BitVec 32 := 8#32
  let v20 : BitVec 32 := Scalar.addi v5 c8_i32_8
  let c1_i32_9 : BitVec 32 := 1#32
  let v21 : BitVec 32 := Scalar.subi v20 c1_i32_9
  let c8_i32_10 : BitVec 32 := 8#32
  let c0_i32_11 : BitVec 32 := 0#32
  let v22 : BitVec 1 := Scalar.cmpi .eq c8_i32_10 c0_i32_11
  let c1_i32_12 : BitVec 32 := 1#32
  let v23 : BitVec 32 := Scalar.select v22 c1_i32_12 c8_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c4_i32_16 : BitVec 32 := 4#32
  let v32 : BitVec 1 := Scalar.cmpi .slt v31 c4_i32_16
  let c11_i32_17 : BitVec 32 := 11#32
  let v33 : BitVec 32 := Scalar.subi c11_i32_17 v31
  let v34 : BitVec 32 := Scalar.select v32 v31 v33
  let c1_i32_3160 : BitVec 32 := 1#32
  let v2773 : BitVec 32 := Scalar.muli v34 c1_i32_3160
  let v2774 : BitVec 32 := Scalar.addi c0_i32_3161 v2773
  v2774.toNat
abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 4
  | .vmem => 2
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .local _ .vmem, ⟨0, _⟩ => ⟨S4096x2048, .f32⟩
  | .local _ .vmem, ⟨1, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Prog.lean ====
module

public import proofs.«01_k».proof.Proof.Gen.KernelIdeal.Skeleton
public import proofs.«01_k».proof.Proof.Gen.KernelIdeal.Frame

/-! # The kernel's body as a loop

The printed body lists some six hundred memory operations one after the other. This module writes
the same program as the loop it was unrolled from: two rings `g` (`0` sends to the right neighbour,
`1` to the left), two halves `k` of a ring's columns, steps `s`. -/

@[expose] public section

noncomputable section

namespace Cert.KernelIdeal.Hand

open Idealize.ShloMosaic Idealize.SL.Sem Cert.KernelIdeal Cert.KernelIdeal.Gen

variable {F : FTy → Type} [FloatOps F]

/-! ## The operands -/

/-- Ring `g`'s accumulator. -/
def accM : Fin 2 → Memref sig .tc .vmem S512x1024 .f32
  | 0 => Memref.whole cc0_scratch0
  | 1 => Memref.whole cc0_scratch1

/-- Ring `g`'s two staging slabs. -/
def stM : Fin 2 → Memref sig .tc .vmem S2x512x1024 .f32
  | 0 => Memref.whole cc0_scratch2
  | 1 => Memref.whole cc0_scratch3

/-- Ring `g`'s two landing slabs. -/
def rvM : Fin 2 → Memref sig .tc .vmem S2x512x1024 .f32
  | 0 => Memref.whole cc0_scratch4
  | 1 => Memref.whole cc0_scratch5

/-- The block the maximum is sent from. -/
def sxsM : Memref sig .tc .vmem S8x128 .f32 := Memref.whole cc0_scratch6

/-- The three blocks the partners' maxima land in. -/
def sxrM : Memref sig .tc .vmem S3x8x128 .f32 := Memref.whole cc0_scratch7

/-- The result array. -/
def yM : Memref sig .tc .hbm S4096x2048 .f32 := Memref.whole main_v1

/-- The device's block of the first argument, staged. -/
def xM : Memref sig .tc .vmem S4096x512 .f32 := Memref.whole cc0_stg0_0

/-- The device's block of the second argument, staged. -/
def wM : Memref sig .tc .vmem S512x2048 .f32 := Memref.whole cc0_stg1_0

/-- Ring `g`'s send semaphores. -/
def ssS : Fin 2 → DmaSems sig S2x2 | 0 => cc0_scratch8 | 1 => cc0_scratch12
/-- Ring `g`'s receive semaphores. -/
def rsS : Fin 2 → DmaSems sig S2x2 | 0 => cc0_scratch9 | 1 => cc0_scratch13
/-- Ring `g`'s result-copy semaphores. -/
def stS : Fin 2 → DmaSems sig S2x2 | 0 => cc0_scratch10 | 1 => cc0_scratch14
/-- Ring `g`'s own-chunk result-copy semaphores. -/
def osS : Fin 2 → DmaSems sig S2 | 0 => cc0_scratch11 | 1 => cc0_scratch15
/-- Ring `g`'s credit semaphore. -/
def crS : Fin 2 → Sems sig S_ | 0 => cc0_scratch18 | 1 => cc0_scratch19

/-- The entry handshake's semaphore. -/
def barS : Sems sig S_ := SemArray.scalar (sig.barrier 0 rfl)

theorem inb_acc (k : Fin 2) : ∀ a, (![0, 512 * k.val] : Fin 2 → ℕ) a + S512x512.size a ≤ S512x1024.size a := by
  revert k; decide
theorem inb_slot (b k : Fin 2) :
    ∀ a, (![b.val, 0, 512 * k.val] : Fin 3 → ℕ) a + S1x512x512.size a ≤ S2x512x1024.size a := by
  revert b k; decide
theorem inb_slab (b : Fin 2) :
    ∀ a, (![b.val, 0, 0] : Fin 3 → ℕ) a + S1x512x1024.size a ≤ S2x512x1024.size a := by
  revert b; decide
theorem inb_w (g : Fin 2) : ∀ a, (![0, 1024 * g.val] : Fin 2 → ℕ) a + S512x1024.size a ≤ S512x2048.size a := by
  revert g; decide
theorem inb_sem (b k : Fin 2) : ∀ a, (![b.val, k.val] : Fin 2 → ℕ) a + S1x1.size a ≤ S2x2.size a := by
  revert b k; decide
theorem inb_sem2 (k : Fin 2) : ∀ a, (![k.val] : Fin 1 → ℕ) a + S1.size a ≤ S2.size a := by
  revert k; decide
theorem inb_sem3 (p : Fin 3) : ∀ a, (![p.val] : Fin 1 → ℕ) a + S1.size a ≤ S3.size a := by
  revert p; decide
theorem inb_sx (p : Fin 3) : ∀ a, (![p.val, 0, 0] : Fin 3 → ℕ) a + S1x8x128.size a ≤ S3x8x128.size a := by
  revert p; decide
theorem inb_sx1 (p : Fin 3) : ∀ a, (![p.val, 0, 0] : Fin 3 → ℕ) a + S1x1x1.size a ≤ S3x8x128.size a := by
  revert p; decide

/-- The rectangle of an accumulator's half `k`. -/
abbrev accR (k : Fin 2) : Rect S512x1024 := Rect.unit (s := S512x1024) ![0, 512 * k.val] S512x512.size (inb_acc k)
/-- The rectangle of half `k` of slab `b`. -/
abbrev slotR (b k : Fin 2) : Rect S2x512x1024 :=
  Rect.unit (s := S2x512x1024) ![b.val, 0, 512 * k.val] S1x512x512.size (inb_slot b k)
/-- The rectangle of slab `b`. -/
abbrev slabR (b : Fin 2) : Rect S2x512x1024 :=
  Rect.unit (s := S2x512x1024) ![b.val, 0, 0] S1x512x1024.size (inb_slab b)

/-- Half `k` of ring `g`'s accumulator. -/
def accH (g k : Fin 2) : Memref sig .tc .vmem S512x512 .f32 := (accM g).slice (accR k) (fun _ => rfl)
/-- Half `k` of ring `g`'s staging slab `b`. -/
def stH (g b k : Fin 2) : Memref sig .tc .vmem S512x512 .f32 :=
  ((stM g).slice (slotR b k) (fun _ => rfl)).squeeze S512x512 squeezes_S1x512x512_S512x512
/-- Half `k` of ring `g`'s landing slab `b`. -/
def rvH (g b k : Fin 2) : Memref sig .tc .vmem S512x512 .f32 :=
  ((rvM g).slice (slotR b k) (fun _ => rfl)).squeeze S512x512 squeezes_S1x512x512_S512x512
/-- The block the `p`-th partner's maximum lands in. -/
def sxrH (p : Fin 3) : Memref sig .tc .vmem S8x128 .f32 :=
  (sxrM.slice (Rect.unit (s := S3x8x128) ![p.val, 0, 0] S1x8x128.size (inb_sx p)) (fun _ => rfl)).squeeze S8x128
    squeezes_S1x8x128_S8x128
/-- The block of the result at offset `o`. -/
def yH (o : {o : Fin 2 → ℕ // ∀ a, o a + S512x512.size a ≤ S4096x2048.size a}) :
    Memref sig .tc .hbm S512x512 .f32 :=
  yM.slice (Rect.unit (s := S4096x2048) o.1 S512x512.size o.2) (fun _ => rfl)

/-- Entry `b, k` of a two-by-two semaphore array. -/
def sem22 (a : DmaSems sig S2x2) (b k : Fin 2) : DmaSem sig :=
  ((a.slice (Rect.unit (s := S2x2) ![b.val, k.val] S1x1.size (inb_sem b k))).squeeze S_ squeezes_S1x1_S_).sem
/-- Entry `k` of a two-entry semaphore array. -/
def sem2 (a : DmaSems sig S2) (k : Fin 2) : DmaSem sig :=
  ((a.slice (Rect.unit (s := S2) ![k.val] S1.size (inb_sem2 k))).squeeze S_ squeezes_S1_S_).sem
/-- Entry `p` of a three-entry semaphore array. -/
def sem3 (a : DmaSems sig S3) (p : Fin 3) : DmaSem sig :=
  ((a.slice (Rect.unit (s := S3) ![p.val] S1.size (inb_sem3 p))).squeeze S_ squeezes_S1_S_).sem

/-! ## The device words -/

/-- What the program reads off the device's number: its neighbours, its partners in the exchange of
    the maximum, and the places of the blocks it reads and writes. -/
structure Places where
  /-- The left neighbour. -/
  lft : Dev nD
  /-- The right neighbour. -/
  rgt : Dev nD
  /-- The partner of exchange `p`. -/
  par : Fin 3 → Dev nD
  /-- The device's own row block of the first argument. -/
  own : {o : Fin 2 → ℕ // ∀ a, o a + S512x512.size a ≤ S4096x512.size a}
  /-- The row block ring `g` adds at step `s`. -/
  chunk : Fin 2 → ℕ → {o : Fin 2 → ℕ // ∀ a, o a + S512x512.size a ≤ S4096x512.size a}
  /-- Where the block a ring finished on this device goes. -/
  yown : Fin 2 → Fin 2 → {o : Fin 2 → ℕ // ∀ a, o a + S512x512.size a ≤ S4096x2048.size a}
  /-- Where the block a ring brings at step `7 + n` goes. -/
  yat : Fin 2 → Fin 2 → ℕ → {o : Fin 2 → ℕ // ∀ a, o a + S512x512.size a ≤ S4096x2048.size a}

namespace Places
/-- The device ring `g` sends to. -/
def dst (P : Places) : Fin 2 → Dev nD | 0 => P.rgt | 1 => P.lft
/-- The device ring `g` receives from. -/
def up (P : Places) : Fin 2 → Dev nD | 0 => P.lft | 1 => P.rgt
end Places

/-- The slab of step `s`. -/
def slot (s : ℕ) : Fin 2 := ⟨s % 2, Nat.mod_lt _ (by decide)⟩

/-! ## The program -/

/-- A program of the kernel's body. -/
abbrev KProg (F : FTy → Type) (α : Type) : Type 1 := Prog (TpuEff nD τ sig (Elt F) Λ₀ .tc) α

/-- Send `src` into half `k` of slab `s` of ring `g`'s next device. -/
def send (P : Places) (g : Fin 2) (s : ℕ) (k : Fin 2) (src : Memref sig .tc .vmem S512x512 .f32)
    (h : src.view.WordExact) : KProg F PUnit :=
  Prog.lift (.enqueueDma src (.remote (Dev.tc (P.dst g)) (rvH g (slot s) k) (.dma (sem22 (ssS g) (slot s) k)))
    (.dma (sem22 (rsS g) (slot s) k)) h ((View.wordExact_bits rfl).reshape _ _) ⟨⟨rfl, Or.inl rfl⟩, trivial⟩)

/-- Wait for the send of step `s`, whose source was `src`. -/
def waitSend (g : Fin 2) (s : ℕ) (k : Fin 2) (src : Memref sig .tc .vmem S512x512 .f32)
    (h : src.view.WordExact) : KProg F PUnit :=
  Prog.lift (.waitDma2 (sem22 (ssS g) (slot s) k) (rvH g (slot s) k) src ((View.wordExact_bits rfl).reshape _ _) h)

/-- Wait for what step `s` receives. -/
def waitRecv (g : Fin 2) (s : ℕ) (k : Fin 2) (src : Memref sig .tc .vmem S512x512 .f32)
    (h : src.view.WordExact) : KProg F PUnit :=
  Prog.lift (.waitDma2 (sem22 (rsS g) (slot s) k) src (rvH g (slot s) k) h ((View.wordExact_bits rfl).reshape _ _))

theorem accH_exact (g k : Fin 2) : (accH g k).view.WordExact := View.wordExact_bits rfl
theorem rvH_exact (g b k : Fin 2) : (rvH g b k).view.WordExact := (View.wordExact_bits rfl).reshape _ _

/-- The accumulator's first value: the product of the device's own row block. -/
def fillAcc (P : Places) (g : Fin 2) : KProg F PUnit := do
  let x : Vec F S512x512 .f32 ← Prog.lift (.load xM (Rect.unit (s := S4096x512) P.own.1 S512x512.size P.own.2).toLoadRect (View.loadsAt_vmem h_S512x512))
  let w : Vec F S512x1024 .f32 ← Prog.lift (.load wM (Rect.unit (s := S512x2048) ![0, 1024 * g.val] S512x1024.size (inb_w g)).toLoadRect (View.loadsAt_vmem h_S512x1024))
  let _o : Vec F S512x1024 .f32 ← Prog.lift (.load (accM g) (Rect.unit (s := S512x1024) ![0, 0] S512x1024.size inb_S512x1024_S512x1024_0_0).toLoadRect (View.loadsAt_vmem h_S512x1024))
  Prog.lift (.store (accM g) (Rect.unit (s := S512x1024) ![0, 0] S512x1024.size inb_S512x1024_S512x1024_0_0) (k0_pay1 x w) Finset.univ (View.stores_vmem_bits_univ h_S512x1024 rfl) (.inl rfl))

/-- Staging slab `s`: the product of the row block ring `g` adds at step `s`. -/
def fillSt (P : Places) (g : Fin 2) (s : ℕ) : KProg F PUnit := do
  let x : Vec F S512x512 .f32 ← Prog.lift (.load xM (Rect.unit (s := S4096x512) (P.chunk g s).1 S512x512.size (P.chunk g s).2).toLoadRect (View.loadsAt_vmem h_S512x512))
  let w : Vec F S512x1024 .f32 ← Prog.lift (.load wM (Rect.unit (s := S512x2048) ![0, 1024 * g.val] S512x1024.size (inb_w g)).toLoadRect (View.loadsAt_vmem h_S512x1024))
  let _o : Vec F S1x512x1024 .f32 ← Prog.lift (.load (stM g) (slabR (slot s)).toLoadRect (View.loadsAt_vmem h_S1x512x1024))
  Prog.lift (.store (stM g) (slabR (slot s)) (k0_pay3 x w) Finset.univ (View.stores_vmem_bits_univ h_S1x512x1024 rfl) (.inl rfl))

/-- A ring's start: its accumulator filled and both halves sent. -/
def startRing (P : Places) (g : Fin 2) : KProg F PUnit := do
  fillAcc P g
  send P g 0 0 (accH g 0) (accH_exact g 0)
  send P g 0 1 (accH g 1) (accH_exact g 1)

/-- The credit a device gives the one it receives from. -/
def credit (P : Places) (g : Fin 2) : KProg F PUnit := semSignalWord (P.up g) (crS g).sem 1#32

/-- The accumulator's half after step `s`: what arrived plus the staged product. -/
def addHalf (g : Fin 2) (s : ℕ) (k : Fin 2) : KProg F PUnit := do
  let r : Vec F S1x512x512 .f32 ← Prog.lift (.load (rvM g) (slotR (slot s) k).toLoadRect (View.loadsAt_vmem h_S1x512x512))
  let t : Vec F S1x512x512 .f32 ← Prog.lift (.load (stM g) (slotR (slot s) k).toLoadRect (View.loadsAt_vmem h_S1x512x512))
  let _o : Vec F S512x512 .f32 ← Prog.lift (.load (accM g) (accR k).toLoadRect (View.loadsAt_vmem h_S512x512))
  Prog.lift (.store (accM g) (accR k) (k0_pay5 r t) Finset.univ (View.stores_vmem_bits_univ h_S512x512 rfl) (.inl rfl))

/-- One half's step of the first phase up to the credit it gives. -/
def redA (P : Places) (g : Fin 2) (s : ℕ) (k : Fin 2) : KProg F PUnit := do
  waitSend g s k (accH g k) (accH_exact g k)
  waitRecv g s k (accH g k) (accH_exact g k)
  addHalf g s k
  credit P g

/-- Step `0` of the first phase: the next landing slab is free without a credit. -/
def red0 (P : Places) (g k : Fin 2) : KProg F PUnit := do
  redA P g 0 k
  send P g 1 k (accH g k) (accH_exact g k)

/-- Step `s ≥ 1` of the first phase. -/
def red (P : Places) (g : Fin 2) (s : ℕ) (k : Fin 2) : KProg F PUnit := do
  redA P g s k
  semWaitWord (crS g).sem 1#32
  send P g (s + 1) k (accH g k) (accH_exact g k)

/-- The half's largest value, with the maximum so far. -/
def maxHalf (g k : Fin 2) (m : F .f32) : KProg F (F .f32) := do
  let v : Vec F S512x512 .f32 ← Prog.lift (.load (accM g) (accR k).toLoadRect (View.loadsAt_vmem h_S512x512))
  pure (k0_pay54 m v)

/-- Step `s` of the first phase over halves and rings, and the staging of the next one. -/
def redStep (P : Places) (s : ℕ) : KProg F PUnit := do
  red P 0 s 0
  red P 1 s 0
  red P 0 s 1
  red P 1 s 1
  fillSt P 0 (s + 1)
  fillSt P 1 (s + 1)

/-- The first phase: every ring passes the sums on, adding its own products, seven times. -/
def phase1 (P : Places) : KProg F (F .f32) := do
  startRing P 0
  startRing P 1
  fillSt P 0 0
  fillSt P 1 0
  red0 P 0 0
  red0 P 1 0
  red0 P 0 1
  red0 P 1 1
  fillSt P 0 1
  fillSt P 1 1
  redStep P 1
  redStep P 2
  redStep P 3
  redStep P 4
  redStep P 5
  red P 0 6 0
  let m0 ← maxHalf 0 0 (Scalar.ofBits .f32 0x00000000#32)
  red P 1 6 0
  let m1 ← maxHalf 1 0 m0
  red P 0 6 1
  let m2 ← maxHalf 0 1 m1
  red P 1 6 1
  maxHalf 1 1 m2

/-- Exchange `p` of the maximum. -/
def exch (P : Places) (p : Fin 3) (m : F .f32) : KProg F (F .f32) := do
  let _o : Vec F S8x128 .f32 ← Prog.lift (.load sxsM (Rect.unit (s := S8x128) ![0, 0] S8x128.size inb_S8x128_S8x128_0_0).toLoadRect (View.loadsAt_vmem h_S8x128))
  Prog.lift (.store sxsM (Rect.unit (s := S8x128) ![0, 0] S8x128.size inb_S8x128_S8x128_0_0) (shapeCast S8x128 (broadcast S8x128 m) shapeCasts_S8x128_S8x128) Finset.univ (View.stores_vmem_bits_univ h_S8x128 rfl) (.inl rfl))
  Prog.lift (.enqueueDma sxsM (.remote (Dev.tc (P.par p)) (sxrH p) (.dma (sem3 cc0_scratch16 p))) (.dma (sem3 cc0_scratch17 p)) (Memref.isWhole_whole _).wordExact ((View.wordExact_bits rfl).reshape _ _) ⟨⟨rfl, Or.inl rfl⟩, trivial⟩)
  Prog.lift (.waitDma2 (sem3 cc0_scratch16 p) (sxrH p) sxsM ((View.wordExact_bits rfl).reshape _ _) (Memref.isWhole_whole _).wordExact)
  Prog.lift (.waitDma2 (sem3 cc0_scratch17 p) sxsM (sxrH p) (Memref.isWhole_whole _).wordExact ((View.wordExact_bits rfl).reshape _ _))
  let v : Vec F S1x1x1 .f32 ← Prog.lift (.load sxrM (Rect.unit (s := S3x8x128) ![p.val, 0, 0] S1x1x1.size (inb_sx1 p)).toLoadRect (View.loadsAt_vmem h_S1x1x1))
  pure (k0_pay56 m v)

/-- The three exchanges. -/
def exchAll (P : Places) (m : F .f32) : KProg F (F .f32) := do
  let m0 ← exch P 0 m
  let m1 ← exch P 1 m0
  exch P 2 m1

/-- The largest value as the quantiser divides by it. -/
def amaxOf (m : F .f32) : F .f32 := Scalar.maximumf m (Scalar.ofBits .f32 0x0DA24260#32)
/-- The quantiser's factor. -/
def invOf (m : F .f32) : F .f32 := Scalar.divf (Scalar.ofBits .f32 0x43E00000#32) (amaxOf m)
/-- The quantiser's step. -/
def sclOf (m : F .f32) : F .f32 := Scalar.divf (amaxOf m) (Scalar.ofBits .f32 0x43E00000#32)

/-- Copy a finished half to the result. -/
def storeOwn (P : Places) (m : F .f32) (g k : Fin 2) : KProg F PUnit := do
  let v : Vec F S512x512 .f32 ← Prog.lift (.load (accM g) (accR k).toLoadRect (View.loadsAt_vmem h_S512x512))
  let _o : Vec F S512x512 .f32 ← Prog.lift (.load (accM g) (accR k).toLoadRect (View.loadsAt_vmem h_S512x512))
  Prog.lift (.store (accM g) (accR k) (k0_pay63 (invOf m) (sclOf m) v) Finset.univ (View.stores_vmem_bits_univ h_S512x512 rfl) (.inl rfl))
  Prog.lift (.enqueueDma (accH g k) (.here (yH (P.yown g k))) (.dma (sem2 (osS g) k)) (accH_exact g k) (View.wordExact_bits rfl) ⟨Or.inl rfl, trivial⟩)

/-- Quantise what step `7 + n` brought and copy it to the result. -/
def storeAt (P : Places) (m : F .f32) (g : Fin 2) (n : ℕ) (k : Fin 2) : KProg F PUnit := do
  let v : Vec F S1x512x512 .f32 ← Prog.lift (.load (rvM g) (slotR (slot (n + 7)) k).toLoadRect (View.loadsAt_vmem h_S1x512x512))
  let _o : Vec F S1x512x512 .f32 ← Prog.lift (.load (stM g) (slotR (slot (n + 7)) k).toLoadRect (View.loadsAt_vmem h_S1x512x512))
  Prog.lift (.store (stM g) (slotR (slot (n + 7)) k) (k0_pay64 (invOf m) (sclOf m) v) Finset.univ (View.stores_vmem_bits_univ h_S1x512x512 rfl) (.inl rfl))
  Prog.lift (.enqueueDma (stH g (slot (n + 7)) k) (.here (yH (P.yat g k n))) (.dma (sem22 (stS g) (slot (n + 7)) k)) ((View.wordExact_bits rfl).reshape _ _) (View.wordExact_bits rfl) ⟨Or.inl rfl, trivial⟩)

/-- Wait for the result copy of step `7 + n`. -/
def waitSt (P : Places) (g : Fin 2) (n : ℕ) (k : Fin 2) : KProg F PUnit :=
  Prog.lift (.waitDma2 (sem22 (stS g) (slot (n + 7)) k) (stH g (slot (n + 7)) k) (yH (P.yat g k n)) ((View.wordExact_bits rfl).reshape _ _) (View.wordExact_bits rfl))

/-- Wait for the result copy of a finished half. -/
def waitOwn (P : Places) (g k : Fin 2) : KProg F PUnit :=
  Prog.lift (.waitDma2 (sem2 (osS g) k) (accH g k) (yH (P.yown g k)) (accH_exact g k) (View.wordExact_bits rfl))

/-- A block's next hop in the second phase: what arrived at step `n + 7` is sent on. -/
def pass (P : Places) (g : Fin 2) (n : ℕ) (k : Fin 2) : KProg F PUnit := do
  semWaitWord (crS g).sem 1#32
  send P g (n + 8) k (rvH g (slot (n + 7)) k) (rvH_exact g _ k)

/-- The first step of the second phase, whose source was the accumulator. -/
def gat0 (P : Places) (g k : Fin 2) : KProg F PUnit := do
  waitSend g 7 k (accH g k) (accH_exact g k)
  waitRecv g 7 k (accH g k) (accH_exact g k)
  pass P g 0 k

/-- Step `n + 8` of the second phase up to its arrival. -/
def gatA (P : Places) (g : Fin 2) (n : ℕ) (k : Fin 2) : KProg F PUnit := do
  waitSend g (n + 8) k (rvH g (slot (n + 7)) k) (rvH_exact g _ k)
  waitSt P g n k

/-- Step `n + 8` of the second phase. -/
def gat (P : Places) (g : Fin 2) (n : ℕ) (k : Fin 2) : KProg F PUnit := do
  gatA P g n k
  credit P g
  waitRecv g (n + 8) k (rvH g (slot (n + 7)) k) (rvH_exact g _ k)
  pass P g (n + 1) k

/-- The last step of the second phase. -/
def gatLast (P : Places) (g k : Fin 2) : KProg F PUnit := do
  gatA P g 5 k
  waitRecv g 13 k (rvH g (slot 12) k) (rvH_exact g _ k)

/-- Step `n + 8` over halves and rings, with the copies to the result. -/
def gatStep (P : Places) (m : F .f32) (n : ℕ) : KProg F PUnit := do
  gat P 0 n 0
  gat P 1 n 0
  gat P 0 n 1
  gat P 1 n 1
  storeAt P m 0 (n + 1) 0
  storeAt P m 0 (n + 1) 1
  storeAt P m 1 (n + 1) 0
  storeAt P m 1 (n + 1) 1

/-- The second phase: every finished block goes round the ring, each device writing it out. -/
def phase2 (P : Places) (m : F .f32) : KProg F PUnit := do
  gat0 P 0 0
  gat0 P 1 0
  gat0 P 0 1
  gat0 P 1 1
  storeOwn P m 0 0
  storeAt P m 0 0 0
  storeOwn P m 0 1
  storeAt P m 0 0 1
  storeOwn P m 1 0
  storeAt P m 1 0 0
  storeOwn P m 1 1
  storeAt P m 1 0 1
  gatStep P m 0
  gatStep P m 1
  gatStep P m 2
  gatStep P m 3
  gatStep P m 4
  gatLast P 0 0
  gatLast P 1 0
  gatLast P 0 1
  gatLast P 1 1
  storeAt P m 0 6 0
  storeAt P m 0 6 1
  storeAt P m 1 6 0
  storeAt P m 1 6 1
  waitOwn P 0 0
  waitSt P 0 6 0
  waitOwn P 0 1
  waitSt P 0 6 1
  waitOwn P 1 0
  waitSt P 1 6 0
  waitOwn P 1 1
  waitSt P 1 6 1

/-- The entry handshake: a signal to each neighbour, and both neighbours' signals. -/
def entry (P : Places) : KProg F PUnit := do
  semSignalWord P.lft barS.sem 1#32
  semSignalWord P.rgt barS.sem 1#32
  semWaitWord barS.sem 2#32

/-- The whole body at given places. -/
def body (P : Places) : KProg F PUnit := do
  entry P
  let m ← phase1 P
  let m' ← exchAll P m
  phase2 P m'

/-- The places as the program computes them from the device's number. -/
def printed (d : Dev nD) : Places where
  lft := ⟨k0_dev1 d, k0_dev1_lt d⟩
  rgt := ⟨k0_dev2 d, k0_dev2_lt d⟩
  par := fun
    | 0 => ⟨k0_dev63 d, k0_dev63_lt d⟩
    | 1 => ⟨k0_dev64 d, k0_dev64_lt d⟩
    | 2 => ⟨k0_dev65 d, k0_dev65_lt d⟩
  own := ⟨k0_off1 d, k0_off1_inb d⟩
  chunk g s :=
    let r : Fin 14 := ⟨(2 * s + g.val) % 14, Nat.mod_lt _ (by decide)⟩
    ⟨k0_off2 d (k0_off2_at r), k0_off2_inb d r⟩
  yown := fun
    | 0, 0 => ⟨k0_off3 d, k0_off3_inb d⟩
    | 0, 1 => ⟨k0_off5 d, k0_off5_inb d⟩
    | 1, 0 => ⟨k0_off7 d, k0_off7_inb d⟩
    | 1, 1 => ⟨k0_off9 d, k0_off9_inb d⟩
  yat g k n :=
    let r : Fin 7 := ⟨n % 7, Nat.mod_lt _ (by decide)⟩
    match g, k with
    | 0, 0 => ⟨k0_off4 d (k0_off4_at r), k0_off4_inb d r⟩
    | 0, 1 => ⟨k0_off6 d (k0_off6_at r), k0_off6_inb d r⟩
    | 1, 0 => ⟨k0_off8 d (BitVec.ofNat 32 r.val), k0_off8_inb d r⟩
    | 1, 1 => ⟨k0_off10 d (BitVec.ofNat 32 r.val), k0_off10_inb d r⟩

/-- Two programs that request the same effect and continue alike are the same. -/
theorem op_congr {E : Type → Type*} {α β : Type} {e e' : E β} {k k' : β → Prog E α} (he : e = e')
    (h : ∀ x, k x = k' x) : Prog.op e k = Prog.op e' k' := by
  rw [funext h, he]

set_option maxRecDepth 65536 in
set_option maxHeartbeats 0 in
/-- The printed body is the loop: operation by operation, the two request the same effect. -/
theorem body_eq :
    bodyAt0 (F := F) t0_0 = (.op .deviceId fun d => body (printed d)) := by
  refine op_congr rfl fun d => ?_
  repeat (refine op_congr (by rfl) fun _ => ?_)
  rfl

end Cert.KernelIdeal.Hand

end

end
-- ==== Proof.Places.lean ====
module

public import proofs.«01_k».proof.Proof.Prog

/-! # The ring of devices and the places of the blocks

Eight devices on a ring in the order `0, 1, 2, 3, 7, 6, 5, 4`. Ring `0` sends towards higher positions,
ring `1` towards lower ones. The words the program computes are read off in closed form. -/

@[expose] public section

noncomputable section

namespace Cert.KernelIdeal.Hand

open Idealize.ShloMosaic Idealize.SL.Sem Cert.KernelIdeal Cert.KernelIdeal.Gen

/-- A device's position on the ring. -/
def pos (c : Dev nD) : ℕ := if c.val < 4 then c.val else 11 - c.val

/-- The device at a position. -/
def devAt (r : ℕ) : Dev nD :=
  ⟨if r % 8 < 4 then r % 8 else 11 - r % 8, by have := Nat.mod_lt r (show 0 < 8 by decide); show _ < 8; split <;> omega⟩

/-- The device ring `g` sends to. -/
def nxt : Fin 2 → Dev nD → Dev nD
  | 0, c => devAt (pos c + 1)
  | 1, c => devAt (pos c + 7)

/-- The device ring `g` receives from. -/
def prv : Fin 2 → Dev nD → Dev nD
  | 0, c => devAt (pos c + 7)
  | 1, c => devAt (pos c + 1)

/-- The row block `j` places back along ring `g`. -/
def row : Fin 2 → ℕ → Dev nD → Fin 8
  | 0, j, c => ⟨(pos c + 8 - j % 8) % 8, Nat.mod_lt _ (by decide)⟩
  | 1, j, c => ⟨(pos c + j) % 8, Nat.mod_lt _ (by decide)⟩

/-- The partner of exchange `p`. -/
def mate : Fin 3 → Dev nD → Dev nD
  | 0, c => ⟨c.val / 2 * 2 + (c.val + 1) % 2, by have h : c.val < 8 := c.isLt; show _ < 8; omega⟩
  | 1, c => ⟨c.val / 4 * 4 + (3 - c.val % 4), by have h : c.val < 8 := c.isLt; show _ < 8; omega⟩
  | 2, c => ⟨(c.val + 4) % 8, Nat.mod_lt _ (by decide)⟩

theorem prv_nxt (g : Fin 2) (c : Dev nD) : prv g (nxt g c) = c := by revert g c; decide
theorem nxt_prv (g : Fin 2) (c : Dev nD) : nxt g (prv g c) = c := by revert g c; decide
theorem mate_mate (p : Fin 3) (c : Dev nD) : mate p (mate p c) = c := by revert p c; decide
theorem nxt_other (g : Fin 2) (c : Dev nD) : nxt (1 - g) c = prv g c := by revert g c; decide

theorem row_mod (g : Fin 2) (j : ℕ) (c : Dev nD) : row g (j % 8) c = row g j c := by
  fin_cases g <;> (apply Fin.ext; show _ = _; simp only [row]; first | omega | skip)

/-- One place further back, seen from the device one place back. -/
theorem row_prv (g : Fin 2) (j : ℕ) (c : Dev nD) : row g j (prv g c) = row g (j + 1) c := by
  have h : ∀ (g : Fin 2) (j : Fin 8) (c : Dev nD), row g j.val (prv g c) = row g (j.val + 1) c := by decide
  have h1 := h g ⟨j % 8, Nat.mod_lt _ (by decide)⟩ c
  simp only at h1
  rw [row_mod] at h1
  rw [h1, ← row_mod g (j % 8 + 1), ← row_mod g (j + 1)]
  congr 1; omega

theorem row_eight (g : Fin 2) (c : Dev nD) : row g 0 c = row (1 - g) 0 c := by revert g c; decide

theorem inb_x (r : Fin 8) : ∀ a, (![512 * r.val, 0] : Fin 2 → ℕ) a + S512x512.size a ≤ S4096x512.size a := by
  revert r; decide
theorem inb_y (r : Fin 8) (g k : Fin 2) :
    ∀ a, (![512 * r.val, 1024 * g.val + 512 * k.val] : Fin 2 → ℕ) a + S512x512.size a ≤ S4096x2048.size a := by
  revert r g k; decide

/-- Where row block `r` of the first argument lies. -/
abbrev xAt (r : Fin 8) : {o : Fin 2 → ℕ // ∀ a, o a + S512x512.size a ≤ S4096x512.size a} :=
  ⟨![512 * r.val, 0], inb_x r⟩
/-- Where block `r`, `g`, `k` of the result lies. -/
abbrev yAt (r : Fin 8) (g k : Fin 2) : {o : Fin 2 → ℕ // ∀ a, o a + S512x512.size a ≤ S4096x2048.size a} :=
  ⟨![512 * r.val, 1024 * g.val + 512 * k.val], inb_y r g k⟩

/-- The places in closed form. -/
def places (c : Dev nD) : Places where
  lft := prv 0 c
  rgt := nxt 0 c
  par p := mate p c
  own := xAt (row 0 0 c)
  chunk g s := xAt (row g (s % 7 + 1) c)
  yown g k := yAt (row g 7 c) g k
  yat g k n := yAt (row g (n % 7) c) g k

theorem places_dst (c : Dev nD) (g : Fin 2) : (places c).dst g = nxt g c := by
  fin_cases g
  · rfl
  · exact (nxt_other 0 c).symm
theorem places_up (c : Dev nD) (g : Fin 2) : (places c).up g = prv g c := by
  fin_cases g
  · rfl
  · revert c; decide

set_option maxRecDepth 65536 in
theorem off1_eq : ∀ c : Dev nD, k0_off1 c = (xAt (row 0 0 c)).1 := by decide +kernel
set_option maxRecDepth 65536 in
theorem off2_eq : ∀ (c : Dev nD) (g : Fin 2) (s : Fin 7),
    k0_off2 c (k0_off2_at ⟨2 * s.val + g.val, by omega⟩) = (xAt (row g (s.val + 1) c)).1 := by decide +kernel
set_option maxRecDepth 65536 in
theorem off3_eq : ∀ c : Dev nD, k0_off3 c = (yAt (row 0 7 c) 0 0).1 ∧ k0_off5 c = (yAt (row 0 7 c) 0 1).1
    ∧ k0_off7 c = (yAt (row 1 7 c) 1 0).1 ∧ k0_off9 c = (yAt (row 1 7 c) 1 1).1 := by decide +kernel
set_option maxRecDepth 65536 in
theorem off4_eq : ∀ (c : Dev nD) (n : Fin 7),
    k0_off4 c (k0_off4_at n) = (yAt (row 0 n.val c) 0 0).1 ∧ k0_off6 c (k0_off6_at n) = (yAt (row 0 n.val c) 0 1).1
    ∧ k0_off8 c (BitVec.ofNat 32 n.val) = (yAt (row 1 n.val c) 1 0).1
    ∧ k0_off10 c (BitVec.ofNat 32 n.val) = (yAt (row 1 n.val c) 1 1).1 := by decide +kernel
set_option maxRecDepth 65536 in
theorem dev_eq : ∀ c : Dev nD, k0_dev1 c = (prv 0 c).val ∧ k0_dev2 c = (nxt 0 c).val ∧ k0_dev63 c = (mate 0 c).val
    ∧ k0_dev64 c = (mate 1 c).val ∧ k0_dev65 c = (mate 2 c).val := by decide +kernel

/-- The words the program computes name the places in closed form. -/
theorem printed_eq (c : Dev nD) : printed c = places c := by
  unfold printed places
  congr 1
  · exact Fin.ext (dev_eq c).1
  · exact Fin.ext (dev_eq c).2.1
  · funext p; fin_cases p
    · exact Fin.ext (dev_eq c).2.2.1
    · exact Fin.ext (dev_eq c).2.2.2.1
    · exact Fin.ext (dev_eq c).2.2.2.2
  · exact Subtype.ext (off1_eq c)
  · funext g s
    refine Subtype.ext ?_
    have h := off2_eq c g ⟨s % 7, Nat.mod_lt _ (by decide)⟩
    have e : (2 * s + g.val) % 14 = 2 * (s % 7) + g.val := by have := g.isLt; omega
    simp only [e]
    exact h
  · funext g k
    fin_cases g <;> fin_cases k
    · exact Subtype.ext (off3_eq c).1
    · exact Subtype.ext (off3_eq c).2.1
    · exact Subtype.ext (off3_eq c).2.2.1
    · exact Subtype.ext (off3_eq c).2.2.2
  · funext g k n
    fin_cases g <;> fin_cases k
    · exact Subtype.ext (off4_eq c ⟨n % 7, Nat.mod_lt _ (by decide)⟩).1
    · exact Subtype.ext (off4_eq c ⟨n % 7, Nat.mod_lt _ (by decide)⟩).2.1
    · exact Subtype.ext (off4_eq c ⟨n % 7, Nat.mod_lt _ (by decide)⟩).2.2.1
    · exact Subtype.ext (off4_eq c ⟨n % 7, Nat.mod_lt _ (by decide)⟩).2.2.2

end Cert.KernelIdeal.Hand

end

end
-- ==== Proof.Owns.lean ====
module

public import proofs.«01_k».proof.Proof.Places
public import Idealize.ShloMosaic.Lib.Release
public import Idealize.ShloMosaic.Lib.Memref
public import Idealize.ShloMosaic.Lib.MemrefSat
public import Idealize.ShloMosaic.Lib.Pipeline.Launch
public import Idealize.ShloMosaic.Lib.Pipeline.Kit
public import Idealize.ShloMosaic.Lib.Pipeline.TalkSites
public import Idealize.ShloMosaic.Lib.Tactic

/-! # Loads and stores by what a memref reads

The logic's carrier, and the rules for a load or a store through a part of a buffer, stated by the
contents one owns there rather than by the buffer's. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

/-- The landing places a device offers: half `k` of slab `b` of ring `g`, or an exchange's block. -/
abbrev Place : Type := (Fin 2 × Fin 2 × Fin 2) ⊕ Fin 3

/-- The ghost state: the pipeline's own cells, the kernel's cells, and the landing places. -/
abbrev UU : Type := UR sig nD τ × (URounds (GSem nD τ sig) ℕ × Release.USlots (Dev nD × Place))

variable {F : FTy → Type} [FloatOps F]

local notation "𝕄" => MT nD τ sig ℕ (Elt F) ℕ UU ℕ

abbrev EP : Emb (UR sig nD τ) (MT nD τ sig ℕ (Elt F) ℕ UU ℕ) := embL
abbrev ER : Emb (URounds (GSem nD τ sig) ℕ) (MT nD τ sig ℕ (Elt F) ℕ UU ℕ) := Emb.inl.trans embR
abbrev ES : Emb (Release.USlots (Dev nD × Place)) (MT nD τ sig ℕ (Elt F) ℕ UU ℕ) := Emb.inr.trans embR

abbrev 𝒱₀ : Variants := Variants.none

/-- A program of the kernel's body on device `c` runs to `Q`. -/
abbrev WP (c : Dev nD) {α : Type} (p : KProg F α) (Q : α → sProp 𝕄) : sProp 𝕄 :=
  wp frame (wpE (defs₀ (F := F)) 𝒱₀ (c : Thread nD τ) none) Set.univ p Q

/-- Device `c` owns the memref at share `q`, reading `X`. -/
abbrev own (c : Dev nD) {sp : Space} {sh : Shape} {e : EltTy} (M : Memref sig .tc sp sh e) (q : PosShare TreeShare)
    (X : sh.Idx → Elt F e) : sProp 𝕄 :=
  owns (c : Thread nD τ) M q X

/-- Device `c` owns the memref outright, whatever it reads. -/
def held (c : Dev nD) {sp : Space} {sh : Shape} {e : EltTy} (M : Memref sig .tc sp sh e) : sProp 𝕄 :=
  iprop(∃ X, own (F := F) c M fullShare X)

instance held_storable (c : Dev nD) {sp : Space} {sh : Shape} {e : EltTy} (M : Memref sig .tc sp sh e) :
    BI.Storable (upEmb : UEmb _ 𝕄) (held (F := F) c M) := by unfold held; infer_instance

variable {c : Dev nD} {cs : CoreSpace} {s : Shape} {e : EltTy} {M : Memref sig .tc cs s e}

/-- A load of a rectangle of an owned memref reads its part of the contents. -/
theorem wp_load_own {α : Type} {Q : α → sProp 𝕄} {r : Rect s} {hl : M.view.LoadsAt r.toLoadRect} {k : (r.shape.Idx → Elt F e) → KProg F α} {q : PosShare TreeShare}
    {X : s.Idx → Elt F e} :
    own c M q X ⊢ iprop((own c M q X -∗ WP c (k fun i => X (r.emb i)) Q) -∗ WP c (.op (.load M r.toLoadRect hl) k) Q) := by
  unfold own owns
  iintro ⟨%f, %hf, H⟩ Hk
  subst hf
  iapply (wp_load_rect 𝒱₀ (c : Thread nD τ) none Set.univ (m := M) (r := r) (View.set_slice_subset _ _)) $$ H
  iintro H
  iapply Hk
  iexists f
  isplitr; · ipureintro; rfl
  iexact H

/-- A store of a rectangle of a memref owned outright: the contents afterwards are the stored value
    there and the old ones elsewhere. -/
theorem wp_store_own {α : Type} {Q : α → sProp 𝕄} {r : Rect s} {w : r.shape.Idx → Elt F e} {hx : (M.access r).Stores Finset.univ}
    {hm : (Finset.univ : Finset r.shape.Idx) = Finset.univ ∨ ∀ a, r.stride a = 1} {k : PUnit → KProg F α} {X : s.Idx → Elt F e} :
    own c M fullShare X ⊢ iprop((∀ X', ⌜(∀ i, X' (r.emb i) = w i)⌝ -∗ own c M fullShare X' -∗ WP c (k ⟨⟩) Q)
      -∗ WP c (.op (.store M r w Finset.univ hx hm) k) Q) := by
  unfold own owns
  iintro ⟨%f, -, H⟩ Hk
  iapply (wp_store 𝒱₀ (c : Thread nD τ) none Set.univ (m := M) (r := r) (Mk := Finset.univ) (View.set_slice_subset _ _)) $$ H
  iintro H
  ispecialize Hk $$ %(M.view.read (Elt F) ((M.access r).write (Elt F) f w Finset.univ))
  iapply Hk
  · ipureintro
    intro i
    exact congrFun (View.read_write_univ (v := M.access r) f w) i
  · iexists _
    isplitr; · ipureintro; rfl
    iexact H

/-- A load through a rectangle whose slice is owned reads the slice's contents. -/
theorem wp_load_slice {α : Type} {Q : α → sProp 𝕄} {r : Rect s} {hr : ∀ a, r.stride a = 1} {hl : M.view.LoadsAt r.toLoadRect}
    {k : (r.shape.Idx → Elt F e) → KProg F α} {q : PosShare TreeShare} {X : r.shape.Idx → Elt F e} :
    own c (M.slice r hr) q X ⊢ iprop((own c (M.slice r hr) q X -∗ WP c (k X) Q) -∗ WP c (.op (.load M r.toLoadRect hl) k) Q) := by
  unfold own owns
  iintro ⟨%f, %hf, H⟩ Hk
  subst hf
  iapply (wp_load_rect 𝒱₀ (c : Thread nD τ) none Set.univ (m := M) (r := r) (Finset.Subset.refl _)) $$ H
  iintro H
  iapply Hk
  iexists f
  isplitr; · ipureintro; rfl
  iexact H

/-- A store through a rectangle whose slice is owned leaves the stored value there. -/
theorem wp_store_slice {α : Type} {Q : α → sProp 𝕄} {r : Rect s} {hr : ∀ a, r.stride a = 1} {w : r.shape.Idx → Elt F e} {hx : (M.access r).Stores Finset.univ}
    {hm : (Finset.univ : Finset r.shape.Idx) = Finset.univ ∨ ∀ a, r.stride a = 1} {k : PUnit → KProg F α} {X : r.shape.Idx → Elt F e} :
    own c (M.slice r hr) fullShare X ⊢ iprop((own c (M.slice r hr) fullShare w -∗ WP c (k ⟨⟩) Q)
      -∗ WP c (.op (.store M r w Finset.univ hx hm) k) Q) := by
  unfold own owns
  iintro ⟨%f, -, H⟩ Hk
  iapply (wp_store 𝒱₀ (c : Thread nD τ) none Set.univ (m := M) (r := r) (Mk := Finset.univ) (S := (M.access r).set) (Finset.Subset.refl _)) $$ H
  iintro H
  iapply Hk
  iexists _
  isplitr; swap; · iexact H
  ipureintro
  exact View.read_write_univ (v := M.access r) f w

/-- A load through a rectangle whose squeezed slice is owned reads contents that squeeze to the owned ones. -/
theorem wp_load_squeeze {α : Type} {Q : α → sProp 𝕄} {r : Rect s} {hr : ∀ a, r.stride a = 1} {s' : Shape} {hs : r.shape.Squeezes s'} {hl : M.view.LoadsAt r.toLoadRect}
    {k : (r.shape.Idx → Elt F e) → KProg F α} {q : PosShare TreeShare} {X : s'.Idx → Elt F e} :
    own c ((M.slice r hr).squeeze s' hs) q X
      ⊢ iprop((∀ v, ⌜(fun j => v (Shape.reshapeEquiv hs.numel_eq j)) = X⌝ -∗ own c ((M.slice r hr).squeeze s' hs) q X -∗ WP c (k v) Q)
        -∗ WP c (.op (.load M r.toLoadRect hl) k) Q) := by
  unfold own owns
  iintro ⟨%f, %hf, H⟩ Hk
  subst hf
  have hset : ((M.slice r hr).squeeze s' hs).view.set = (M.access r).set := View.set_reshape _ _
  rw [hset]
  iapply (wp_load_rect 𝒱₀ (c : Thread nD τ) none Set.univ (m := M) (r := r) (Finset.Subset.refl _)) $$ H
  iintro H
  ispecialize Hk $$ %((M.access r).read (Elt F) f)
  iapply Hk
  · ipureintro; rfl
  · iexists f
    isplitr; · ipureintro; rfl
    iexact H

/-- A store through a rectangle whose squeezed slice is owned leaves the stored value, squeezed. -/
theorem wp_store_squeeze {α : Type} {Q : α → sProp 𝕄} {r : Rect s} {hr : ∀ a, r.stride a = 1} {s' : Shape} {hs : r.shape.Squeezes s'} {w : r.shape.Idx → Elt F e}
    {hx : (M.access r).Stores Finset.univ} {hm : (Finset.univ : Finset r.shape.Idx) = Finset.univ ∨ ∀ a, r.stride a = 1}
    {k : PUnit → KProg F α} {X : s'.Idx → Elt F e} :
    own c ((M.slice r hr).squeeze s' hs) fullShare X
      ⊢ iprop((own c ((M.slice r hr).squeeze s' hs) fullShare (fun j => w (Shape.reshapeEquiv hs.numel_eq j)) -∗ WP c (k ⟨⟩) Q)
        -∗ WP c (.op (.store M r w Finset.univ hx hm) k) Q) := by
  unfold own owns
  iintro ⟨%f, -, H⟩ Hk
  have hset : ((M.slice r hr).squeeze s' hs).view.set = (M.access r).set := View.set_reshape _ _
  rw [hset]
  iapply (wp_store 𝒱₀ (c : Thread nD τ) none Set.univ (m := M) (r := r) (Mk := Finset.univ) (S := (M.access r).set) (Finset.Subset.refl _)) $$ H
  iintro H
  iapply Hk
  iexists _
  isplitr; swap; · iexact H
  ipureintro
  funext j
  exact congrFun (View.read_write_univ (v := M.access r) f w) (Shape.reshapeEquiv hs.numel_eq j)

omit [FloatOps F] in
/-- A place with an element is held by one device at a time. -/
theorem held_held {sp : Space} {s : Shape} {M : Memref sig .tc sp s e} (h : M.view.set.Nonempty) :
    iprop(held (F := F) c M ∗ held c M) ⊢ (False : sProp 𝕄) := by
  refine .trans ?_ (Release.slot_slot_false (ℓ := M.view.loc (c : Thread nD τ)) (I := M.view.set) h)
  unfold held own owns Release.slot
  iintro ⟨⟨%X, %f, -, H⟩, ⟨%X', %f', -, H'⟩⟩
  isplitl [H]
  · iexists f; iexact H
  · iexists f'; iexact H'

omit [FloatOps F] in
theorem own_held {sp : Space} {s : Shape} {M : Memref sig .tc sp s e} {X : s.Idx → Elt F e} : own c M fullShare X ⊢ held c M := by
  unfold held; iintro H; iexists X; iexact H

end Cert.KernelIdeal.Hand

end

end
-- ==== Proof.Values.lean ====
module

public import proofs.«01_k».proof.Proof.Owns

/-! # What the buffers hold

The products a device stages, the sums that travel round each ring, the maximum after every exchange
and the blocks of the result, as functions of every device's two argument blocks. -/

@[expose] public section

noncomputable section

namespace Cert.KernelIdeal.Hand

open Idealize.ShloMosaic Cert.KernelIdeal Cert.KernelIdeal.Gen

variable {F : FTy → Type} [FloatOps F]

/-- Every device's blocks of the two arguments. -/
structure Inp (F : FTy → Type) where
  /-- The blocks of the first argument. -/
  x : Dev nD → Vec F S4096x512 .f32
  /-- The blocks of the second argument. -/
  w : Dev nD → Vec F S512x2048 .f32

/-- Row block `r` of a first-argument block. -/
def xv (x : Vec F S4096x512 .f32) (r : Fin 8) : Vec F S512x512 .f32 :=
  fun i => x ((Rect.unit (s := S4096x512) (xAt r).1 S512x512.size (xAt r).2).emb i)

/-- Ring `g`'s columns of a second-argument block. -/
def wv (w : Vec F S512x2048 .f32) (g : Fin 2) : Vec F S512x1024 .f32 :=
  fun i => w ((Rect.unit (s := S512x2048) ![0, 1024 * g.val] S512x1024.size (inb_w g)).emb i)

/-- Half `k` of a ring's columns. -/
def half (k : Fin 2) (V : Vec F S512x1024 .f32) : Vec F S512x512 .f32 := fun j => V ((accR k).emb j)

variable (I : Inp F)

/-- The product device `c` contributes to row block `r` of ring `g`'s columns. -/
def prodV (c : Dev nD) (g : Fin 2) (r : Fin 8) : Vec F S512x1024 .f32 := k0_pay1 (xv (I.x c) r) (wv (I.w c) g)

/-- The sum in device `c`'s accumulator before step `s`. -/
def accV (c : Dev nD) (g k : Fin 2) : ℕ → Vec F S512x512 .f32
  | 0 => half k (prodV I c g (row g 0 c))
  | s + 1 => addf (accV (prv g c) g k s) (half k (prodV I c g (row g (s + 1) c)))
termination_by s => s

/-- What device `c` sends at step `s`: its sum up to step seven, later what it received the step before. -/
def sentV (c : Dev nD) (g k : Fin 2) (s : ℕ) : Vec F S512x512 .f32 :=
  accV I ((prv g)^[s - 7] c) g k (min s 7)

theorem sentV_le (c : Dev nD) (g k : Fin 2) {s : ℕ} (h : s ≤ 7) : sentV I c g k s = accV I c g k s := by
  unfold sentV; rw [Nat.sub_eq_zero_of_le h, Nat.min_eq_left h]; rfl

theorem sentV_succ (c : Dev nD) (g k : Fin 2) {s : ℕ} (h : 7 ≤ s) : sentV I c g k (s + 1) = sentV I (prv g c) g k s := by
  unfold sentV
  rw [show s + 1 - 7 = (s - 7) + 1 by omega, Function.iterate_succ_apply, Nat.min_eq_right h, Nat.min_eq_right (by omega)]

theorem accV_succ (c : Dev nD) (g k : Fin 2) {s : ℕ} (h : s < 7) :
    accV I c g k (s + 1) = addf (sentV I (prv g c) g k s) (half k (prodV I c g (row g (s + 1) c))) := by
  rw [accV, sentV_le I _ g k h.le]

/-- The largest value of a half, with the maximum so far. -/
abbrev maxV (m : F .f32) (V : Vec F S512x512 .f32) : F .f32 := k0_pay54 m V

/-- Device `c`'s maximum before exchange `p`. -/
def mS : ℕ → Dev nD → F .f32
  | 0, c => maxV (maxV (maxV (maxV (Scalar.ofBits .f32 0x00000000#32) (accV I c 0 0 7)) (accV I c 1 0 7)) (accV I c 0 1 7)) (accV I c 1 1 7)
  | p + 1, c => Scalar.maximumf (mS p c) (mS p (mate ⟨p % 3, Nat.mod_lt _ (by decide)⟩ c))

/-- The maximum device `c` quantises by. -/
def mF (c : Dev nD) : F .f32 := mS I 3 c

/-- A half quantised by device `c`. -/
def quantV (c : Dev nD) (V : Vec F S512x512 .f32) : Vec F S512x512 .f32 := k0_pay63 (invOf (mF I c)) (sclOf (mF I c)) V

/-- The device whose ring-`g` sum of row block `r` is complete after seven steps. -/
def owner : Fin 2 → Fin 8 → Dev nD
  | 0, r => devAt (r.val + 7)
  | 1, r => devAt (r.val + 1)

theorem owner_row (g : Fin 2) (c : Dev nD) : owner g (row g 7 c) = c := by revert g c; decide

/-- Block `r`, `g`, `k` of device `c`'s result. -/
def yV (c : Dev nD) (r : Fin 8) (g k : Fin 2) : Vec F S512x512 .f32 := quantV I c (accV I (owner g r) g k 7)

theorem yV_own (c : Dev nD) (g k : Fin 2) : yV I c (row g 7 c) g k = quantV I c (accV I c g k 7) := by
  unfold yV; rw [owner_row]

theorem row_iter (g : Fin 2) (c : Dev nD) (n j : ℕ) : row g j ((prv g)^[n] c) = row g (j + n) c := by
  induction n generalizing c with
  | zero => rfl
  | succ n ih => rw [Function.iterate_succ_apply, ih, row_prv]; rfl

theorem yV_at (c : Dev nD) (g k : Fin 2) (n : ℕ) :
    yV I c (row g n c) g k = quantV I c (sentV I (prv g c) g k (n + 7)) := by
  have h : row g n c = row g 7 ((prv g)^[n + 1] c) := by
    rw [row_iter, ← row_mod g (7 + (n + 1)), ← row_mod g n]; congr 1; omega
  unfold yV sentV
  rw [h, owner_row, Nat.min_eq_right (by omega), show n + 7 - 7 = n by omega, ← Function.iterate_succ_apply]

/-! ## The stored values, by what was read -/

/-- Half `k` of slab `b` lies in the slab where it lies in the accumulator. -/
theorem slot_in_slab (b k : Fin 2) (j : S512x512.Idx) :
    (slotR b k).emb (Shape.reshapeEquiv (s := S1x512x512) (s' := S512x512) (by decide) j)
      = (slabR b).emb (Shape.reshapeEquiv (s := S1x512x1024) (s' := S512x1024) (by decide) ((accR k).emb j)) := by
  rw [show Shape.reshapeEquiv (s := S1x512x512) (s' := S512x512) (by decide) j = Fin.cons ⟨0, Nat.one_pos⟩ j from
      Shape.reshapeEquiv_cons_one (d := ![512, 512]) (by decide) j,
    show Shape.reshapeEquiv (s := S1x512x1024) (s' := S512x1024) (by decide) ((accR k).emb j) = Fin.cons ⟨0, Nat.one_pos⟩ ((accR k).emb j) from
      Shape.reshapeEquiv_cons_one (d := ![512, 1024]) (by decide) ((accR k).emb j)]
  funext a
  apply Fin.ext
  fin_cases a
  · rfl
  · show 0 + 1 * (j 0).val = 0 + 1 * (0 + 1 * (j 0).val)
    omega
  · show 512 * k.val + 1 * (j 1).val = 0 + 1 * (512 * k.val + 1 * (j 1).val)
    omega

/-- The staged slab holds the product as the accumulator would. -/
theorem pay3_eq (x : Vec F S512x512 .f32) (w : Vec F S512x1024 .f32) (i : S512x1024.Idx) :
    k0_pay3 x w (Shape.reshapeEquiv (s := S1x512x1024) (s' := S512x1024) (by decide) i) = k0_pay1 x w i := by
  unfold k0_pay3 k0_pay1 shapeCast
  simp only [Shape.reshapeEquiv_reshapeEquiv, Shape.reshapeEquiv_self]

/-- The step's sum, by the halves it reads. -/
theorem pay5_eq (r t : Vec F S1x512x512 .f32) {R T : Vec F S512x512 .f32} {h h' : S512x512.numel = S1x512x512.numel}
    (hr : (fun j => r (Shape.reshapeEquiv h j)) = R) (ht : (fun j => t (Shape.reshapeEquiv h' j)) = T) : k0_pay5 r t = addf R T := by
  subst hr ht
  unfold k0_pay5 shapeCast
  simp only [Shape.reshapeEquiv_self]

/-- The quantised half, squeezed. -/
theorem pay64_eq (a b : F .f32) (v : Vec F S1x512x512 .f32) {V : Vec F S512x512 .f32} {h h' : S512x512.numel = S1x512x512.numel}
    (hv : (fun j => v (Shape.reshapeEquiv h j)) = V) : (fun j => k0_pay64 a b v (Shape.reshapeEquiv h' j)) = k0_pay63 a b V := by
  subst hv
  funext j
  unfold k0_pay64 k0_pay63 shapeCast
  simp only [Shape.reshapeEquiv_reshapeEquiv, Shape.reshapeEquiv_self]

end Cert.KernelIdeal.Hand

end

end
-- ==== Proof.Cells.lean ====
module

public import proofs.«01_k».proof.Proof.Values
public import Mathlib.Tactic.DeriveFintype

/-! # The cells, what each device owes, and the order of the waits

Every semaphore of the kernel by its role; for every signal and every transfer a device makes, the cell
it goes to, when the device makes it, and the level its receiver waits at. -/

@[expose] public section

noncomputable section

namespace Cert.KernelIdeal.Hand

open Idealize.ShloMosaic Idealize.ShloMosaic.TcCoe Cert.KernelIdeal Cert.KernelIdeal.Gen

/-- A device's cells by role. -/
inductive CellK where
  /-- The entry handshake. -/
  | bar
  /-- Ring `g`'s credits. -/
  | cr (g : Fin 2)
  /-- The sends of half `k` through slab `b`. -/
  | ss (g b k : Fin 2)
  /-- The arrivals of half `k` in slab `b`. -/
  | rs (g b k : Fin 2)
  /-- The result copies out of slab `b`. -/
  | st (g b k : Fin 2)
  /-- The result copies out of the accumulator. -/
  | os (g k : Fin 2)
  /-- The send of exchange `p`. -/
  | sxs (p : Fin 3)
  /-- The arrival of exchange `p`. -/
  | sxr (p : Fin 3)
deriving DecidableEq, Fintype

/-- A role's semaphore. -/
def semOf : CellK → SemLoc sig
  | .bar => .reg barS.sem
  | .cr g => .reg (crS g).sem
  | .ss g b k => .dma (sem22 (ssS g) b k)
  | .rs g b k => .dma (sem22 (rsS g) b k)
  | .st g b k => .dma (sem22 (stS g) b k)
  | .os g k => .dma (sem2 (osS g) k)
  | .sxs p => .dma (sem3 cc0_scratch16 p)
  | .sxr p => .dma (sem3 cc0_scratch17 p)

set_option maxRecDepth 65536 in
theorem semOf_inj : Function.Injective semOf := by
  have h : ∀ a b : CellK, semOf a = semOf b → a = b := by decide +kernel
  exact fun a b => h a b

/-- The cell of a role on a device. -/
abbrev cell (c : Dev nD) (κ : CellK) : GSem nD τ sig := ((c : Thread nD τ), semOf κ)

theorem cell_inj {c c' : Dev nD} {κ κ' : CellK} (h : cell c κ = cell c' κ') : c = c' ∧ κ = κ' :=
  ⟨congrArg (fun g : GSem nD τ sig => g.1.1) h, semOf_inj (congrArg Prod.snd h)⟩

open Classical in
/-- The role a semaphore plays. -/
def roleOf (sm : SemLoc sig) : Option CellK := if h : ∃ κ, semOf κ = sm then some h.choose else none

theorem roleOf_semOf (κ : CellK) : roleOf (semOf κ) = some κ := by
  unfold roleOf
  have h : ∃ κ', semOf κ' = semOf κ := ⟨κ, rfl⟩
  rw [dif_pos h]
  exact congrArg some (semOf_inj h.choose_spec)

/-- What a half's transfer credits. -/
def nH : ℕ := (rvH 0 0 0).view.dmaCredit
/-- What an exchange's transfer credits. -/
def nX : ℕ := (sxrH 0).view.dmaCredit

theorem nH_pos : 0 < nH := View.dmaCredit_pos _ (by decide)
theorem nX_pos : 0 < nX := View.dmaCredit_pos _ (by decide)

theorem credit_rv (g b k : Fin 2) : (rvH g b k).view.dmaCredit = nH := by fin_cases g <;> rfl
theorem credit_st (g b k : Fin 2) : (stH g b k).view.dmaCredit = nH := by fin_cases g <;> rfl
theorem credit_acc (g k : Fin 2) : (accH g k).view.dmaCredit = nH := by fin_cases g <;> rfl
theorem credit_y (o : _) : (yH o).view.dmaCredit = nH := rfl
theorem credit_sxr (p : Fin 3) : (sxrH p).view.dmaCredit = nX := rfl
theorem credit_sxs : sxsM.view.dmaCredit = nX := rfl

/-- What the half sent at step `s` is sent from. -/
def srcM (g k : Fin 2) (s : ℕ) : Memref sig .tc .vmem S512x512 .f32 := if s ≤ 7 then accH g k else rvH g (slot (s - 1)) k

theorem srcM_le (g k : Fin 2) {s : ℕ} (h : s ≤ 7) : srcM g k s = accH g k := if_pos h
theorem srcM_succ (g k : Fin 2) {s : ℕ} (h : 7 ≤ s) : srcM g k (s + 1) = rvH g (slot s) k := if_neg (by omega)

/-! ## What a device owes -/

/-- A device's signals and transfers to others. -/
inductive Ob where
  /-- The entry signal towards where ring `g` comes from. -/
  | bar (g : Fin 2)
  /-- The send of step `s`. -/
  | snd (g k : Fin 2) (s : Fin 14)
  /-- The credit for what step `s` brought. -/
  | crd (g k : Fin 2) (s : Fin 12)
  /-- Exchange `p`. -/
  | sx (p : Fin 3)
deriving DecidableEq, Fintype

/-- A step's place in the order: the exchanges come between steps six and seven. -/
def uu (s : ℕ) : ℕ := if s ≤ 6 then s else s + 3

/-- When half `k` of ring `g` is served in the `u`-th place. -/
def tm (u : ℕ) (g k : Fin 2) : ℕ := 100 + 40 * u + 10 * (2 * k.val + g.val)

namespace Ob

/-- When a device pays. -/
def time : Ob → ℕ
  | .bar g => 1 + g.val
  | .snd g k s => if s.val = 0 then 50 + 2 * g.val + k.val else tm (uu (s.val - 1)) g k + 5
  | .crd g k s => if s.val ≤ 6 then tm (uu s.val) g k + 3 else tm (uu (s.val + 1)) g k + 3
  | .sx p => tm (7 + p.val) 0 0 + 1

/-- The level its receiver waits at. -/
def lev : Ob → ℕ
  | .bar _ => 10
  | .snd g k s => tm (uu s.val) g k + 3
  | .crd g k s => tm (uu (s.val + 1)) g k + 4
  | .sx p => tm (7 + p.val) 0 0 + 3

/-- The device paid. -/
def payee (c : Dev nD) : Ob → Dev nD
  | .bar g => prv g c
  | .snd g _ _ => nxt g c
  | .crd g _ _ => prv g c
  | .sx p => mate p c

/-- The device that pays. -/
def payer (c : Dev nD) : Ob → Dev nD
  | .bar g => nxt g c
  | .snd g _ _ => prv g c
  | .crd g _ _ => nxt g c
  | .sx p => mate p c

/-- The cell paid. -/
def role : Ob → CellK
  | .bar _ => .bar
  | .snd g k s => .rs g (slot s.val) k
  | .crd g _ _ => .cr g
  | .sx p => .sxr p

/-- How much is paid. -/
def amt : Ob → ℕ
  | .bar _ => 1
  | .snd _ _ _ => nH
  | .crd _ _ _ => 1
  | .sx _ => nX

theorem payer_payee (c : Dev nD) (o : Ob) : o.payer (o.payee c) = c := by
  cases o <;> first | exact nxt_prv _ _ | exact prv_nxt _ _ | exact mate_mate _ _
theorem payee_payer (c : Dev nD) (o : Ob) : o.payee (o.payer c) = c := by
  cases o <;> first | exact nxt_prv _ _ | exact prv_nxt _ _ | exact mate_mate _ _

set_option maxRecDepth 65536 in
theorem time_inj : Function.Injective time := by
  have h : ∀ a b : Ob, time a = time b → a = b := by decide +kernel
  exact fun a b => h a b

/-- The tally a payment puts on its cell. -/
def tally (c : Dev nD) (o : Ob) : CellTallies nD τ sig ℕ := tallyAt (cell (o.payee c) o.role) o.lev o.amt

end Ob

/-- What device `c` owes from time `t` on. -/
def owedFrom (t : ℕ) (c : Dev nD) : CellTallies nD τ sig ℕ := ∑ o ∈ Finset.univ.filter (fun o : Ob => t ≤ o.time), o.tally c

/-- Paying what is due now. -/
theorem owedFrom_pay (o : Ob) (c : Dev nD) : owedFrom o.time c = owedFrom (o.time + 1) c + o.tally c := by
  unfold owedFrom
  have h : Finset.univ.filter (fun o' : Ob => o.time ≤ o'.time) = insert o (Finset.univ.filter fun o' : Ob => o.time + 1 ≤ o'.time) := by
    ext o'
    simp only [Finset.mem_filter, Finset.mem_univ, true_and, Finset.mem_insert]
    constructor
    · intro h
      rcases Nat.eq_or_lt_of_le h with h | h
      · exact Or.inl (Ob.time_inj h.symm)
      · exact Or.inr h
    · rintro (rfl | h)
      · exact Nat.le_refl _
      · omega
  rw [h, Finset.sum_insert (by simp), add_comm]

/-- Nothing falls due between the two times. -/
theorem owedFrom_skip {t t' : ℕ} (h : ∀ o : Ob, t ≤ o.time ↔ t' ≤ o.time) (c : Dev nD) : owedFrom t c = owedFrom t' c := by
  unfold owedFrom; simp only [h]

theorem owedFrom_end (c : Dev nD) {t : ℕ} (h : ∀ o : Ob, ¬ t ≤ o.time) : owedFrom t c = 0 := by
  unfold owedFrom
  rw [Finset.filter_false_of_mem fun o _ => h o, Finset.sum_empty]

theorem owedFrom_pos {t : ℕ} {c : Dev nD} {g : GSem nD τ sig} {ι : ℕ} (h : 0 < owedFrom t c g ι) :
    ∃ o : Ob, t ≤ o.time ∧ g = cell (o.payee c) o.role ∧ ι = o.lev := by
  by_contra hn
  push Not at hn
  refine absurd h (Nat.not_lt.mpr (Nat.le_of_eq ?_))
  unfold owedFrom
  rw [Finset.sum_apply, Finsupp.finsetSum_apply]
  refine Finset.sum_eq_zero fun o ho => ?_
  have ho' := (Finset.mem_filter.mp ho).2
  unfold Ob.tally
  rw [tallyAt_apply, if_neg]
  rintro ⟨h1, h2⟩
  exact hn o ho' h1 h2

/-- The levels in use. -/
def levBound : ℕ := 2000

theorem lev_lt (o : Ob) : o.lev < levBound := by
  unfold levBound; cases o <;> simp only [Ob.lev, tm, uu] <;> (try split) <;> omega

theorem lev_pos (o : Ob) : 0 < o.lev := by
  cases o <;> simp only [Ob.lev, tm] <;> omega

/-- The levels of a cell. -/
def LL (g : GSem nD τ sig) : Finset ℕ := if g.1.2 = .tc then Finset.range levBound else ∅
/-- A level is its own place in the order. -/
def lvl (_ : GSem nD τ sig) (ι : ℕ) : ℕ := ι

theorem LL_of_ne (g : GSem nD τ sig) (h : g.1.2 ≠ .tc) : LL g = ∅ := if_neg h
theorem mem_LL {c : Dev nD} {sm : SemLoc sig} {ι : ℕ} (h : ι < levBound) : ι ∈ LL ((c : Thread nD τ), sm) := by
  unfold LL; rw [if_pos rfl]; exact Finset.mem_range.mpr h

open Idealize.SL Idealize.SL.BI Idealize.SL.BI.BIBase Idealize.SL.Sem

/-- A wait at a level below everything still owed. -/
theorem may_wait {F : FTy → Type} (c : Dev nD) (sm : SemLoc sig) {ι t : ℕ} (hι : ι < levBound) (h : ∀ o : Ob, t ≤ o.time → ι < o.lev) :
    (levAts LL lvl : sProp (MT nD τ sig ℕ (Elt F) ℕ UU ℕ)) ⊢ MayWait (c : Thread nD τ) sm ι (owedFrom t c) := by
  refine MayOwe.of_cut (L := LL) (lev := lvl) ι (fun p hp => ?_) (fun g u hg => ?_) (fun p hp => ?_) (fun g u hg => ?_)
  · rw [Finset.mem_singleton.mp hp]; exact mem_LL hι
  · obtain ⟨o, ho, rfl, rfl⟩ := owedFrom_pos hg; exact mem_LL (lev_lt o)
  · rw [Finset.mem_singleton.mp hp]; exact le_refl _
  · obtain ⟨o, ho, rfl, rfl⟩ := owedFrom_pos hg; exact h o ho

end Cert.KernelIdeal.Hand

end

end
-- ==== Proof.Sched.lean ====
module

public import proofs.«01_k».proof.Proof.Cells

/-! # What every cell hands over

For every cell, round and duty: how much is paid and what the payment carries to the cell's device. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-- A landing place's memory, whatever it holds. -/
def placeOf (x : Dev nD × Place) : sProp 𝕄 :=
  match x.2 with
  | .inl (g, b, k) => held x.1 (rvH g b k)
  | .inr p => held x.1 (sxrH p)

instance placeOf_storable (x : Dev nD × Place) : BI.Storable (upEmb : UEmb _ 𝕄) (placeOf (F := F) x) := by
  obtain ⟨c, ⟨g, b, k⟩ | p⟩ := x <;> (unfold placeOf; infer_instance)

/-- Device `c` is ready for the arrival of step `s`: its landing place is free and its cell has come to that round. -/
def ready (c : Dev nD) (g : Fin 2) (s : ℕ) (k : Fin 2) : sProp 𝕄 :=
  iprop(released ES (c, .inl (g, slot s, k)) (s / 2 + 1) ∗ reached ER (cell c (.rs g (slot s) k)) (s / 2))

instance ready_persistent (c : Dev nD) (g : Fin 2) (s : ℕ) (k : Fin 2) : BI.Persistent (ready (F := F) c g s k) := by
  unfold ready; infer_instance
instance ready_storable (c : Dev nD) (g : Fin 2) (s : ℕ) (k : Fin 2) : BI.Storable (upEmb : UEmb _ 𝕄) (ready (F := F) c g s k) := by
  unfold ready; infer_instance

/-- Device `c` has entered: its three exchange blocks are free. -/
def entered (c : Dev nD) : sProp 𝕄 := bigSep Finset.univ fun p : Fin 3 => released ES (c, .inr p) 1

instance entered_persistent (c : Dev nD) : BI.Persistent (entered (F := F) c) := by
  unfold entered; infer_instance
instance entered_storable (c : Dev nD) : BI.Storable (upEmb : UEmb _ 𝕄) (entered (F := F) c) := by
  unfold entered; infer_instance

/-- Device `c` is ready for the first two steps of ring `g`. -/
def ready₀ (c : Dev nD) (g : Fin 2) : sProp 𝕄 :=
  bigSep Finset.univ fun sk : Fin 2 × Fin 2 => ready c g sk.1.val sk.2

instance ready₀_persistent (c : Dev nD) (g : Fin 2) : BI.Persistent (ready₀ (F := F) c g) := by
  unfold ready₀; infer_instance
instance ready₀_storable (c : Dev nD) (g : Fin 2) : BI.Storable (upEmb : UEmb _ 𝕄) (ready₀ (F := F) c g) := by
  unfold ready₀; infer_instance

/-- The first `n` credits of ring `g` on device `c`: what its next device is ready for. -/
def readyN (c : Dev nD) (g : Fin 2) (n : ℕ) : sProp 𝕄 :=
  bigSep (Finset.range n) fun i => ready (nxt g c) g (i / 2 + 2) (slot i)

instance readyN_persistent (c : Dev nD) (g : Fin 2) (n : ℕ) : BI.Persistent (readyN (F := F) c g n) := by
  unfold readyN; infer_instance
instance readyN_storable (c : Dev nD) (g : Fin 2) (n : ℕ) : BI.Storable (upEmb : UEmb _ 𝕄) (readyN (F := F) c g n) := by
  unfold readyN; infer_instance

/-- The rounds a cell goes through. -/
def roundsK : CellK → ℕ
  | .ss _ _ _ => 7
  | .rs _ _ _ => 7
  | .st _ b _ => 3 + b.val
  | _ => 1

/-- The duties of a round. -/
def dutiesK (κ : CellK) (r : ℕ) : Finset ℕ :=
  if r < roundsK κ then (match κ with | .bar => Finset.range 2 | .cr _ => Finset.range 24 | _ => {0}) else ∅

/-- A duty's amount. -/
def amtK : CellK → ℕ
  | .bar => 1
  | .cr _ => 1
  | .sxs _ => nX
  | .sxr _ => nX
  | _ => nH

/-- The ring a handshake's duty is about. -/
def ringOf (d : ℕ) : Fin 2 := if d = 0 then 0 else 1

variable (I : Inp F)

/-- What a duty carries to device `c`. -/
def payK (c : Dev nD) : CellK → ℕ → ℕ → sProp 𝕄
  | .bar, _, d => ready₀ (nxt (ringOf d) c) (ringOf d)
  | .cr g, _, d => readyN c g (d + 1)
  | .ss g b k, r, _ => own c (srcM g k (2 * r + b.val)) fullShare.left (sentV I c g k (2 * r + b.val))
  | .rs g b k, r, _ => iprop(own c (rvH g b k) fullShare (sentV I (prv g c) g k (2 * r + b.val))
      ∗ entered ((prv g)^[2 * r + b.val + 1] c))
  | .st g b k, r, _ => iprop(own c (yH (yAt (row g (2 * r + (1 - b.val)) c) g k)) fullShare (yV I c (row g (2 * r + (1 - b.val)) c) g k)
      ∗ held c (stH g b k))
  | .os g k, _, _ => iprop(own c (yH (yAt (row g 7 c) g k)) fullShare (yV I c (row g 7 c) g k) ∗ held c (accH g k))
  | .sxs _, _, _ => held c sxsM
  | .sxr p, _, _ => own c (sxrH p) fullShare (fun _ => mS I p.val (mate p c))

instance payK_storable (c : Dev nD) (κ : CellK) (r d : ℕ) : BI.Storable (upEmb : UEmb _ 𝕄) (payK I c κ r d) := by
  cases κ <;> (unfold payK; infer_instance)

/-- The schedule of all cells. -/
def sched : Rounds.Schedule (GSem nD τ sig) ℕ 𝕄 where
  duties g r := match roleOf g.2 with
    | some κ => dutiesK κ r
    | none => ∅
  unitless _ := False
  amount g _ _ := match roleOf g.2 with
    | some κ => amtK κ
    | none => 1
  payload g r d := match roleOf g.2 with
    | some κ => payK I g.1.1 κ r d
    | none => iprop(emp)
  amount_pos g _ _ _ := by
    split
    · rename_i κ _; cases κ <;> first | exact Nat.one_pos | exact nH_pos | exact nX_pos
    · exact Nat.one_pos

instance sched_storable (g : GSem nD τ sig) (r d : ℕ) : BI.Storable (upEmb : UEmb _ 𝕄) ((sched I).payload g r d) := by
  show BI.Storable upEmb (match roleOf g.2 with | some κ => payK I g.1.1 κ r d | none => iprop(emp))
  split <;> infer_instance

theorem duties_cell (c : Dev nD) (κ : CellK) (r : ℕ) : (sched I).duties (cell c κ) r = dutiesK κ r := by
  show (match roleOf (semOf κ) with | some κ => dutiesK κ r | none => ∅) = _
  rw [roleOf_semOf]
theorem amount_cell (c : Dev nD) (κ : CellK) (r d : ℕ) : (sched I).amount (cell c κ) r d = amtK κ := by
  show (match roleOf (semOf κ) with | some κ => amtK κ | none => 1) = _
  rw [roleOf_semOf]
theorem payload_cell (c : Dev nD) (κ : CellK) (r d : ℕ) : (sched I).payload (cell c κ) r d = payK I c κ r d := by
  show (match roleOf (semOf κ) with | some κ => payK I c κ r d | none => iprop(emp)) = _
  rw [roleOf_semOf]

theorem duties_after (c : Dev nD) (κ : CellK) {R : ℕ} (h : roundsK κ ≤ R) : ∀ r, R ≤ r → (sched I).duties (cell c κ) r = ∅ := by
  intro r hr; rw [duties_cell]; unfold dutiesK; exact if_neg (by omega)

/-- The cells a single duty a round pays. -/
def single : CellK → Prop
  | .bar => False
  | .cr _ => False
  | _ => True

theorem dutiesK_single {κ : CellK} (h : single κ) {r : ℕ} (hr : r < roundsK κ) : dutiesK κ r = {0} := by
  unfold dutiesK; rw [if_pos hr]; cases κ <;> first | rfl | exact h.elim

theorem expect_single (c : Dev nD) {κ : CellK} (h : single κ) {r : ℕ} (hr : r < roundsK κ) : (sched I).expect (cell c κ) r = amtK κ := by
  unfold Schedule.expect Schedule.amountOf
  rw [duties_cell, dutiesK_single h hr, Finset.sum_singleton, amount_cell]

theorem rest_single (c : Dev nD) {κ : CellK} (h : single κ) {r : ℕ} (hr : r < roundsK κ) :
    bigSep ((sched I).duties (cell c κ) r \ ∅) (fun d => (sched I).payload (cell c κ) r d) = payK I c κ r 0 := by
  rw [Finset.sdiff_empty, duties_cell, dutiesK_single h hr, bigSep_singleton, payload_cell]

theorem expect_bar (c : Dev nD) : (sched I).expect (cell c .bar) 0 = 2 := by
  unfold Schedule.expect Schedule.amountOf
  rw [duties_cell]
  simp only [amount_cell]
  show ∑ _d ∈ Finset.range 2, 1 = 2
  decide

theorem expect_cr (c : Dev nD) (g : Fin 2) : (sched I).expect (cell c (.cr g)) 0 = 24 := by
  unfold Schedule.expect Schedule.amountOf
  rw [duties_cell]
  simp only [amount_cell]
  show ∑ _d ∈ Finset.range 24, 1 = 24
  decide

theorem slot_div (s : ℕ) : 2 * (s / 2) + (slot s).val = s := Nat.div_add_mod s 2
theorem slot_div_st (n : ℕ) : 2 * (n / 2) + (1 - (slot (n + 7)).val) = n := by show 2 * (n / 2) + (1 - (n + 7) % 2) = n; omega

theorem pay_ss (c : Dev nD) (g : Fin 2) (s : ℕ) (k : Fin 2) :
    payK I c (.ss g (slot s) k) (s / 2) 0 = own c (srcM g k s) fullShare.left (sentV I c g k s) := by
  show own c (srcM g k (2 * (s / 2) + (slot s).val)) fullShare.left (sentV I c g k (2 * (s / 2) + (slot s).val)) = _
  rw [slot_div]

theorem pay_rs (c : Dev nD) (g : Fin 2) (s : ℕ) (k : Fin 2) :
    payK I c (.rs g (slot s) k) (s / 2) 0
      = iprop(own c (rvH g (slot s) k) fullShare (sentV I (prv g c) g k s) ∗ entered ((prv g)^[s + 1] c)) := by
  show iprop(own c (rvH g (slot s) k) fullShare (sentV I (prv g c) g k (2 * (s / 2) + (slot s).val))
      ∗ entered ((prv g)^[2 * (s / 2) + (slot s).val + 1] c)) = _
  rw [slot_div]

theorem pay_st (c : Dev nD) (g : Fin 2) (n : ℕ) (k : Fin 2) :
    payK I c (.st g (slot (n + 7)) k) (n / 2) 0
      = iprop(own c (yH (yAt (row g n c) g k)) fullShare (yV I c (row g n c) g k) ∗ held c (stH g (slot (n + 7)) k)) := by
  show iprop(own c (yH (yAt (row g (2 * (n / 2) + (1 - (slot (n + 7)).val)) c) g k)) fullShare
      (yV I c (row g (2 * (n / 2) + (1 - (slot (n + 7)).val)) c) g k) ∗ held c (stH g (slot (n + 7)) k)) = _
  rw [slot_div_st]

/-! ## The facts every device has -/

/-- Every cell's and every landing place's invariant, the first round of every cell, and the levels. -/
def facts (K : Dev nD × CellK → ℕ) (J : Dev nD × Place → ℕ) : sProp 𝕄 :=
  iprop((bigSep Finset.univ fun x : Dev nD × CellK => cellInv ER (sched I) (K x) (cell x.1 x.2))
    ∗ (bigSep Finset.univ fun x : Dev nD × Place => slotInv ES (J x) x (placeOf x))
    ∗ (bigSep Finset.univ fun x : Dev nD × CellK => reached ER (cell x.1 x.2) 0)
    ∗ levAts LL lvl)

instance facts_persistent (K : Dev nD × CellK → ℕ) (J : Dev nD × Place → ℕ) : BI.Persistent (facts I K J) := by
  unfold facts; infer_instance

/-- The facts, at some names. -/
def ctx : sProp 𝕄 := iprop(∃ K J, facts I K J)

instance ctx_persistent : BI.Persistent (ctx I) := by unfold ctx; infer_instance

theorem ctx_cell (c : Dev nD) (κ : CellK) : ctx I ⊢ iprop(∃ n, cellInv ER (sched I) n (cell c κ)) := by
  unfold ctx facts
  iintro ⟨%K, %J, H, -, -, -⟩
  iexists K (c, κ)
  iapply (show bigSep Finset.univ (fun x : Dev nD × CellK => cellInv ER (sched I) (K x) (cell x.1 x.2)) ⊢ cellInv ER (sched I) (K (c, κ)) (cell c κ)
    from BI.bigSep_elim (Finset.mem_univ (c, κ))); iexact H

theorem ctx_slot (x : Dev nD × Place) : ctx I ⊢ iprop(∃ n, slotInv ES n x (placeOf (F := F) x)) := by
  unfold ctx facts
  iintro ⟨%K, %J, -, H, -, -⟩
  iexists J x
  iapply (show bigSep Finset.univ (fun x : Dev nD × Place => slotInv ES (J x) x (placeOf (F := F) x)) ⊢ slotInv ES (J x) x (placeOf x)
    from BI.bigSep_elim (Finset.mem_univ x)); iexact H

theorem ctx_slot_rv (c : Dev nD) (g b k : Fin 2) : ctx I ⊢ iprop(∃ n, slotInv ES n (c, .inl (g, b, k)) (held (F := F) c (rvH g b k))) :=
  ctx_slot I (c, .inl (g, b, k))

theorem ctx_slot_sx (c : Dev nD) (p : Fin 3) : ctx I ⊢ iprop(∃ n, slotInv ES n (c, .inr p) (held (F := F) c (sxrH p))) :=
  ctx_slot I (c, .inr p)

theorem ctx_reached (c : Dev nD) (κ : CellK) : ctx I ⊢ reached ER (cell c κ) 0 := by
  unfold ctx facts
  iintro ⟨%K, %J, -, -, H, -⟩
  iapply (show bigSep Finset.univ (fun x : Dev nD × CellK => (reached ER (cell x.1 x.2) 0 : sProp 𝕄)) ⊢ reached ER (cell c κ) 0
    from BI.bigSep_elim (Finset.mem_univ (c, κ))); iexact H

theorem ctx_lev : ctx I ⊢ levAts LL lvl := by
  unfold ctx facts
  iintro ⟨%K, %J, -, -, -, H⟩
  iexact H

/-- What device `c` owes from time `t` on, whatever it has waited for. -/
def due (c : Dev nD) (t : ℕ) : sProp 𝕄 := iprop(∃ W, owes (c : Thread nD τ) (owedFrom t c) W)

omit [FloatOps F] in
theorem due_skip {c : Dev nD} {t t' : ℕ} (h : ∀ o : Ob, t ≤ o.time ↔ t' ≤ o.time) : due (F := F) c t ⊢ due c t' := by
  unfold due; rw [owedFrom_skip h]

end Cert.KernelIdeal.Hand

end

end
-- ==== Proof.Ops.lean ====
module

public import proofs.«01_k».proof.Proof.Sched

/-! # The operations

What each signal, wait and transfer of the body takes and gives back. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-- One program after another. -/
theorem wp_seq {c : Dev nD} {α β : Type} {p : KProg F α} {k : α → KProg F β} {Q : β → sProp 𝕄} :
    WP c p (fun a => WP c (k a) Q) ⊢ WP c (p >>= k) Q := by
  unfold WP; rw [wp_bind]

/-- A finished program. -/
theorem wp_done {c : Dev nD} {α : Type} {x : α} {Q : α → sProp 𝕄} : Q x ⊢ WP (F := F) c (.ret x) Q := by
  iintro H
  unfold WP
  rw [wp_ret]
  imodintro
  iexact H

variable (I : Inp F)

/-- A wait for a whole round of a cell a single transfer pays a round. -/
theorem wait_spec {c : Dev nD} (κ : CellK) (hκ : single κ) (r : ℕ) (hr : r < roundsK κ) {t : ℕ} (ι : ℕ) (hι : ι < levBound)
    (hw : ∀ o : Ob, t ≤ o.time → ι < o.lev) {sp sp' : Space} {sh : Shape} {e : EltTy} {src : Memref sig .tc sp sh e} {dst : Memref sig .tc sp' sh e}
    {h₁ : src.view.WordExact} {h₂ : dst.view.WordExact} {sm : DmaSem sig} (hsm : semOf κ = .dma sm) (ha : dst.view.dmaCredit = amtK κ)
    {Q : PUnit → sProp 𝕄} :
    iprop(ctx I ∗ cred (tallyAt (cell c κ) ι (amtK κ)) ∗ due c t ∗ atPos ER (cell c κ) r ∅ 0)
      ⊢ iprop(((due c t ∗ atPos ER (cell c κ) (r + 1) ∅ 0 ∗ reached ER (cell c κ) (r + 1) ∗ payK I c κ r 0) -∗ Q ⟨⟩)
          -∗ WP c (Prog.lift (.waitDma2 sm src dst h₁ h₂)) Q) := by
  have he := expect_single I c hκ hr
  have hp := rest_single I c hκ hr
  have hcx := ctx_cell I c κ
  unfold due cell at *
  rw [← ha] at *
  generalize semOf κ = sm' at *
  subst hsm
  unfold Prog.lift
  iintro ⟨#Hctx, Hc, ⟨%W, HO⟩, Hat⟩ Hk
  ihave #Hi := hcx $$ Hctx
  icases Hi with ⟨%n, Hi⟩
  ihave #Hl := (ctx_lev I) $$ Hctx
  iapply (Rounds.wp_wait_rest_token 𝒱₀ ER (sched I) (c : Thread nD τ) none (κ := n)
      (wpE_waitDma2_eq 𝒱₀ (c : Thread nD τ) none Set.univ) (Set.mem_univ _) ι (O := owedFrom t c) (W := W) (R := r) (m := 0) (T := ∅)
      (by rw [Nat.zero_add, he])) $$ [Hc HO Hat]
  · isplitr; · iexact Hi
    isplitl [Hc]; · iexact Hc
    isplitl [HO]; · iexact HO
    isplitr; · iapply (may_wait c _ hι hw); iexact Hl
    iexact Hat
  iintro ⟨HO, Hat, Hr, Hp⟩
  ihave Hp := (Entails.of_eq hp) $$ Hp
  rw [wp_ret]
  imodintro
  iapply Hk
  isplitl [HO]; · iexists _; iexact HO
  isplitl [Hat]; · iexact Hat
  isplitl [Hr]; · iexact Hr
  iexact Hp

/-- A half sent into half `k` of slab `s` of device `n`'s ring `g`. -/
def sendTo (n : Dev nD) (g : Fin 2) (s : ℕ) (k : Fin 2) (src : Memref sig .tc .vmem S512x512 .f32)
    (h : src.view.WordExact) : KProg F PUnit :=
  Prog.lift (.enqueueDma src (.remote (Dev.tc n) (rvH g (slot s) k) (.dma (sem22 (ssS g) (slot s) k)))
    (.dma (sem22 (rsS g) (slot s) k)) h ((View.wordExact_bits rfl).reshape _ _) ⟨⟨rfl, Or.inl rfl⟩, trivial⟩)

theorem send_eq (c : Dev nD) (g : Fin 2) (s : ℕ) (k : Fin 2) (src : Memref sig .tc .vmem S512x512 .f32) (h : src.view.WordExact) :
    send (F := F) (places c) g s k src h = sendTo (nxt g c) g s k src h := by
  rw [← places_dst]; rfl

/-- Step `s` is sent: the next device's landing place is taken and its arrival paid; the right share of
    the source stays. -/
theorem send_spec {c : Dev nD} (g : Fin 2) (s : Fin 14) (k : Fin 2) (ι : ℕ) {src : Memref sig .tc .vmem S512x512 .f32} (hsrc : src = srcM g k s.val)
    {h : src.view.WordExact} {t t' : ℕ} (ht : t = (Ob.snd g k s).time) (ht' : t' = t + 1) {Q : PUnit → sProp 𝕄} :
    iprop(ctx I ∗ own c src fullShare (sentV I c g k s.val) ∗ ready (nxt g c) g s.val k ∗ entered ((prv g)^[s.val] c)
        ∗ writeTok ES (nxt g c, .inl (g, slot s.val, k)) (s.val / 2 + 1)
        ∗ dutyTok ER (cell c (.ss g (slot s.val) k)) (s.val / 2) 0 ∗ reached ER (cell c (.ss g (slot s.val) k)) (s.val / 2)
        ∗ dutyTok ER (cell (nxt g c) (.rs g (slot s.val) k)) (s.val / 2) 0 ∗ due c t)
      ⊢ iprop(((own c src fullShare.right (sentV I c g k s.val) ∗ cred (tallyAt (cell c (.ss g (slot s.val) k)) ι nH) ∗ due c t') -∗ Q ⟨⟩)
          -∗ WP c (send (places c) g s.val k src h) Q) := by
  subst hsrc ht ht'
  have hs : s.val / 2 < 7 := by have := s.isLt; omega
  have hmem : ∀ (d : Dev nD) (κ : CellK), single κ → s.val / 2 < roundsK κ → 0 ∈ (sched I).duties (cell d κ) (s.val / 2) := fun d κ h1 h2 => by
    rw [duties_cell, dutiesK_single h1 h2]; exact Finset.mem_singleton_self _
  rw [send_eq]
  unfold sendTo Prog.lift
  unfold due ready
  iintro ⟨#Hctx, Hsrc, ⟨#Hrel, #Hrr⟩, #Hent, Hw, Hts, #Hrs, Htr, ⟨%W, HO⟩⟩ Hk
  ihave Hi₁ := (ctx_cell I c (.ss g (slot s.val) k)) $$ Hctx
  icases Hi₁ with ⟨%n₁, #Hi₁⟩
  ihave Hi₂ := (ctx_cell I (nxt g c) (.rs g (slot s.val) k)) $$ Hctx
  icases Hi₂ with ⟨%n₂, #Hi₂⟩
  ihave Hi₃ := (ctx_slot I (nxt g c, .inl (g, slot s.val, k))) $$ Hctx
  icases Hi₃ with ⟨%n₃, #Hi₃⟩
  imod (slot_take ES (Set.mem_univ n₃) (s.val / 2 + 1)) $$ [Hw] with Hpl
  · isplitr; · iexact Hi₃
    isplitr; · iexact Hrel
    iexact Hw
  ihave Hh := (Entails.of_eq (show placeOf (F := F) (nxt g c, .inl (g, slot s.val, k)) = held (nxt g c) (rvH g (slot s.val) k) from rfl)) $$ Hpl
  ihave Hs := (owns_halves (c : Thread nD τ) (srcM g k s.val) fullShare (sentV I c g k s.val)).mp $$ Hsrc
  icases Hs with ⟨Hl, Hr⟩
  unfold held own owns
  icases Hh with ⟨%X, %fd, -, Hd⟩
  icases Hl with ⟨%fs, %hfs, Hl⟩
  iapply (Rounds.wp_send_pointsTo_with 𝒱₀ ER (sched I) (c : Thread nD τ) none (κ₁ := n₁) (κ₂ := n₂) (r₁ := s.val / 2) (r₂ := s.val / 2) (d₁ := 0) (d₂ := 0)
      (F := entered ((prv g)^[s.val] c)) (q := fullShare.left) (fs := fs) (fd := fd)
      (hmem c (.ss g (slot s.val) k) trivial hs) (hmem (nxt g c) (.rs g (slot s.val) k) trivial hs)
      (Ob.snd g k s).lev ι nH (credit_rv g _ k) (amount_cell I c (.ss g (slot s.val) k) _ _) (amount_cell I (nxt g c) (.rs g (slot s.val) k) _ _)
      (owedFrom ((Ob.snd g k s).time + 1) c) (owedFrom_pay (Ob.snd g k s) c) (W := W)
      (by
        refine .trans ?_ (Entails.of_eq ((payload_cell I c (.ss g (slot s.val) k) (s.val / 2) 0).trans (pay_ss I c g s.val k)).symm)
        unfold own owns
        iintro H; iexists fs
        isplitr; · ipureintro; exact hfs
        iexact H)
      (by
        refine .trans ?_ (Entails.of_eq ((payload_cell I (nxt g c) (.rs g (slot s.val) k) (s.val / 2) 0).trans (pay_rs I (nxt g c) g s.val k)).symm)
        rw [prv_nxt, Function.iterate_succ_apply, prv_nxt]
        unfold own owns
        iintro ⟨H, He⟩
        isplitl [H]
        · iexists _
          isplitr; swap; · iexact H
          ipureintro
          rw [View.read_write_univ, hfs]
        · iexact He)) $$ [Hl Hd HO Hts Htr]
  · isplitr; · iexact Hi₁
    isplitr; · iexact Hi₂
    isplitl [Hl]; · iexact Hl
    isplitl [Hd]
    · isplitl [Hd]; · iexact Hd
      iexact Hent
    isplitl [HO]; · iexact HO
    isplitl [Hts]; · iexact Hts
    isplitr; · iexact Hrs
    isplitl [Htr]; · iexact Htr
    iexact Hrr
  iintro ⟨Hc, HO⟩
  rw [wp_ret]
  imodintro
  iapply Hk
  isplitl [Hr]; · iexact Hr
  isplitl [Hc]; · iexact Hc
  iexists _; iexact HO

/-- A credit, or an entry signal: a unit paid to a register cell of the device `d`. -/
theorem signal_spec {c d : Dev nD} (o : Ob) (hd : d = o.payee c) (κ : CellK) (hκ : o.role = κ) (ha : o.amt = 1) (ha' : amtK κ = 1)
    (n : ℕ) (hn : n ∈ dutiesK κ 0) {sm : Sem sig} (hsm : semOf κ = .reg sm) {t t' : ℕ} (ht : t = o.time) (ht' : t' = t + 1) {Q : PUnit → sProp 𝕄} :
    iprop(ctx I ∗ dutyTok ER (cell (o.payee c) κ) 0 n ∗ payK I (o.payee c) κ 0 n ∗ due c t)
      ⊢ iprop((due c t' -∗ Q ⟨⟩) -∗ WP c (semSignalWord d sm 1#32) Q) := by
  subst hd hκ ht ht'
  have hp := payload_cell I (o.payee c) o.role 0 n
  have hdu := duties_cell I (o.payee c) o.role 0
  have ham := amount_cell I (o.payee c) o.role 0 n
  have hpay := owedFrom_pay o c
  have hcx := ctx_cell I (o.payee c) o.role
  have hrx := ctx_reached I (o.payee c) o.role
  unfold Ob.tally at hpay
  rw [ha] at hpay
  unfold due cell at *
  generalize semOf o.role = sm' at *
  subst hsm
  rw [← hp]
  iintro ⟨#Hctx, Ht, Hp, ⟨%W, HO⟩⟩ Hk
  ihave Hi := hcx $$ Hctx
  icases Hi with ⟨%m, #Hi⟩
  ihave #Hr := hrx $$ Hctx
  simp only [semSignalWord, Prog.lift]
  iapply (Rounds.wp_signal 𝒱₀ ER (sched I) (c : Thread nD τ) none (dst := (o.payee c : Thread nD τ)) (κ := m) (r := 0) (d := n)
      (by rw [hdu]; exact hn) (k' := 1) (ham.trans ha') o.lev (O₀ := owedFrom o.time c) (owedFrom (o.time + 1) c) hpay (W := W)) $$ [HO Ht Hp]
  · isplitr; · iexact Hi
    isplitl [HO]; · iexact HO
    isplitl [Ht]; · iexact Ht
    isplitl [Hp]; · iexact Hp
    iexact Hr
  iintro HO
  rw [wp_ret]
  imodintro
  iapply Hk
  iexists _; iexact HO

/-- Ring `g`'s credit cell after `m` credits. -/
def crPos (c : Dev nD) (g : Fin 2) (m : ℕ) : sProp 𝕄 :=
  iprop(∃ T : Finset ℕ, ⌜T ⊆ Finset.range 24 ∧ m ≤ T.card⌝ ∗ atPos ER (cell c (.cr g)) 0 T m ∗ bigSep T fun d => readyN c g (d + 1))

omit [FloatOps F] in
theorem readyN_get {c : Dev nD} {g : Fin 2} {n : ℕ} (i : ℕ) (h : i < n) : readyN (F := F) c g n ⊢ ready (nxt g c) g (i / 2 + 2) (slot i) := by
  unfold readyN
  exact BI.bigSep_elim (Φ := fun i => ready (F := F) (nxt g c) g (i / 2 + 2) (slot i)) (Finset.mem_range.mpr h)

/-- The `m`-th credit's wait: the next device is ready once more. -/
theorem credit_wait {c : Dev nD} (g : Fin 2) (m : ℕ) {t : ℕ} (ι : ℕ) (hι : ι < levBound)
    (hw : ∀ o : Ob, t ≤ o.time → ι < o.lev) {Q : PUnit → sProp 𝕄} :
    iprop(ctx I ∗ cred (tallyAt (cell c (.cr g)) ι 1) ∗ due c t ∗ crPos c g m)
      ⊢ iprop(((due c t ∗ crPos c g (m + 1) ∗ ready (nxt g c) g (m / 2 + 2) (slot m)) -∗ Q ⟨⟩)
          -∗ WP c (semWaitWord (crS g).sem 1#32) Q) := by
  have he := expect_cr I c g
  have hdu := duties_cell I c (.cr g) 0
  have hp := payload_cell I c (.cr g) 0
  unfold due crPos
  iintro ⟨#Hctx, Hc, ⟨%W, HO⟩, ⟨%T, %hT, Hat, #HT⟩⟩ Hk
  ihave Hi := (ctx_cell I c (.cr g)) $$ Hctx
  icases Hi with ⟨%n, #Hi⟩
  ihave #Hl := (ctx_lev I) $$ Hctx
  simp only [semWaitWord, Prog.lift]
  iapply (Rounds.wp_wait 𝒱₀ ER (sched I) (c : Thread nD τ) none (κ := n) (sm := .reg (crS g).sem) (k' := 1)
      (wpE_semWait_eq 𝒱₀ (c : Thread nD τ) none Set.univ) (Set.mem_univ _) (cr := Finsupp.single ι 1) (O := owedFrom t c) (W := W)
      {(SemLoc.reg (crS g).sem, ι)} (R := 0) (m := m) (T := T)
      (by rw [Util.total_single]) (image_single_subset _ _ _)) $$ [Hc HO Hat]
  · isplitr; · iexact Hi
    isplitl [Hc]; · iexact Hc
    isplitl [HO]; · iexact HO
    isplitr; · iapply (may_wait c (.reg (crS g).sem) hι hw); iexact Hl
    iexact Hat
  iintro %S ⟨%hS, HO, Hat, Hp⟩
  obtain ⟨hTS, hSd, hcard⟩ := hS
  have hSd' : S ⊆ Finset.range 24 := by
    refine hSd.trans (Finset.Subset.refl _ |>.trans ?_)
    show (sched I).duties (cell c (.cr g)) 0 ⊆ _
    rw [hdu]; exact Finset.Subset.refl _
  have hcard' : m + 1 ≤ S.card := by
    have h1 : m + 1 + ((sched I).duties (cell c (.cr g)) 0 \ S).card ≤ (sched I).expect (cell c (.cr g)) 0 := hcard
    rw [he, hdu] at h1
    have h2 : (Finset.range 24 \ S).card = 24 - S.card := by rw [Finset.card_sdiff_of_subset hSd', Finset.card_range]
    have h3 : S.card ≤ 24 := by simpa using Finset.card_le_card hSd'
    have h4 : m + 1 + (Finset.range 24 \ S).card ≤ 24 := h1
    omega
  have hbig : ∃ d ∈ S, m ≤ d := by
    by_contra hn
    push Not at hn
    have : S ⊆ Finset.range m := fun d hd => Finset.mem_range.mpr (hn d hd)
    have := Finset.card_le_card this
    rw [Finset.card_range] at this
    omega
  obtain ⟨d, hd, hmd⟩ := hbig
  have hpS : bigSep (S \ T) (fun d => (sched I).payload ((c : Thread nD τ), .reg (crS g).sem) 0 d) ⊢ bigSep (S \ T) (fun d => readyN (F := F) c g (d + 1)) :=
    Entails.of_eq (bigSep_congr fun d _ => hp d)
  ihave #Hp' := hpS $$ Hp
  have hj : iprop(bigSep T (fun d => readyN (F := F) c g (d + 1)) ∗ bigSep (S \ T) (fun d => readyN (F := F) c g (d + 1)))
      ⊢ bigSep S (fun d => readyN (F := F) c g (d + 1)) := by
    refine .trans (Entails.of_eq (BI.bigSep_union (Φ := fun d => readyN (F := F) c g (d + 1)) (Finset.disjoint_sdiff (s := T) (t := S))).symm) ?_
    rw [Finset.union_sdiff_of_subset hTS]
  ihave #HS := hj $$ [HT Hp']
  · isplitr <;> iassumption
  have hget : bigSep S (fun d => readyN (F := F) c g (d + 1)) ⊢ ready (nxt g c) g (m / 2 + 2) (slot m) :=
    (show bigSep S (fun d => readyN (F := F) c g (d + 1)) ⊢ readyN c g (d + 1) from BI.bigSep_elim hd).trans (readyN_get m (by omega))
  ihave #Hg := hget $$ HS
  rw [wp_ret]
  imodintro
  iapply Hk
  isplitl [HO]; · iexists _; iexact HO
  isplitl [Hat]
  · iexists S
    isplitr; · ipureintro; exact ⟨hSd', hcard'⟩
    isplitl [Hat]; · iexact Hat
    iexact HS
  iexact Hg

/-- A local copy of a half to a block of the result: both come with the wait. -/
theorem copy_spec {c : Dev nD} (κ : CellK) (hκ : single κ) (r : ℕ) (hr : r < roundsK κ) (ι : ℕ) {sp sp' : Space}
    {src : Memref sig .tc sp S512x512 .f32} {dst : Memref sig .tc sp' S512x512 .f32}
    {hsrc : src.view.WordExact} {hdst : dst.view.WordExact} {sm : DmaSem sig} {hsem : DmaTarget.Typed (nD := nD) (p := (.tc : Proc τ)) sp (.dma sm) (.here dst)}
    (hsm : semOf κ = .dma sm) (ha : dst.view.dmaCredit = amtK κ) {X : S512x512.Idx → Elt F .f32}
    (hp : payK I c κ r 0 = iprop(own c dst fullShare X ∗ held c src)) {Q : PUnit → sProp 𝕄} :
    iprop(ctx I ∗ own c src fullShare X ∗ held c dst ∗ dutyTok ER (cell c κ) r 0 ∗ reached ER (cell c κ) r)
      ⊢ iprop((cred (tallyAt (cell c κ) ι (amtK κ)) -∗ Q ⟨⟩)
          -∗ WP c (Prog.lift (.enqueueDma src (.here dst) (.dma sm) hsrc hdst hsem)) Q) := by
  have hdu := (duties_cell I c κ r).trans (dutiesK_single hκ hr)
  have hpl := payload_cell I c κ r 0
  have ham := amount_cell I c κ r 0
  rw [hp] at hpl
  have hcx := ctx_cell I c κ
  unfold cell at *
  generalize semOf κ = sm' at *
  subst hsm
  unfold Prog.lift
  iintro ⟨#Hctx, Hs, Hd, Ht, #Hr⟩ Hk
  ihave Hi := hcx $$ Hctx
  icases Hi with ⟨%n, #Hi⟩
  unfold held own owns at *
  icases Hs with ⟨%fs, %hfs, Hs⟩
  icases Hd with ⟨%X', %fd, -, Hd⟩
  iapply (Rounds.wp_copy_pointsTo 𝒱₀ ER (sched I) (c : Thread nD τ) none (κ := n) (r := r) (d := 0)
      (src := src) (dst := dst) (sem := .dma sm) (q := fullShare) (fs := fs) (fd := fd) (by rw [hdu]; exact Finset.mem_singleton_self _) ι (amtK κ) ha ham
      (by
        rw [hpl]
        iintro ⟨H, H'⟩
        isplitl [H]
        · iexists _
          isplitr; swap; · iexact H
          ipureintro
          rw [View.read_write_univ, hfs]
        · iexists _; iexists _
          isplitr; swap; · iexact H'
          ipureintro; rfl)) $$ [Hs Hd Ht]
  · isplitr; · iexact Hi
    isplitl [Hs]; · iexact Hs
    isplitl [Hd]; · iexact Hd
    isplitl [Ht]; · iexact Ht
    iexact Hr
  iintro Hc
  rw [wp_ret]
  imodintro
  iapply Hk
  iexact Hc

end Cert.KernelIdeal.Hand

end

end
-- ==== Proof.Steps.lean ====
module

public import proofs.«01_k».proof.Proof.Ops

/-! # A half's way round its ring

The state of one half of one ring between two steps, and each part of a step. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ## The order -/

theorem slot_two (s : ℕ) : slot (s + 2) = slot s := by unfold slot; simp
theorem div_two (s : ℕ) : (s + 2) / 2 = s / 2 + 1 := by omega

theorem tm_lt {s : ℕ} (h : s ≤ 14) (g k : Fin 2) {d : ℕ} (hd : d ≤ 9) : tm (uu s) g k + d < levBound := by
  have := g.isLt; have := k.isLt
  unfold tm uu levBound; split <;> omega

/-- Everything owed when a half's turn comes is waited for later than its arrival. -/
theorem lev_turn {s : ℕ} {g k : Fin 2} {t ι : ℕ} (ht : tm (uu s) g k ≤ t) (hι : ι ≤ tm (uu s) g k + 3) (o : Ob) (h : t ≤ o.time) : ι < o.lev := by
  have := g.isLt; have := k.isLt
  cases o with
  | bar g' => have := g'.isLt; simp only [Ob.time, Ob.lev, tm, uu] at *; split at ht <;> omega
  | snd g' k' s' =>
    have := g'.isLt; have := k'.isLt; have := s'.isLt
    simp only [Ob.time, Ob.lev, tm, uu] at *; split_ifs at * <;> omega
  | crd g' k' s' =>
    have := g'.isLt; have := k'.isLt; have := s'.isLt
    simp only [Ob.time, Ob.lev, tm, uu] at *; split_ifs at * <;> omega
  | sx p => have := p.isLt; simp only [Ob.time, Ob.lev, tm, uu] at *; split_ifs at * <;> simp at * <;> omega

/-- Everything owed after a half's credit is waited for later than its own credit. -/
theorem lev_credit {s : ℕ} {g k : Fin 2} (o : Ob) (h : tm (uu s) g k + 4 ≤ o.time) : tm (uu s) g k + 4 < o.lev := by
  have := g.isLt; have := k.isLt
  cases o with
  | bar g' => have := g'.isLt; simp only [Ob.time, Ob.lev, tm, uu] at *; split at h <;> omega
  | snd g' k' s' =>
    have := g'.isLt; have := k'.isLt; have := s'.isLt
    simp only [Ob.time, Ob.lev, tm, uu] at *; split_ifs at * <;> omega
  | crd g' k' s' =>
    have := g'.isLt; have := k'.isLt; have := s'.isLt
    simp only [Ob.time, Ob.lev, tm, uu] at *; split_ifs at * <;> omega
  | sx p => have := p.isLt; simp only [Ob.time, Ob.lev, tm, uu] at *; split_ifs at * <;> simp at * <;> omega

/-- Within a turn nothing is paid but at its third and fifth place. -/
theorem turn_skip {s : ℕ} {g k : Fin 2} {d d' : ℕ} (hd : (d = 0 ∧ d' = 3) ∨ (d = 4 ∧ d' = 5) ∨ (d = 6 ∧ d' = 10)) (o : Ob) :
    tm (uu s) g k + d ≤ o.time ↔ tm (uu s) g k + d' ≤ o.time := by
  have := g.isLt; have := k.isLt
  cases o with
  | bar g' => have := g'.isLt; simp only [Ob.time, tm, uu] at *; split <;> omega
  | snd g' k' s' =>
    have := g'.isLt; have := k'.isLt; have := s'.isLt
    simp only [Ob.time, tm, uu] at *; split_ifs <;> omega
  | crd g' k' s' =>
    have := g'.isLt; have := k'.isLt; have := s'.isLt
    simp only [Ob.time, tm, uu] at *; split_ifs <;> omega
  | sx p => have := p.isLt; simp only [Ob.time, tm, uu] at *; split_ifs <;> simp <;> omega

/-! ## The state -/

omit [FloatOps F] in
/-- The first of a run of resources. -/
theorem ico_take {Φ : ℕ → sProp 𝕄} {a b : ℕ} (h : a < b) : bigSep (Finset.Ico a b) Φ ⊢ iprop(Φ a ∗ bigSep (Finset.Ico (a + 1) b) Φ) := by
  have he : Finset.Ico a b = insert a (Finset.Ico (a + 1) b) := by ext x; simp only [Finset.mem_Ico, Finset.mem_insert]; omega
  rw [he]
  exact Entails.of_eq (BI.bigSep_insert (by simp))

omit [FloatOps F] in
/-- The last of a run of resources. -/
theorem range_put {Φ : ℕ → sProp 𝕄} {n : ℕ} : iprop(bigSep (Finset.range n) Φ ∗ Φ n) ⊢ bigSep (Finset.range (n + 1)) Φ := by
  rw [Finset.range_add_one]
  refine .trans (show iprop(bigSep (Finset.range n) Φ ∗ Φ n) ⊢ iprop(Φ n ∗ bigSep (Finset.range n) Φ) from ?_)
    (Entails.of_eq (BI.bigSep_insert Finset.notMem_range_self).symm)
  iintro ⟨H, H'⟩
  isplitl [H'] <;> iassumption

/-- What sending at step `j` spends. -/
def sendSup (c : Dev nD) (g k : Fin 2) (j : ℕ) : sProp 𝕄 :=
  iprop(dutyTok ER (cell c (.ss g (slot j) k)) (j / 2) 0 ∗ dutyTok ER (cell (nxt g c) (.rs g (slot j) k)) (j / 2) 0
    ∗ writeTok ES (nxt g c, .inl (g, slot j, k)) (j / 2 + 1))
/-- The right to wait for what step `j` brings. -/
def rsC (c : Dev nD) (g k : Fin 2) (j : ℕ) : sProp 𝕄 := cred (tallyAt (cell c (.rs g (slot j) k)) (tm (uu j) g k + 3) nH)
/-- The credit given for step `j`. -/
def crT (c : Dev nD) (g k : Fin 2) (j : ℕ) : sProp 𝕄 := dutyTok ER (cell (prv g c) (.cr g)) 0 (2 * j + k.val)
/-- The right to wait for the credit for step `j`. -/
def crC (c : Dev nD) (g k : Fin 2) (j : ℕ) : sProp 𝕄 := cred (tallyAt (cell c (.cr g)) (tm (uu (j + 1)) g k + 4) 1)
/-- The level of the wait for the send of step `s`. -/
def ssI (g k : Fin 2) (s : ℕ) : ℕ := tm (uu s) g k + 1
/-- The send of step `s`, under way. -/
def ssC (c : Dev nD) (g k : Fin 2) (s : ℕ) : sProp 𝕄 := cred (tallyAt (cell c (.ss g (slot s) k)) (ssI g k s) nH)

/-- The half's cells before step `s`. -/
def spots (c : Dev nD) (g k : Fin 2) (s : ℕ) : sProp 𝕄 :=
  iprop(atPos ER (cell c (.ss g (slot s) k)) (s / 2) ∅ 0 ∗ atPos ER (cell c (.ss g (slot (s + 1)) k)) ((s + 1) / 2) ∅ 0
    ∗ atPos ER (cell c (.rs g (slot s) k)) (s / 2) ∅ 0 ∗ atPos ER (cell c (.rs g (slot (s + 1)) k)) ((s + 1) / 2) ∅ 0
    ∗ reached ER (cell c (.ss g (slot (s + 1)) k)) ((s + 1) / 2) ∗ reached ER (cell c (.rs g (slot (s + 1)) k)) ((s + 1) / 2))

/-- The devices whose blocks have passed, all entered. -/
def ents (c : Dev nD) (g : Fin 2) (s : ℕ) : sProp 𝕄 := bigSep (Finset.range (s + 1)) fun j => entered ((prv g)^[j] c)

instance ents_persistent (c : Dev nD) (g : Fin 2) (s : ℕ) : BI.Persistent (ents (F := F) c g s) := by unfold ents; infer_instance

omit [FloatOps F] in
theorem ents_get {c : Dev nD} {g : Fin 2} {s : ℕ} (j : ℕ) (h : j ≤ s) : ents (F := F) c g s ⊢ entered ((prv g)^[j] c) := by
  unfold ents
  exact BI.bigSep_elim (Φ := fun j => entered (F := F) ((prv g)^[j] c)) (Finset.mem_range.mpr (by omega))
omit [FloatOps F] in
theorem ents_succ {c : Dev nD} {g : Fin 2} {s : ℕ} : iprop(ents (F := F) c g s ∗ entered ((prv g)^[s + 1] c)) ⊢ ents c g (s + 1) := by
  unfold ents
  exact range_put (Φ := fun j => entered (F := F) ((prv g)^[j] c))

/-- The half's landing places as their reader before step `s`. -/
def readers (c : Dev nD) (g k : Fin 2) (s : ℕ) : sProp 𝕄 :=
  iprop(readerAt ES (c, .inl (g, slot s, k)) (s / 2 + 1)
    ∗ readerAt ES (c, .inl (g, slot (s + 1), k)) (if s ≤ 7 then (s + 1) / 2 + 1 else (s + 1) / 2))

/-- The next credit to give before step `s`. -/
def nextC (s : ℕ) : ℕ := if s ≤ 7 then s else s - 1

variable (I : Inp F)

/-- What a half has besides its memory once step `s` has arrived. -/
def mid (c : Dev nD) (g k : Fin 2) (s : ℕ) : sProp 𝕄 :=
  iprop(reached ER (cell c (.ss g (slot (s + 1)) k)) ((s + 1) / 2) ∗ spots c g k (s + 1) ∗ ents c g (s + 1)
    ∗ bigSep (Finset.Ico (s + 1) 14) (sendSup c g k) ∗ bigSep (Finset.Ico (s + 1) 14) (rsC c g k)
    ∗ bigSep (Finset.Ico (nextC (s + 1)) 12) (crT c g k) ∗ readers c g k (s + 1))

/-- The half after its send of step `s`. -/
def lane (c : Dev nD) (g k : Fin 2) (s : ℕ) : sProp 𝕄 :=
  iprop(own c (srcM g k s) fullShare.right (sentV I c g k s) ∗ ssC c g k s ∗ spots c g k s ∗ ents c g s
    ∗ bigSep (Finset.Ico (s + 1) 14) (sendSup c g k) ∗ bigSep (Finset.Ico s 14) (rsC c g k)
    ∗ bigSep (Finset.Ico (nextC s) 12) (crT c g k) ∗ bigSep (Finset.Ico (s - 1) 12) (crC c g k) ∗ readers c g k s)

/-- The slab staged for step `s`: the product of that step's row block. -/
def staged (c : Dev nD) (g : Fin 2) (s : ℕ) : sProp 𝕄 :=
  iprop(∃ X, ⌜∀ i, X ((slabR (slot s)).emb (Shape.reshapeEquiv (s := S1x512x1024) (s' := S512x1024) (by decide) i)) = prodV I c g (row g (s + 1) c) i⌝
    ∗ own c (stM g) fullShare X)

/-! ## The parts of a step -/

/-- The wait for a send: the source is whole again. -/
theorem waitSend_spec {c : Dev nD} (g k : Fin 2) (s : ℕ) (hs : s ≤ 13) {src : Memref sig .tc .vmem S512x512 .f32} (hsrc : src = srcM g k s)
    {h : src.view.WordExact} (ha : src.view.dmaCredit = nH) {t : ℕ} (ht : tm (uu s) g k ≤ t) {Q : PUnit → sProp 𝕄} :
    iprop(ctx I ∗ own c src fullShare.right (sentV I c g k s) ∗ ssC c g k s ∗ atPos ER (cell c (.ss g (slot s) k)) (s / 2) ∅ 0 ∗ due c t)
      ⊢ iprop(((own c src fullShare (sentV I c g k s) ∗ atPos ER (cell c (.ss g (slot s) k)) (s / 2 + 1) ∅ 0
            ∗ reached ER (cell c (.ss g (slot s) k)) (s / 2 + 1) ∗ due c t) -∗ Q ⟨⟩)
          -∗ WP c (waitSend g s k src h) Q) := by
  subst hsrc
  unfold waitSend ssC
  iintro ⟨#Hctx, Hr, Hc, Hat, HO⟩ Hk
  iapply (wait_spec I (.ss g (slot s) k) trivial (s / 2) (by show s / 2 < 7; omega) (t := t) (ssI g k s) (tm_lt (hs.trans (by omega)) g k (by omega))
    (lev_turn ht (by unfold ssI; omega)) (src := rvH g (slot s) k) (dst := srcM g k s) (h₁ := rvH_exact g _ k) (h₂ := h) rfl ha) $$ [Hc Hat HO]
  · isplitr; · iexact Hctx
    isplitl [Hc]; · iexact Hc
    isplitl [HO]; · iexact HO
    iexact Hat
  iintro ⟨HO, Hat, Hre, Hp⟩
  ihave Hl := (Entails.of_eq (pay_ss I c g s k)) $$ Hp
  iapply Hk
  isplitl [Hl Hr]
  · iapply (owns_halves (c : Thread nD τ) (srcM g k s) fullShare (sentV I c g k s)).mpr
    isplitl [Hl]; · iexact Hl
    iexact Hr
  isplitl [Hat]; · iexact Hat
  isplitl [Hre]; · iexact Hre
  iexact HO

/-- The wait for an arrival. -/
theorem waitRecv_spec {c : Dev nD} (g k : Fin 2) (s : ℕ) (hs : s ≤ 13) {src : Memref sig .tc .vmem S512x512 .f32}
    {h : src.view.WordExact} {t : ℕ} (ht : tm (uu s) g k ≤ t) {Q : PUnit → sProp 𝕄} :
    iprop(ctx I ∗ rsC c g k s ∗ atPos ER (cell c (.rs g (slot s) k)) (s / 2) ∅ 0 ∗ due c t)
      ⊢ iprop(((own c (rvH g (slot s) k) fullShare (sentV I (prv g c) g k s) ∗ entered ((prv g)^[s + 1] c)
            ∗ atPos ER (cell c (.rs g (slot s) k)) (s / 2 + 1) ∅ 0
            ∗ reached ER (cell c (.rs g (slot s) k)) (s / 2 + 1) ∗ due c t) -∗ Q ⟨⟩)
          -∗ WP c (waitRecv g s k src h) Q) := by
  unfold waitRecv rsC
  iintro ⟨#Hctx, Hc, Hat, HO⟩ Hk
  iapply (wait_spec I (.rs g (slot s) k) trivial (s / 2) (by show s / 2 < 7; omega) (t := t) (tm (uu s) g k + 3) (tm_lt (hs.trans (by omega)) g k (by omega))
    (lev_turn ht (le_refl _)) (src := src) (dst := rvH g (slot s) k) (h₁ := h) (h₂ := rvH_exact g _ k) rfl (credit_rv g _ k)) $$ [Hc Hat HO]
  · isplitr; · iexact Hctx
    isplitl [Hc]; · iexact Hc
    isplitl [HO]; · iexact HO
    iexact Hat
  iintro ⟨HO, Hat, Hre, Hp⟩
  ihave Hl := (Entails.of_eq (pay_rs I c g s k)) $$ Hp
  icases Hl with ⟨Hl, He⟩
  iapply Hk
  isplitl [Hl]; · iexact Hl
  isplitl [He]; · iexact He
  isplitl [Hat]; · iexact Hat
  isplitl [Hre]; · iexact Hre
  iexact HO

omit [FloatOps F] in
theorem readyN_succ {c : Dev nD} {g : Fin 2} {n : ℕ} :
    iprop(readyN (F := F) c g n ∗ ready (nxt g c) g (n / 2 + 2) (slot n)) ⊢ readyN c g (n + 1) := by
  unfold readyN
  exact range_put (Φ := fun i => ready (F := F) (nxt g c) g (i / 2 + 2) (slot i))

theorem slot_twice (s : ℕ) (k : Fin 2) : slot (2 * s + k.val) = k := by
  have := k.isLt
  apply Fin.ext
  show (2 * s + k.val) % 2 = k.val
  omega
theorem div_twice (s : ℕ) (k : Fin 2) : (2 * s + k.val) / 2 = s := by have := k.isLt; omega

theorem rv_set (g b k : Fin 2) : (rvH g b k).view.set.Nonempty := View.set_nonempty (by decide)

/-- The credit for step `j`: its landing place is given up and is ready for step `j + 2`. -/
theorem credit_give {c : Dev nD} (g k : Fin 2) (j : Fin 12) {t t' : ℕ} (ht : t = (Ob.crd g k j).time) (ht' : t' = t + 1) {Q : PUnit → sProp 𝕄} :
    iprop(ctx I ∗ held c (rvH g (slot j.val) k) ∗ readerAt ES (c, .inl (g, slot j.val, k)) (j.val / 2 + 1)
        ∗ reached ER (cell c (.rs g (slot j.val) k)) (j.val / 2 + 1) ∗ readyN (prv g c) g (2 * j.val + k.val) ∗ crT c g k j.val ∗ due c t)
      ⊢ iprop(((readerAt ES (c, .inl (g, slot j.val, k)) (j.val / 2 + 2) ∗ readyN (prv g c) g (2 * j.val + k.val + 1) ∗ due c t') -∗ Q ⟨⟩)
          -∗ WP c (credit (places c) g) Q) := by
  unfold credit crT
  iintro ⟨#Hctx, Hh, Hrd, #Hre, #HN, Ht, HO⟩ Hk
  ihave Hi₃ := (ctx_slot_rv I c g (slot j.val) k) $$ Hctx
  icases Hi₃ with ⟨%n₃, #Hi₃⟩
  imod (slot_release ES (Set.mem_univ n₃) (S := held (F := F) c (rvH g (slot j.val) k)) (held_held (rv_set g (slot j.val) k)) (j.val / 2 + 1)) $$ [Hh Hrd] with ⟨Hrd, #Hrel⟩
  · isplitr; · iexact Hi₃
    isplitl [Hrd]; · iexact Hrd
    iexact Hh
  have hstep : iprop(readyN (F := F) (prv g c) g (2 * j.val + k.val) ∗ (released ES (c, .inl (g, slot j.val, k)) (j.val / 2 + 2)
      ∗ reached ER (cell c (.rs g (slot j.val) k)) (j.val / 2 + 1))) ⊢ readyN (prv g c) g (2 * j.val + k.val + 1) := by
    refine .trans (sep_mono_right ?_) readyN_succ
    unfold ready
    rw [slot_twice, div_twice, nxt_prv, slot_two, div_two]
  ihave #HN' := hstep $$ []
  · isplitr; · iexact HN
    isplitr; · iexact Hrel
    iexact Hre
  have hpay : readyN (F := F) (prv g c) g (2 * j.val + k.val + 1) ⊢ payK I ((Ob.crd g k j).payee c) (.cr g) 0 (2 * j.val + k.val) := Entails.of_eq rfl
  have hup : (places c).up g = (Ob.crd g k j).payee c := places_up c g
  iapply (signal_spec I (Ob.crd g k j) hup (.cr g) rfl rfl rfl (2 * j.val + k.val)
    (by have := j.isLt; have := k.isLt; show _ ∈ Finset.range 24; rw [Finset.mem_range]; omega) rfl ht ht') $$ [Ht HO]
  · isplitr; · iexact Hctx
    isplitl [Ht]; · iexact Ht
    isplitr; · iapply hpay; iexact HN'
    iexact HO
  iintro HO
  iapply Hk
  isplitl [Hrd]; · iexact Hrd
  isplitr; · iexact HN'
  iexact HO

/-- The wait for the credit for step `s`: the next device is ready for step `s + 2`. -/
theorem credit_take {c : Dev nD} (g k : Fin 2) (s : ℕ) (hs : s < 12) {t : ℕ} (ht : t = tm (uu (s + 1)) g k + 4) {Q : PUnit → sProp 𝕄} :
    iprop(ctx I ∗ crC c g k s ∗ crPos c g (2 * s + k.val) ∗ due c t)
      ⊢ iprop(((crPos c g (2 * s + k.val + 1) ∗ ready (nxt g c) g (s + 2) k ∗ due c t) -∗ Q ⟨⟩)
          -∗ WP c (semWaitWord (crS g).sem 1#32) Q) := by
  subst ht
  unfold crC
  iintro ⟨#Hctx, Hc, Hp, HO⟩ Hk
  iapply (credit_wait I g (2 * s + k.val) (t := tm (uu (s + 1)) g k + 4) (tm (uu (s + 1)) g k + 4) (tm_lt (by omega) g k (by omega)) lev_credit) $$ [Hc Hp HO]
  · isplitr; · iexact Hctx
    isplitl [Hc]; · iexact Hc
    isplitl [HO]; · iexact HO
    iexact Hp
  rw [slot_twice, div_twice]
  iintro ⟨HO, Hp, Hr⟩
  iapply Hk
  isplitl [Hp]; · iexact Hp
  isplitl [Hr]; · iexact Hr
  iexact HO

/-- The next send. -/
theorem sendNext_spec {c : Dev nD} (g k : Fin 2) (s : ℕ) (hs : s < 13) {src : Memref sig .tc .vmem S512x512 .f32} (hsrc : src = srcM g k (s + 1))
    {h : src.view.WordExact} {X : S512x512.Idx → Elt F .f32} (hX : X = sentV I c g k (s + 1)) {t t' : ℕ} (ht : t = tm (uu s) g k + 5) (ht' : t' = t + 1) {Q : PUnit → sProp 𝕄} :
    iprop(ctx I ∗ own c src fullShare X ∗ mid c g k s ∗ ready (nxt g c) g (s + 1) k ∗ bigSep (Finset.Ico s 12) (crC c g k) ∗ due c t)
      ⊢ iprop(((lane I c g k (s + 1) ∗ due c t') -∗ Q ⟨⟩) -∗ WP c (send (places c) g (s + 1) k src h) Q) := by
  subst hX
  unfold mid lane
  iintro ⟨#Hctx, Hs, ⟨#Hre, Hsp, #Hen, Hsup, Hrs, HcT, Hrd⟩, #Hready, HcC, HO⟩ Hk
  ihave Hx := (ico_take (Φ := sendSup c g k) (show s + 1 < 14 by omega)) $$ Hsup
  icases Hx with ⟨Hx, Hsup⟩
  unfold sendSup
  icases Hx with ⟨Hd₁, Hd₂, Hw⟩
  ihave #He := (ents_get (s + 1) (le_refl _)) $$ Hen
  iapply (send_spec I g ⟨s + 1, by omega⟩ k (ssI g k (s + 1)) hsrc (t := t) (t' := t') (ht.trans rfl) ht') $$ [Hs Hd₁ Hd₂ Hw HO]
  · isplitr; · iexact Hctx
    isplitl [Hs]; · iexact Hs
    isplitr; · iexact Hready
    isplitr; · iexact He
    isplitl [Hw]; · iexact Hw
    isplitl [Hd₁]; · iexact Hd₁
    isplitr; · iexact Hre
    isplitl [Hd₂]; · iexact Hd₂
    iexact HO
  iintro ⟨Hs, Hc, HO⟩
  subst hsrc
  iapply Hk
  isplitr [HO]; swap; · iexact HO
  isplitl [Hs]; · iexact Hs
  isplitl [Hc]; · unfold ssC; iexact Hc
  isplitl [Hsp]; · iexact Hsp
  isplitr; · iexact Hen
  isplitl [Hsup]; · iexact Hsup
  isplitl [Hrs]; · iexact Hrs
  isplitl [HcT]; · iexact HcT
  isplitl [HcC]; · iexact HcC
  iexact Hrd

end Cert.KernelIdeal.Hand

end

end
-- ==== Proof.Phase1.lean ====
module

public import proofs.«01_k».proof.Proof.Steps

/-! # The first phase

The accumulators filled and sent, the slabs staged, and the seven steps that sum. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (I : Inp F)

/-- The device's two argument blocks, staged. -/
def args (c : Dev nD) : sProp 𝕄 := iprop(own c xM fullShare (I.x c) ∗ own c wM fullShare (I.w c))

/-! ## Filling -/

/-- A slab is staged: whatever the slabs held, the slab of step `s` holds that step's product. -/
theorem fillSt_spec {c : Dev nD} (g : Fin 2) {s : ℕ} (hs : s < 7) {Q : PUnit → sProp 𝕄} :
    iprop(args I c ∗ held c (stM g)) ⊢ iprop(((args I c ∗ staged I c g s) -∗ Q ⟨⟩) -∗ WP c (fillSt (places c) g s) Q) := by
  unfold args held
  iintro ⟨⟨Hx, Hw⟩, ⟨%X, Hst⟩⟩ Hk
  unfold fillSt
  simp only [Prog.lift, Prog.bind_op, Prog.bind_ret]
  iapply (wp_load_own (M := xM)) $$ Hx
  iintro Hx
  iapply (wp_load_own (M := wM)) $$ Hw
  iintro Hw
  iapply (wp_load_own (M := stM g)) $$ Hst
  iintro Hst
  iapply (wp_store_own (M := stM g)) $$ Hst
  iintro %X' %hX' Hst
  iapply wp_done
  iapply Hk
  isplitl [Hx Hw]
  · isplitl [Hx] <;> iassumption
  unfold staged
  iexists X'
  isplitr; swap; · iexact Hst
  ipureintro
  intro i
  rw [hX', pay3_eq]
  have hr : (places c).chunk g s = xAt (row g (s + 1) c) := by show xAt (row g (s % 7 + 1) c) = _; rw [Nat.mod_eq_of_lt hs]
  exact congrArg (fun o : {o : Fin 2 → ℕ // ∀ a, o a + S512x512.size a ≤ S4096x512.size a} =>
    k0_pay1 (fun i => I.x c ((Rect.unit (s := S4096x512) o.1 S512x512.size o.2).emb i)) (wv (I.w c) g) i) hr

theorem staged_held {c : Dev nD} {g : Fin 2} {s : ℕ} : staged I c g s ⊢ held c (stM g) := by
  unfold staged held
  iintro ⟨%X, -, H⟩
  iexists X; iexact H

theorem accR_disj (k k' : Fin 2) (h : k ≠ k') : Disjoint (accR k).set (accR k').set := by
  rw [Finset.disjoint_left]
  intro x hx hx'
  have h1 : 512 * k.val ≤ (x 1).val ∧ (x 1).val < 512 * k.val + 512 := Rect.mem_set_unit.mp hx 1
  have h2 : 512 * k'.val ≤ (x 1).val ∧ (x 1).val < 512 * k'.val + 512 := Rect.mem_set_unit.mp hx' 1
  exact h (Fin.ext (by omega))

theorem accR_cover : (Finset.univ : Finset (Fin 2)).biUnion (fun k => (accR k).set) = Finset.univ := by
  refine Finset.eq_univ_of_forall fun x => Finset.mem_biUnion.mpr ?_
  have h0 : (x 0).val < 512 := (x 0).isLt
  have h1 : (x 1).val < 1024 := (x 1).isLt
  refine ⟨⟨(x 1).val / 512, by omega⟩, Finset.mem_univ _, Rect.mem_set_unit.mpr fun a => ?_⟩
  fin_cases a
  · show 0 ≤ (x 0).val ∧ (x 0).val < 0 + 512; omega
  · show 512 * ((x 1).val / 512) ≤ (x 1).val ∧ (x 1).val < 512 * ((x 1).val / 512) + 512; omega

omit [FloatOps F] in
/-- The accumulator's two halves. -/
theorem acc_halves {c : Dev nD} {g : Fin 2} {X : S512x1024.Idx → Elt F .f32} :
    own c (accM g) fullShare X ⊢ iprop(own c (accH g 0) fullShare (half 0 X) ∗ own c (accH g 1) fullShare (half 1 X)) := by
  refine (owns_rects (c : Thread nD τ) (accM g) fullShare accR (fun _ _ => rfl) accR_disj accR_cover X).trans ?_
  exact Entails.of_eq (BI.bigSep_fin_two _)

theorem row_zero (g : Fin 2) (c : Dev nD) : row 0 0 c = row g 0 c := by revert g c; decide

/-- The accumulator is filled with the product of the device's own row block. -/
theorem fillAcc_spec {c : Dev nD} (g : Fin 2) {Q : PUnit → sProp 𝕄} :
    iprop(args I c ∗ held c (accM g))
      ⊢ iprop(((args I c ∗ own c (accH g 0) fullShare (sentV I c g 0 0) ∗ own c (accH g 1) fullShare (sentV I c g 1 0)) -∗ Q ⟨⟩)
        -∗ WP c (fillAcc (places c) g) Q) := by
  unfold args held
  iintro ⟨⟨Hx, Hw⟩, ⟨%X, Hac⟩⟩ Hk
  unfold fillAcc
  simp only [Prog.lift, Prog.bind_op, Prog.bind_ret]
  iapply (wp_load_own (M := xM)) $$ Hx
  iintro Hx
  iapply (wp_load_own (M := wM)) $$ Hw
  iintro Hw
  iapply (wp_load_own (M := accM g)) $$ Hac
  iintro Hac
  iapply (wp_store_own (M := accM g)) $$ Hac
  iintro %X' %hX' Hac
  iapply wp_done
  have hX : X' = prodV I c g (row g 0 c) := by
    funext i
    have h := hX' i
    have he : (Rect.unit (s := S512x1024) ![0, 0] S512x1024.size inb_S512x1024_S512x1024_0_0).emb i = i := by
      funext a; apply Fin.ext; fin_cases a
      · show 0 + 1 * (i 0).val = (i 0).val; omega
      · show 0 + 1 * (i 1).val = (i 1).val; omega
    rw [he] at h
    rw [h]
    have hr : (places c).own = xAt (row g 0 c) := congrArg xAt (row_zero g c)
    exact congrArg (fun o : {o : Fin 2 → ℕ // ∀ a, o a + S512x512.size a ≤ S4096x512.size a} =>
      k0_pay1 (fun i => I.x c ((Rect.unit (s := S4096x512) o.1 S512x512.size o.2).emb i)) (wv (I.w c) g) i) hr
  subst hX
  iapply Hk
  isplitl [Hx Hw]
  · isplitl [Hx] <;> iassumption
  ihave H := (acc_halves (F := F)) $$ Hac
  rw [sentV_le I c g 0 (Nat.zero_le 7), sentV_le I c g 1 (Nat.zero_le 7)]
  simp only [accV]
  iexact H

/-! ## A step -/

/-- The sum: what arrived plus the staged product. -/
theorem addHalf_spec {c : Dev nD} (g k : Fin 2) {s : ℕ} (hs : s < 7) {V : S512x512.Idx → Elt F .f32} {Q : PUnit → sProp 𝕄} :
    iprop(own c (rvH g (slot s) k) fullShare (sentV I (prv g c) g k s) ∗ staged I c g s ∗ own c (accH g k) fullShare V)
      ⊢ iprop(((held c (rvH g (slot s) k) ∗ staged I c g s ∗ own c (accH g k) fullShare (sentV I c g k (s + 1))) -∗ Q ⟨⟩)
        -∗ WP c (addHalf g s k) Q) := by
  unfold staged
  iintro ⟨Hr, ⟨%X, %hX, Hst⟩, Hac⟩ Hk
  unfold addHalf
  simp only [Prog.lift, Prog.bind_op, Prog.bind_ret]
  unfold rvH accH
  iapply (wp_load_squeeze (M := rvM g) (r := slotR (slot s) k)) $$ Hr
  iintro %v %hv Hr
  iapply (wp_load_own (M := stM g)) $$ Hst
  iintro Hst
  iapply (wp_load_slice (M := accM g) (r := accR k)) $$ Hac
  iintro Hac
  iapply (wp_store_slice (M := accM g) (r := accR k)) $$ Hac
  iintro Hac
  iapply wp_done
  iapply Hk
  isplitl [Hr]; · iapply own_held; iexact Hr
  isplitl [Hst]
  · iexists X
    isplitr; · ipureintro; exact hX
    iexact Hst
  have ht : (fun j => (fun i => X ((slotR (slot s) k).emb i)) (Shape.reshapeEquiv (s := S1x512x512) (s' := S512x512) (by decide) j)) = half k (prodV I c g (row g (s + 1) c)) := by
    funext j
    show X _ = _
    rw [slot_in_slab, hX]
    rfl
  rw [sentV_le I c g k (show s + 1 ≤ 7 by omega), accV_succ I c g k hs, ← pay5_eq v (fun i => X ((slotR (slot s) k).emb i)) hv ht]
  iexact Hac

theorem nextC_le {s : ℕ} (h : s ≤ 7) : nextC s = s := if_pos h

/-- The first phase's step up to its credit. -/
theorem redA_spec {c : Dev nD} (g k : Fin 2) (s : ℕ) (hs : s < 7) {Q : PUnit → sProp 𝕄} :
    iprop(ctx I ∗ lane I c g k s ∗ staged I c g s ∗ readyN (prv g c) g (2 * s + k.val) ∗ due c (tm (uu s) g k))
      ⊢ iprop(((own c (accH g k) fullShare (sentV I c g k (s + 1)) ∗ mid c g k s ∗ bigSep (Finset.Ico (s - 1) 12) (crC c g k) ∗ staged I c g s
            ∗ readyN (prv g c) g (2 * s + k.val + 1) ∗ due c (tm (uu s) g k + 4)) -∗ Q ⟨⟩)
        -∗ WP c (redA (places c) g s k) Q) := by
  unfold lane spots readers
  rw [nextC_le hs.le, srcM_le g k hs.le, if_pos hs.le]
  iintro ⟨#Hctx, ⟨Hac, Hss, ⟨HpS, HpS', HpR, HpR', #HrS, -⟩, #Hen, Hsup, Hrs, HcT, HcC, Hrd, Hrd'⟩, Hst, HN, HO⟩ Hk
  unfold redA
  iapply wp_seq
  iapply (waitSend_spec I g k s (by omega) (srcM_le g k hs.le).symm (credit_acc g k) (le_refl _)) $$ [Hac Hss HpS HO]
  · isplitr; · iexact Hctx
    isplitl [Hac]; · iexact Hac
    isplitl [Hss]; · iexact Hss
    isplitl [HpS]; · iexact HpS
    iexact HO
  iintro ⟨Hac, HpS, #HrS', HO⟩
  iapply wp_seq
  ihave Hrs := (ico_take (Φ := rsC c g k) (show s < 14 by omega)) $$ Hrs
  icases Hrs with ⟨Hr, Hrs⟩
  iapply (waitRecv_spec I g k s (by omega) (le_refl _)) $$ [Hr HpR HO]
  · isplitr; · iexact Hctx
    isplitl [Hr]; · iexact Hr
    isplitl [HpR]; · iexact HpR
    iexact HO
  iintro ⟨Hrv, #He, HpR, #HrR, HO⟩
  ihave #Hen' := (ents_succ (F := F) (c := c) (g := g) (s := s)) $$ []
  · isplitr; · iexact Hen
    iexact He
  iapply wp_seq
  iapply (addHalf_spec I g k hs) $$ [Hrv Hst Hac]
  · isplitl [Hrv]; · iexact Hrv
    isplitl [Hst]; · iexact Hst
    iexact Hac
  iintro ⟨Hrv, Hst, Hac⟩
  ihave HcT := (ico_take (Φ := crT c g k) (show s < 12 by omega)) $$ HcT
  icases HcT with ⟨Hct, HcT⟩
  ihave HO := (due_skip (F := F) (c := c) (t := tm (uu s) g k) (t' := tm (uu s) g k + 3) (turn_skip (d := 0) (d' := 3) (by omega))) $$ HO
  iapply (credit_give I g k ⟨s, by omega⟩ (t := tm (uu s) g k + 3) (t' := tm (uu s) g k + 4) (by show _ = if s ≤ 6 then _ else _; rw [if_pos (by omega)]) rfl) $$ [Hrv Hrd HN Hct HO]
  · isplitr; · iexact Hctx
    isplitl [Hrv]; · iexact Hrv
    isplitl [Hrd]; · iexact Hrd
    isplitr; · iexact HrR
    isplitl [HN]; · iexact HN
    isplitl [Hct]; · iexact Hct
    iexact HO
  iintro ⟨Hrd, HN, HO⟩
  iapply Hk
  isplitl [Hac]; · iexact Hac
  isplitr [HcC Hst HN HO]
  · unfold mid spots readers
    rw [nextC_le (show s + 1 ≤ 7 by omega), show s + 1 + 1 = s + 2 from rfl, slot_two, div_two]
    isplitr; · iexact HrS
    isplitl [HpS HpS' HpR HpR']
    · isplitl [HpS']; · iexact HpS'
      isplitl [HpS]; · iexact HpS
      isplitl [HpR']; · iexact HpR'
      isplitl [HpR]; · iexact HpR
      isplitr; · iexact HrS'
      iexact HrR
    isplitr; · iexact Hen'
    isplitl [Hsup]; · iexact Hsup
    isplitl [Hrs]; · iexact Hrs
    isplitl [HcT]; · iexact HcT
    isplitl [Hrd']; · iexact Hrd'
    rw [if_pos (show s + 1 ≤ 7 by omega)]
    iexact Hrd
  isplitl [HcC]; · iexact HcC
  isplitl [Hst]; · iexact Hst
  isplitl [HN]; · iexact HN
  iexact HO

/-- A ring's credits before step `s` of half `k`: `a` taken, `b` given. -/
def ring (c : Dev nD) (g : Fin 2) (a b : ℕ) : sProp 𝕄 := iprop(crPos c g a ∗ readyN (prv g c) g b)

/-- Step `0` of the first phase. -/
theorem red0_spec {c : Dev nD} (g k : Fin 2) {Q : PUnit → sProp 𝕄} :
    iprop(ctx I ∗ lane I c g k 0 ∗ staged I c g 0 ∗ ring c g 0 k.val ∗ ready (nxt g c) g 1 k ∗ due c (tm 0 g k))
      ⊢ iprop(((lane I c g k 1 ∗ staged I c g 0 ∗ ring c g 0 (k.val + 1) ∗ due c (tm 0 g k + 10)) -∗ Q ⟨⟩)
        -∗ WP c (red0 (places c) g k) Q) := by
  unfold ring
  iintro ⟨#Hctx, Hl, Hst, ⟨Hp, HN⟩, #Hr, HO⟩ Hk
  unfold red0
  iapply wp_seq
  iapply (redA_spec I g k 0 (by omega)) $$ [Hl Hst HN HO]
  · rw [show 2 * 0 + k.val = k.val by omega]
    isplitr; · iexact Hctx
    isplitl [Hl]; · iexact Hl
    isplitl [Hst]; · iexact Hst
    isplitl [HN]; · iexact HN
    iexact HO
  rw [show 2 * 0 + k.val = k.val by omega]
  iintro ⟨Hac, Hm, HcC, Hst, HN, HO⟩
  ihave HO := (due_skip (F := F) (c := c) (t := tm (uu 0) g k + 4) (t' := tm (uu 0) g k + 5) (turn_skip (d := 4) (d' := 5) (by omega))) $$ HO
  iapply (sendNext_spec I g k 0 (by omega) (srcM_le g k (by omega)).symm rfl (t := tm (uu 0) g k + 5) (t' := tm (uu 0) g k + 6) rfl rfl) $$ [Hac Hm HcC HO]
  · isplitr; · iexact Hctx
    isplitl [Hac]; · iexact Hac
    isplitl [Hm]; · iexact Hm
    isplitr; · iexact Hr
    isplitl [HcC]; · iexact HcC
    iexact HO
  iintro ⟨Hl, HO⟩
  ihave HO := (due_skip (F := F) (c := c) (t := tm (uu 0) g k + 6) (t' := tm (uu 0) g k + 10) (turn_skip (d := 6) (d' := 10) (by omega))) $$ HO
  iapply Hk
  isplitl [Hl]; · iexact Hl
  isplitl [Hst]; · iexact Hst
  isplitl [Hp HN]
  · isplitl [Hp]; · iexact Hp
    iexact HN
  iexact HO

/-- Step `s + 1` of the first phase. -/
theorem red_spec {c : Dev nD} (g k : Fin 2) (s : ℕ) (hs : s < 6) {Q : PUnit → sProp 𝕄} :
    iprop(ctx I ∗ lane I c g k (s + 1) ∗ staged I c g (s + 1) ∗ ring c g (2 * s + k.val) (2 * (s + 1) + k.val) ∗ due c (tm (s + 1) g k))
      ⊢ iprop(((lane I c g k (s + 2) ∗ staged I c g (s + 1) ∗ ring c g (2 * s + k.val + 1) (2 * (s + 1) + k.val + 1) ∗ due c (tm (s + 1) g k + 10)) -∗ Q ⟨⟩)
        -∗ WP c (red (places c) g (s + 1) k) Q) := by
  have hu : tm (s + 1) g k = tm (uu (s + 1)) g k := by unfold uu; rw [if_pos (by omega)]
  rw [hu]
  unfold ring
  iintro ⟨#Hctx, Hl, Hst, ⟨Hp, HN⟩, HO⟩ Hk
  unfold red
  iapply wp_seq
  iapply (redA_spec I g k (s + 1) (by omega)) $$ [Hl Hst HN HO]
  · isplitr; · iexact Hctx
    isplitl [Hl]; · iexact Hl
    isplitl [Hst]; · iexact Hst
    isplitl [HN]; · iexact HN
    iexact HO
  iintro ⟨Hac, Hm, HcC, Hst, HN, HO⟩
  iapply wp_seq
  rw [Nat.add_sub_cancel]
  ihave HcC := (ico_take (Φ := crC c g k) (show s < 12 by omega)) $$ HcC
  icases HcC with ⟨Hc, HcC⟩
  iapply (credit_take I g k s (by omega) (t := tm (uu (s + 1)) g k + 4) rfl) $$ [Hc Hp HO]
  · isplitr; · iexact Hctx
    isplitl [Hc]; · iexact Hc
    isplitl [Hp]; · iexact Hp
    iexact HO
  iintro ⟨Hp, #Hr, HO⟩
  ihave HO := (due_skip (F := F) (c := c) (t := tm (uu (s + 1)) g k + 4) (t' := tm (uu (s + 1)) g k + 5) (turn_skip (d := 4) (d' := 5) (by omega))) $$ HO
  iapply (sendNext_spec I g k (s + 1) (by omega) (srcM_le g k (by omega)).symm rfl (t := tm (uu (s + 1)) g k + 5) (t' := tm (uu (s + 1)) g k + 6) rfl rfl) $$ [Hac Hm HcC HO]
  · isplitr; · iexact Hctx
    isplitl [Hac]; · iexact Hac
    isplitl [Hm]; · iexact Hm
    isplitr; · iexact Hr
    isplitl [HcC]; · iexact HcC
    iexact HO
  iintro ⟨Hl, HO⟩
  ihave HO := (due_skip (F := F) (c := c) (t := tm (uu (s + 1)) g k + 6) (t' := tm (uu (s + 1)) g k + 10) (turn_skip (d := 6) (d' := 10) (by omega))) $$ HO
  iapply Hk
  isplitl [Hl]; · iexact Hl
  isplitl [Hst]; · iexact Hst
  isplitl [Hp HN]
  · isplitl [Hp]; · iexact Hp
    iexact HN
  iexact HO

end Cert.KernelIdeal.Hand

end

end
-- ==== Proof.Phase2.lean ====
module

public import proofs.«01_k».proof.Proof.Phase1

/-! # The second phase, step by step

The copies to the result, and a half's steps round the ring once its sums are complete. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (I : Inp F)

/-! ## The copies to the result -/

/-- The level of the wait for the result copy of step `7 + n`. -/
def stI (g k : Fin 2) (n : ℕ) : ℕ := tm (uu (n + 8)) g k + 2
/-- The level of the wait for the copy of the device's own block. -/
def osI (g k : Fin 2) : ℕ := tm (uu 14) g k + 1

/-- The copy's duty for step `7 + n`. -/
def stT (c : Dev nD) (g k : Fin 2) (n : ℕ) : sProp 𝕄 := dutyTok ER (cell c (.st g (slot (n + 7)) k)) (n / 2) 0
/-- The block of the result step `7 + n` writes, whatever it holds. -/
def yOld (c : Dev nD) (g k : Fin 2) (n : ℕ) : sProp 𝕄 := held c (yH (yAt (row g n c) g k))
/-- The block of the result step `7 + n` wrote. -/
def yNew (c : Dev nD) (g k : Fin 2) (n : ℕ) : sProp 𝕄 := own c (yH (yAt (row g n c) g k)) fullShare (yV I c (row g n c) g k)

/-- The copy cells before step `7 + n`. -/
def stAt (c : Dev nD) (g k : Fin 2) (n : ℕ) : sProp 𝕄 :=
  iprop(atPos ER (cell c (.st g (slot (n + 7)) k)) (n / 2) ∅ 0 ∗ atPos ER (cell c (.st g (slot (n + 8)) k)) ((n + 1) / 2) ∅ 0
    ∗ reached ER (cell c (.st g (slot (n + 7)) k)) (n / 2) ∗ reached ER (cell c (.st g (slot (n + 8)) k)) ((n + 1) / 2))

/-- A half's copies before step `7 + n`. -/
def sto (c : Dev nD) (g k : Fin 2) (n : ℕ) : sProp 𝕄 :=
  iprop(held c (stH g (slot (n + 7)) k) ∗ held c (stH g (slot (n + 8)) k) ∗ stAt c g k n
    ∗ bigSep (Finset.Ico n 7) (stT c g k) ∗ bigSep (Finset.Ico n 7) (yOld c g k) ∗ bigSep (Finset.range n) (yNew I c g k))

/-- A half's copies with that of step `7 + n` under way. -/
def stoF (c : Dev nD) (g k : Fin 2) (n : ℕ) : sProp 𝕄 :=
  iprop(cred (tallyAt (cell c (.st g (slot (n + 7)) k)) (stI g k n) nH) ∗ held c (stH g (slot (n + 8)) k) ∗ stAt c g k n
    ∗ bigSep (Finset.Ico (n + 1) 7) (stT c g k) ∗ bigSep (Finset.Ico (n + 1) 7) (yOld c g k) ∗ bigSep (Finset.range n) (yNew I c g k))

/-- The copy out of slab `7 + n` to the block at `o`. -/
def copyAt (g : Fin 2) (n : ℕ) (k : Fin 2) (o : {o : Fin 2 → ℕ // ∀ a, o a + S512x512.size a ≤ S4096x2048.size a}) : KProg F PUnit :=
  Prog.lift (.enqueueDma (stH g (slot (n + 7)) k) (.here (yH o)) (.dma (sem22 (stS g) (slot (n + 7)) k)) ((View.wordExact_bits rfl).reshape _ _) (View.wordExact_bits rfl) ⟨Or.inl rfl, trivial⟩)
/-- The wait for the copy out of slab `7 + n` to the block at `o`. -/
def waitCopy (g : Fin 2) (n : ℕ) (k : Fin 2) (o : {o : Fin 2 → ℕ // ∀ a, o a + S512x512.size a ≤ S4096x2048.size a}) : KProg F PUnit :=
  Prog.lift (.waitDma2 (sem22 (stS g) (slot (n + 7)) k) (stH g (slot (n + 7)) k) (yH o) ((View.wordExact_bits rfl).reshape _ _) (View.wordExact_bits rfl))

omit [FloatOps F] in
theorem yat_eq (c : Dev nD) (g k : Fin 2) {n : ℕ} (hn : n < 7) : (places c).yat g k n = yAt (row g n c) g k := by
  show yAt (row g (n % 7) c) g k = _
  rw [Nat.mod_eq_of_lt hn]

theorem waitSt_eq (c : Dev nD) (g k : Fin 2) {n : ℕ} (hn : n < 7) :
    waitSt (F := F) (places c) g n k = waitCopy g n k (yAt (row g n c) g k) := congrArg (waitCopy g n k) (yat_eq c g k hn)

theorem storeAt_eq (c : Dev nD) (m : F .f32) (g k : Fin 2) {n : ℕ} (hn : n < 7) : storeAt (places c) m g n k = (do
    let v : Vec F S1x512x512 .f32 ← Prog.lift (.load (rvM g) (slotR (slot (n + 7)) k).toLoadRect (View.loadsAt_vmem h_S1x512x512))
    let _o : Vec F S1x512x512 .f32 ← Prog.lift (.load (stM g) (slotR (slot (n + 7)) k).toLoadRect (View.loadsAt_vmem h_S1x512x512))
    Prog.lift (.store (stM g) (slotR (slot (n + 7)) k) (k0_pay64 (invOf m) (sclOf m) v) Finset.univ (View.stores_vmem_bits_univ h_S1x512x512 rfl) (.inl rfl))
    copyAt g n k (yAt (row g n c) g k)) := by
  rw [← yat_eq c g k hn]
  rfl

/-- What step `7 + n` brought is quantised and its copy started. -/
theorem storeAt_spec {c : Dev nD} (g k : Fin 2) (n : ℕ) (hn : n < 7) {q : PosShare TreeShare} {Q : PUnit → sProp 𝕄} :
    iprop(ctx I ∗ own c (rvH g (slot (n + 7)) k) q (sentV I (prv g c) g k (n + 7)) ∗ sto I c g k n)
      ⊢ iprop(((own c (rvH g (slot (n + 7)) k) q (sentV I (prv g c) g k (n + 7)) ∗ stoF I c g k n) -∗ Q ⟨⟩)
        -∗ WP c (storeAt (places c) (mF I c) g n k) Q) := by
  rw [storeAt_eq c _ g k hn]
  unfold sto stoF
  iintro ⟨#Hctx, Hrv, ⟨Hst, Hst', Hat, HT, HY, HN⟩⟩ Hk
  simp only [Prog.lift, Prog.bind_op, Prog.bind_ret]
  unfold rvH
  iapply (wp_load_squeeze (M := rvM g)) $$ Hrv
  iintro %v %hv Hrv
  unfold held stH
  icases Hst with ⟨%X, Hst⟩
  iapply (wp_load_squeeze (M := stM g)) $$ Hst
  iintro %v' %hv' Hst
  iapply (wp_store_squeeze (M := stM g)) $$ Hst
  rw [pay64_eq _ _ _ hv]
  iintro Hst
  ihave HT := (ico_take (Φ := stT c g k) hn) $$ HT
  icases HT with ⟨Ht, HT⟩
  ihave HY := (ico_take (Φ := yOld c g k) hn) $$ HY
  icases HY with ⟨Hy, HY⟩
  unfold stAt
  icases Hat with ⟨Hat, Hat', #Hr, #Hr'⟩
  have hX : own c (stH g (slot (n + 7)) k) fullShare (k0_pay63 (invOf (mF I c)) (sclOf (mF I c)) (sentV I (prv g c) g k (n + 7)))
      ⊢ own c (stH g (slot (n + 7)) k) fullShare (yV I c (row g n c) g k) := by
    rw [yV_at]; exact Entails.of_eq rfl
  unfold copyAt
  iapply (copy_spec I (c := c) (.st g (slot (n + 7)) k) trivial (n / 2) (by show n / 2 < 3 + (n + 7) % 2; omega) (stI g k n)
      (src := stH g (slot (n + 7)) k) (dst := yH (yAt (row g n c) g k)) (hsrc := (View.wordExact_bits rfl).reshape _ _) (hdst := View.wordExact_bits rfl)
      (hsem := ⟨Or.inl rfl, trivial⟩) rfl (credit_y _) (X := yV I c (row g n c) g k) (pay_st I c g n k)) $$ [Hst Hy Ht]
  · isplitr; · iexact Hctx
    isplitl [Hst]; · iapply hX; iexact Hst
    isplitl [Hy]; · unfold yOld; iexact Hy
    isplitl [Ht]; · unfold stT; iexact Ht
    iexact Hr
  iintro Hc
  iapply Hk
  isplitl [Hrv]; · iexact Hrv
  isplitl [Hc]; · iexact Hc
  isplitl [Hst']; · iexact Hst'
  isplitl [Hat Hat']
  · isplitl [Hat]; · iexact Hat
    isplitl [Hat']; · iexact Hat'
    isplitr; · iexact Hr
    iexact Hr'
  isplitl [HT]; · iexact HT
  isplitl [HY]; · iexact HY
  iexact HN

/-- The same out of a half under way. -/
theorem storeLane_spec {c : Dev nD} (g k : Fin 2) (n : ℕ) (hn : n < 7) {s : ℕ} (hs : s = n + 8) {Q : PUnit → sProp 𝕄} :
    iprop(ctx I ∗ lane I c g k s ∗ sto I c g k n)
      ⊢ iprop(((lane I c g k s ∗ stoF I c g k n) -∗ Q ⟨⟩) -∗ WP c (storeAt (places c) (mF I c) g n k) Q) := by
  subst hs
  unfold lane
  rw [show n + 8 = (n + 7) + 1 from rfl, srcM_succ g k (by omega), sentV_succ I c g k (by omega)]
  iintro ⟨#Hctx, ⟨Hrv, Hl⟩, Hs⟩ Hk
  iapply (storeAt_spec I g k n hn) $$ [Hrv Hs]
  · isplitr; · iexact Hctx
    isplitl [Hrv]; · iexact Hrv
    iexact Hs
  iintro ⟨Hrv, Hs⟩
  iapply Hk
  isplitr [Hs]; swap; · iexact Hs
  isplitl [Hrv]; · iexact Hrv
  iexact Hl

/-- The wait for a result copy: the block is written and the slab free again. -/
theorem waitSt_spec {c : Dev nD} (g k : Fin 2) (n : ℕ) (hn : n < 7) {t : ℕ} (ht : tm (uu (n + 8)) g k ≤ t) {Q : PUnit → sProp 𝕄} :
    iprop(ctx I ∗ stoF I c g k n ∗ due c t)
      ⊢ iprop(((sto I c g k (n + 1) ∗ due c t) -∗ Q ⟨⟩) -∗ WP c (waitSt (places c) g n k) Q) := by
  rw [waitSt_eq c g k hn]
  unfold sto stoF stAt waitCopy
  iintro ⟨#Hctx, ⟨Hc, Hst', ⟨Hat, Hat', #Hr, #Hr'⟩, HT, HY, HN⟩, HO⟩ Hk
  iapply (wait_spec I (.st g (slot (n + 7)) k) trivial (n / 2) (by show n / 2 < 3 + (n + 7) % 2; omega) (t := t) (stI g k n) (tm_lt (by omega) g k (by omega))
    (lev_turn ht (by unfold stI; omega)) (src := stH g (slot (n + 7)) k) (dst := yH (yAt (row g n c) g k)) (h₁ := (View.wordExact_bits rfl).reshape _ _)
    (h₂ := View.wordExact_bits rfl) rfl (credit_y _)) $$ [Hc Hat HO]
  · isplitr; · iexact Hctx
    isplitl [Hc]; · iexact Hc
    isplitl [HO]; · iexact HO
    iexact Hat
  iintro ⟨HO, Hat, #Hre, Hp⟩
  ihave Hp := (Entails.of_eq (pay_st I c g n k)) $$ Hp
  icases Hp with ⟨Hy, Hst⟩
  ihave HN := (range_put (Φ := yNew I c g k) (n := n)) $$ [HN Hy]
  · isplitl [HN]; · iexact HN
    unfold yNew; iexact Hy
  iapply Hk
  rw [show n + 1 + 7 = n + 8 from rfl, show n + 1 + 8 = n + 7 + 2 from rfl, show n + 1 + 1 = n + 2 from rfl, slot_two (n + 7), div_two n]
  isplitr [HO]; swap; · iexact HO
  isplitl [Hst']; · iexact Hst'
  isplitl [Hst]; · iexact Hst
  isplitl [Hat Hat']
  · isplitl [Hat']; · iexact Hat'
    isplitl [Hat]; · iexact Hat
    isplitr; · iexact Hr'
    iexact Hre
  isplitl [HT]; · iexact HT
  isplitl [HY]; · iexact HY
  iexact HN

/-- What the copy of a device's own half starts with. -/
def ownSup (c : Dev nD) (g k : Fin 2) : sProp 𝕄 :=
  iprop(yOld c g k 7 ∗ dutyTok ER (cell c (.os g k)) 0 0 ∗ atPos ER (cell c (.os g k)) 0 ∅ 0)
/-- The copy of a device's own half, under way. -/
def ownF (c : Dev nD) (g k : Fin 2) : sProp 𝕄 :=
  iprop(cred (tallyAt (cell c (.os g k)) (osI g k) nH) ∗ atPos ER (cell c (.os g k)) 0 ∅ 0)
/-- What the copy of a device's own half leaves. -/
def ownEnd (c : Dev nD) (g k : Fin 2) : sProp 𝕄 :=
  iprop(yNew I c g k 7 ∗ held c (accH g k) ∗ atPos ER (cell c (.os g k)) 1 ∅ 0)

/-- A finished half is quantised and its copy started. -/
theorem storeOwn_spec {c : Dev nD} (g k : Fin 2) {Q : PUnit → sProp 𝕄} :
    iprop(ctx I ∗ own c (accH g k) fullShare (accV I c g k 7) ∗ ownSup c g k)
      ⊢ iprop((ownF c g k -∗ Q ⟨⟩) -∗ WP c (storeOwn (places c) (mF I c) g k) Q) := by
  unfold ownSup ownF storeOwn
  iintro ⟨#Hctx, Hac, ⟨Hy, Ht, Hat⟩⟩ Hk
  ihave #Hr := (ctx_reached I c (.os g k)) $$ Hctx
  simp only [Prog.lift, Prog.bind_op, Prog.bind_ret]
  iapply (wp_load_slice (M := accM g) (r := accR k) (hr := fun _ => rfl)) $$ [Hac]
  · unfold accH; iexact Hac
  iintro Hac
  iapply (wp_load_slice (M := accM g) (r := accR k)) $$ Hac
  iintro Hac
  iapply (wp_store_slice (M := accM g) (r := accR k)) $$ Hac
  iintro Hac
  have hX : own c ((accM g).slice (accR k) (fun _ => rfl)) fullShare (k0_pay63 (invOf (mF I c)) (sclOf (mF I c)) (accV I c g k 7))
      ⊢ own c (accH g k) fullShare (yV I c (row g 7 c) g k) := by
    rw [yV_own]; exact Entails.of_eq rfl
  iapply (copy_spec I (c := c) (.os g k) trivial 0 Nat.one_pos (osI g k)
      (src := accH g k) (dst := yH (yAt (row g 7 c) g k)) (hsrc := accH_exact g k) (hdst := View.wordExact_bits rfl)
      (hsem := ⟨Or.inl rfl, trivial⟩) rfl (credit_y _) (X := yV I c (row g 7 c) g k) rfl) $$ [Hac Hy Ht]
  · isplitr; · iexact Hctx
    isplitl [Hac]; · iapply hX; iexact Hac
    isplitl [Hy]; · unfold yOld; iexact Hy
    isplitl [Ht]; · iexact Ht
    iexact Hr
  iintro Hc
  iapply Hk
  isplitl [Hc]; · iexact Hc
  iexact Hat

/-- The wait for the copy of a finished half. -/
theorem waitOwn_spec {c : Dev nD} (g k : Fin 2) {t : ℕ} (ht : tm (uu 14) g k ≤ t) {Q : PUnit → sProp 𝕄} :
    iprop(ctx I ∗ ownF c g k ∗ due c t)
      ⊢ iprop(((ownEnd I c g k ∗ due c t) -∗ Q ⟨⟩) -∗ WP c (waitOwn (places c) g k) Q) := by
  unfold ownEnd ownF
  iintro ⟨#Hctx, ⟨Hc, Hat⟩, HO⟩ Hk
  iapply (wait_spec I (.os g k) trivial 0 Nat.one_pos (t := t) (osI g k) (tm_lt (by omega) g k (by omega))
    (lev_turn ht (by unfold osI; omega)) (src := accH g k) (dst := yH (yAt (row g 7 c) g k)) (h₁ := accH_exact g k)
    (h₂ := View.wordExact_bits rfl) rfl (credit_y _)) $$ [Hc Hat HO]
  · isplitr; · iexact Hctx
    isplitl [Hc]; · iexact Hc
    isplitl [HO]; · iexact HO
    iexact Hat
  iintro ⟨HO, Hat, -, Hp⟩
  have hp : payK I c (.os g k) 0 0 ⊢ iprop(yNew I c g k 7 ∗ held c (accH g k)) := Entails.of_eq rfl
  ihave Hp := hp $$ Hp
  icases Hp with ⟨Hy, Hac⟩
  iapply Hk
  isplitr [HO]; swap; · iexact HO
  isplitl [Hy]; · iexact Hy
  isplitl [Hac]; · iexact Hac
  iexact Hat

/-! ## The steps of the second phase -/

/-- At the turn of step seven nothing is paid before the send. -/
theorem seven_skip (g k : Fin 2) (o : Ob) : tm (uu 7) g k ≤ o.time ↔ tm (uu 7) g k + 4 ≤ o.time := by
  have := g.isLt; have := k.isLt
  cases o with
  | bar g' => have := g'.isLt; simp only [Ob.time, tm, uu] at *; simp; omega
  | snd g' k' s' =>
    have := g'.isLt; have := k'.isLt; have := s'.isLt
    simp only [Ob.time, tm, uu] at *; simp; split_ifs <;> omega
  | crd g' k' s' =>
    have := g'.isLt; have := k'.isLt; have := s'.isLt
    simp only [Ob.time, tm, uu] at *; simp; split_ifs <;> omega
  | sx p => have := p.isLt; simp only [Ob.time, tm, uu] at *; simp; omega

/-- From the turn of step thirteen on nothing is paid. -/
theorem time_end (o : Ob) : o.time < tm 16 0 0 := by
  cases o with
  | bar g' => have := g'.isLt; simp only [Ob.time, tm] at *; simp; omega
  | snd g' k' s' =>
    have := g'.isLt; have := k'.isLt; have := s'.isLt
    simp only [Ob.time, tm, uu] at *; simp; split_ifs <;> omega
  | crd g' k' s' =>
    have := g'.isLt; have := k'.isLt; have := s'.isLt
    simp only [Ob.time, tm, uu] at *; simp; split_ifs <;> omega
  | sx p => have := p.isLt; simp only [Ob.time, tm] at *; simp; omega

theorem end_skip {t t' : ℕ} (h : tm 16 0 0 ≤ t) (h' : tm 16 0 0 ≤ t') (o : Ob) : t ≤ o.time ↔ t' ≤ o.time := by
  have := time_end o; omega

theorem uu_late {s : ℕ} (h : 7 ≤ s) : uu s = s + 3 := if_neg (by omega)

/-- The last part of a step of the second phase: the credit for step `s + 1` and its send. -/
theorem pass_spec {c : Dev nD} (g k : Fin 2) (n : ℕ) (hn : n < 6) {a : ℕ} (ha : a = 2 * (n + 6) + k.val) {t' : ℕ} (ht' : t' = tm (uu (n + 7)) g k + 10) {Q : PUnit → sProp 𝕄} :
    iprop(ctx I ∗ own c (rvH g (slot (n + 7)) k) fullShare (sentV I (prv g c) g k (n + 7)) ∗ mid c g k (n + 7)
        ∗ bigSep (Finset.Ico (n + 6) 12) (crC c g k) ∗ crPos c g a ∗ due c (tm (uu (n + 7)) g k + 4))
      ⊢ iprop(((lane I c g k (n + 8) ∗ crPos c g (a + 1) ∗ due c t') -∗ Q ⟨⟩)
        -∗ WP c (pass (places c) g n k) Q) := by
  subst ha ht'
  iintro ⟨#Hctx, Hrv, Hm, HcC, Hp, HO⟩ Hk
  unfold pass
  iapply wp_seq
  ihave HcC := (ico_take (Φ := crC c g k) (show n + 6 < 12 by omega)) $$ HcC
  icases HcC with ⟨Hc, HcC⟩
  iapply (credit_take I g k (n + 6) (by omega) (t := tm (uu (n + 7)) g k + 4) rfl) $$ [Hc Hp HO]
  · isplitr; · iexact Hctx
    isplitl [Hc]; · iexact Hc
    isplitl [Hp]; · iexact Hp
    iexact HO
  iintro ⟨Hp, #Hr, HO⟩
  ihave HO := (due_skip (F := F) (c := c) (t := tm (uu (n + 7)) g k + 4) (t' := tm (uu (n + 7)) g k + 5) (turn_skip (d := 4) (d' := 5) (by omega))) $$ HO
  iapply (sendNext_spec I g k (n + 7) (by omega) (srcM_succ g k (by omega)).symm (sentV_succ I c g k (by omega)).symm
    (t := tm (uu (n + 7)) g k + 5) (t' := tm (uu (n + 7)) g k + 6) rfl rfl) $$ [Hrv Hm HcC HO]
  · isplitr; · iexact Hctx
    isplitl [Hrv]; · iexact Hrv
    isplitl [Hm]; · iexact Hm
    isplitr; · iexact Hr
    isplitl [HcC]; · iexact HcC
    iexact HO
  iintro ⟨Hl, HO⟩
  ihave HO := (due_skip (F := F) (c := c) (t := tm (uu (n + 7)) g k + 6) (t' := tm (uu (n + 7)) g k + 10) (turn_skip (d := 6) (d' := 10) (by omega))) $$ HO
  iapply Hk
  isplitl [Hl]; · iexact Hl
  isplitl [Hp]; · iexact Hp
  iexact HO

/-- The first step of the second phase: the half's own block is back and the first other one is on its way. -/
theorem gat0_spec {c : Dev nD} (g k : Fin 2) {a a' t t' : ℕ} (ha : a = 12 + k.val) (ha' : a' = a + 1) (ht : t = tm 10 g k) (ht' : t' = t + 10) {Q : PUnit → sProp 𝕄} :
    iprop(ctx I ∗ lane I c g k 7 ∗ crPos c g a ∗ due c t)
      ⊢ iprop(((own c (accH g k) fullShare (accV I c g k 7) ∗ lane I c g k 8 ∗ crPos c g a' ∗ due c t') -∗ Q ⟨⟩)
        -∗ WP c (gat0 (places c) g k) Q) := by
  subst ha' ht' ht
  have hu : tm 10 g k = tm (uu 7) g k := rfl
  rw [hu, ← sentV_le I c g k (le_refl 7)]
  have hl : lane I c g k 7 ⊢ iprop(own c (accH g k) fullShare.right (sentV I c g k 7) ∗ ssC c g k 7 ∗ spots c g k 7 ∗ ents c g 7
    ∗ bigSep (Finset.Ico 8 14) (sendSup c g k) ∗ bigSep (Finset.Ico 7 14) (rsC c g k)
    ∗ bigSep (Finset.Ico 7 12) (crT c g k) ∗ bigSep (Finset.Ico 6 12) (crC c g k) ∗ readers c g k 7) := by
    unfold lane
    rw [srcM_le g k (le_refl 7)]
    exact Entails.of_eq rfl
  iintro ⟨#Hctx, Hl, Hp, HO⟩ Hk
  ihave Hl := hl $$ Hl
  unfold spots readers
  icases Hl with ⟨Hac, Hss, ⟨HpS, HpS', HpR, HpR', #HrS, -⟩, #Hen, Hsup, Hrs, HcT, HcC, Hrd, Hrd'⟩
  unfold gat0
  iapply wp_seq
  iapply (waitSend_spec I g k 7 (by omega) (srcM_le g k (le_refl 7)).symm (credit_acc g k) (le_refl _)) $$ [Hac Hss HpS HO]
  · isplitr; · iexact Hctx
    isplitl [Hac]; · iexact Hac
    isplitl [Hss]; · iexact Hss
    isplitl [HpS]; · iexact HpS
    iexact HO
  iintro ⟨Hac, HpS, #HrS', HO⟩
  iapply wp_seq
  ihave Hrs := (ico_take (Φ := rsC c g k) (show 7 < 14 by omega)) $$ Hrs
  icases Hrs with ⟨Hr, Hrs⟩
  iapply (waitRecv_spec I g k 7 (by omega) (le_refl _)) $$ [Hr HpR HO]
  · isplitr; · iexact Hctx
    isplitl [Hr]; · iexact Hr
    isplitl [HpR]; · iexact HpR
    iexact HO
  iintro ⟨Hrv, #He, HpR, #HrR, HO⟩
  ihave #Hen' := (ents_succ (F := F) (c := c) (g := g) (s := 7)) $$ []
  · isplitr; · iexact Hen
    iexact He
  ihave HO := (due_skip (F := F) (c := c) (t := tm (uu 7) g k) (t' := tm (uu 7) g k + 4) (seven_skip g k)) $$ HO
  iapply (pass_spec I g k 0 (by omega) (a := a) ha rfl) $$ [Hrv HpS HpS' HpR HpR' Hsup Hrs HcT Hrd Hrd' HcC Hp HO]
  · isplitr; · iexact Hctx
    isplitl [Hrv]; · iexact Hrv
    isplitr [HcC Hp HO]
    · unfold mid spots readers
      rw [if_neg (show ¬ 0 + 7 + 1 ≤ 7 by omega)]
      isplitr; · iexact HrS
      isplitl [HpS HpS' HpR HpR']
      · isplitl [HpS']; · iexact HpS'
        isplitl [HpS]; · iexact HpS
        isplitl [HpR']; · iexact HpR'
        isplitl [HpR]; · iexact HpR
        isplitr; · iexact HrS'
        iexact HrR
      isplitr; · iexact Hen'
      isplitl [Hsup]; · iexact Hsup
      isplitl [Hrs]; · iexact Hrs
      isplitl [HcT]; · iexact HcT
      isplitl [Hrd']; · iexact Hrd'
      iexact Hrd
    isplitl [HcC]; · iexact HcC
    isplitl [Hp]; · iexact Hp
    iexact HO
  iintro ⟨Hl, Hp, HO⟩
  iapply Hk
  isplitl [Hac]; · iexact Hac
  isplitl [Hl]; · iexact Hl
  isplitl [Hp]; · iexact Hp
  iexact HO

/-- A half's state after its send of step `n + 8`, spelt out. -/
theorem lane_late {c : Dev nD} (g k : Fin 2) (n : ℕ) :
    lane I c g k (n + 8) ⊢ iprop(own c (rvH g (slot (n + 7)) k) fullShare.right (sentV I c g k (n + 8)) ∗ ssC c g k (n + 8) ∗ spots c g k (n + 8) ∗ ents c g (n + 8)
    ∗ bigSep (Finset.Ico (n + 9) 14) (sendSup c g k) ∗ bigSep (Finset.Ico (n + 8) 14) (rsC c g k)
    ∗ bigSep (Finset.Ico (n + 7) 12) (crT c g k) ∗ bigSep (Finset.Ico (n + 7) 12) (crC c g k)
    ∗ readerAt ES (c, .inl (g, slot (n + 8), k)) ((n + 8) / 2 + 1) ∗ readerAt ES (c, .inl (g, slot (n + 7), k)) ((n + 7) / 2 + 1)) := by
  unfold lane readers nextC
  rw [if_neg (show ¬ n + 8 ≤ 7 by omega), if_neg (show ¬ n + 8 ≤ 7 by omega), show srcM g k (n + 8) = rvH g (slot (n + 7)) k from srcM_succ g k (show 7 ≤ n + 7 by omega),
    show n + 8 + 1 = n + 7 + 2 from rfl, slot_two (n + 7), div_two (n + 7)]
  exact Entails.of_eq rfl

/-- Step `n + 8` of the second phase. -/
theorem gat_spec {c : Dev nD} (g k : Fin 2) (n : ℕ) (hn : n < 5) {a a' t t' : ℕ} (ha : a = 2 * (n + 7) + k.val) (ha' : a' = a + 1)
    (ht : t = tm (n + 11) g k) (ht' : t' = t + 10) {Q : PUnit → sProp 𝕄} :
    iprop(ctx I ∗ lane I c g k (n + 8) ∗ stoF I c g k n ∗ ring c g a a ∗ due c t)
      ⊢ iprop(((lane I c g k (n + 9) ∗ sto I c g k (n + 1) ∗ ring c g a' a' ∗ due c t') -∗ Q ⟨⟩)
        -∗ WP c (gat (places c) g n k) Q) := by
  subst ha' ht' ht
  have hu : tm (n + 11) g k = tm (uu (n + 8)) g k := by rw [uu_late (show 7 ≤ n + 8 by omega)]
  rw [hu]
  unfold ring
  iintro ⟨#Hctx, Hl, Hf, ⟨Hp, HN⟩, HO⟩ Hk
  ihave Hl := (lane_late I g k n) $$ Hl
  unfold spots
  icases Hl with ⟨Hrv, Hss, ⟨HpS, HpS', HpR, HpR', #HrS, #HrR'⟩, #Hen, Hsup, Hrs, HcT, HcC, Hrd, Hrd'⟩
  unfold gat gatA
  iapply wp_seq
  iapply wp_seq
  iapply (waitSend_spec I g k (n + 8) (by omega) (srcM_succ g k (show 7 ≤ n + 7 by omega)).symm (credit_rv g _ k) (le_refl _)) $$ [Hrv Hss HpS HO]
  · isplitr; · iexact Hctx
    isplitl [Hrv]; · iexact Hrv
    isplitl [Hss]; · iexact Hss
    isplitl [HpS]; · iexact HpS
    iexact HO
  iintro ⟨Hrv, HpS, #HrS', HO⟩
  iapply (waitSt_spec I g k n (by omega) (t := tm (uu (n + 8)) g k) (le_refl _)) $$ [Hf HO]
  · isplitr; · iexact Hctx
    isplitl [Hf]; · iexact Hf
    iexact HO
  iintro ⟨Hsto, HO⟩
  iapply wp_seq
  ihave HcT := (ico_take (Φ := crT c g k) (show n + 7 < 12 by omega)) $$ HcT
  icases HcT with ⟨Hct, HcT⟩
  ihave HO := (due_skip (F := F) (c := c) (t := tm (uu (n + 8)) g k) (t' := tm (uu (n + 8)) g k + 3) (turn_skip (d := 0) (d' := 3) (by omega))) $$ HO
  ihave #HrR'' := (show reached ER (cell c (.rs g (slot (n + 8 + 1)) k)) ((n + 8 + 1) / 2) ⊢ (reached ER (cell c (.rs g (slot (n + 7)) k)) ((n + 7) / 2 + 1) : sProp 𝕄) from by
    rw [show n + 8 + 1 = n + 7 + 2 from rfl, slot_two (n + 7), div_two (n + 7)]) $$ HrR'
  iapply (credit_give I g k ⟨n + 7, by omega⟩ (t := tm (uu (n + 8)) g k + 3) (t' := tm (uu (n + 8)) g k + 4)
    (by show _ = if n + 7 ≤ 6 then tm (uu (n + 7)) g k + 3 else tm (uu (n + 7 + 1)) g k + 3; rw [if_neg (by omega)]) rfl) $$ [Hrv Hrd' HN Hct HO]
  · isplitr; · iexact Hctx
    isplitl [Hrv]; · iapply own_held; iexact Hrv
    isplitl [Hrd']; · iexact Hrd'
    isplitr; · iexact HrR''
    isplitl [HN]; · rw [ha]; iexact HN
    isplitl [Hct]; · iexact Hct
    iexact HO
  iintro ⟨Hrd', HN, HO⟩
  iapply wp_seq
  ihave Hrs := (ico_take (Φ := rsC c g k) (show n + 8 < 14 by omega)) $$ Hrs
  icases Hrs with ⟨Hr, Hrs⟩
  iapply (waitRecv_spec I g k (n + 8) (by omega) (t := tm (uu (n + 8)) g k + 4) (by omega)) $$ [Hr HpR HO]
  · isplitr; · iexact Hctx
    isplitl [Hr]; · iexact Hr
    isplitl [HpR]; · iexact HpR
    iexact HO
  iintro ⟨Hrv, #He, HpR, #HrR, HO⟩
  ihave #Hen' := (ents_succ (F := F) (c := c) (g := g) (s := n + 8)) $$ []
  · isplitr; · iexact Hen
    iexact He
  iapply (pass_spec I g k (n + 1) (by omega) (a := a) (by rw [ha]) rfl) $$ [Hrv HpS HpS' HpR HpR' Hsup Hrs HcT Hrd Hrd' HcC Hp HO]
  · isplitr; · iexact Hctx
    isplitl [Hrv]; · iexact Hrv
    isplitr [HcC Hp HO]
    · have hm : mid (F := F) c g k (n + 1 + 7) = mid c g k (n + 8) := rfl
      rw [hm]
      unfold mid spots readers nextC
      rw [if_neg (show ¬ n + 8 + 1 ≤ 7 by omega), if_neg (show ¬ n + 8 + 1 ≤ 7 by omega), show n + 8 + 1 + 1 = n + 8 + 2 from rfl, slot_two (n + 8), div_two (n + 8)]
      isplitr; · iexact HrS
      isplitl [HpS HpS' HpR HpR']
      · isplitl [HpS']; · iexact HpS'
        isplitl [HpS]; · iexact HpS
        isplitl [HpR']; · iexact HpR'
        isplitl [HpR]; · iexact HpR
        isplitr; · iexact HrS'
        iexact HrR
      isplitr; · iexact Hen'
      isplitl [Hsup]; · iexact Hsup
      isplitl [Hrs]; · iexact Hrs
      isplitl [HcT]; · iexact HcT
      isplitl [Hrd']
      · rw [show n + 8 + 1 = n + 7 + 2 from rfl, slot_two (n + 7), div_two (n + 7)]; iexact Hrd'
      iexact Hrd
    isplitl [HcC]; · iexact HcC
    isplitl [Hp]; · iexact Hp
    iexact HO
  iintro ⟨Hl, Hp, HO⟩
  iapply Hk
  isplitl [Hl]; · iexact Hl
  isplitl [Hsto]; · iexact Hsto
  isplitl [Hp HN]
  · isplitl [Hp]; · iexact Hp
    rw [ha]; iexact HN
  iexact HO

/-- What a half's way round leaves. -/
def fin (c : Dev nD) (g k : Fin 2) : sProp 𝕄 :=
  iprop(own c (rvH g (slot 13) k) fullShare (sentV I (prv g c) g k 13) ∗ held c (rvH g (slot 12) k) ∗ spots c g k 14)

/-- The last step of the second phase. -/
theorem gatLast_spec {c : Dev nD} (g k : Fin 2) {t t' : ℕ} (ht : t = tm 16 g k) (ht' : t' = t + 10) {Q : PUnit → sProp 𝕄} :
    iprop(ctx I ∗ lane I c g k 13 ∗ stoF I c g k 5 ∗ due c t)
      ⊢ iprop(((fin I c g k ∗ sto I c g k 6 ∗ due c t') -∗ Q ⟨⟩) -∗ WP c (gatLast (places c) g k) Q) := by
  subst ht' ht
  have hu : tm 16 g k = tm (uu 13) g k := rfl
  have h16 : tm 16 0 0 ≤ tm 16 g k := by unfold tm; simp
  rw [hu] at h16 ⊢
  iintro ⟨#Hctx, Hl, Hf, HO⟩ Hk
  ihave Hl := (lane_late I g k 5) $$ Hl
  unfold fin spots
  icases Hl with ⟨Hrv, Hss, ⟨HpS, HpS', HpR, HpR', #HrS, #HrR'⟩, #Hen, Hsup, Hrs, -⟩
  unfold gatLast gatA
  iapply wp_seq
  iapply wp_seq
  iapply (waitSend_spec I g k 13 (by omega) (srcM_succ g k (show 7 ≤ 12 by omega)).symm (credit_rv g _ k) (le_refl _)) $$ [Hrv Hss HpS HO]
  · isplitr; · iexact Hctx
    isplitl [Hrv]; · iexact Hrv
    isplitl [Hss]; · iexact Hss
    isplitl [HpS]; · iexact HpS
    iexact HO
  iintro ⟨Hrv, HpS, #HrS', HO⟩
  iapply (waitSt_spec I g k 5 (by omega) (t := tm (uu 13) g k) (le_refl _)) $$ [Hf HO]
  · isplitr; · iexact Hctx
    isplitl [Hf]; · iexact Hf
    iexact HO
  iintro ⟨Hsto, HO⟩
  ihave Hrs := (ico_take (Φ := rsC c g k) (show 13 < 14 by omega)) $$ Hrs
  icases Hrs with ⟨Hr, Hrs⟩
  iapply (waitRecv_spec I g k 13 (by omega) (t := tm (uu 13) g k) (by omega)) $$ [Hr HpR HO]
  · isplitr; · iexact Hctx
    isplitl [Hr]; · iexact Hr
    isplitl [HpR]; · iexact HpR
    iexact HO
  iintro ⟨Hrv', -, HpR, #HrR, HO⟩
  ihave HO := (due_skip (F := F) (c := c) (t := tm (uu 13) g k) (t' := tm (uu 13) g k + 10) (end_skip h16 (by omega))) $$ HO
  iapply Hk
  isplitr [Hsto HO]
  · isplitl [Hrv']; · iexact Hrv'
    isplitl [Hrv]; · iapply own_held; iexact Hrv
    isplitl [HpS']; · iexact HpS'
    isplitl [HpS]; · iexact HpS
    isplitl [HpR']; · iexact HpR'
    isplitl [HpR]; · iexact HpR
    isplitr; · iexact HrS'
    iexact HrR
  isplitl [Hsto]; · iexact Hsto
  iexact HO

end Cert.KernelIdeal.Hand

end

end
-- ==== Proof.Sum.lean ====
module

public import proofs.«01_k».proof.Proof.Phase1

/-! # The first phase, whole, and the exchange of the maximum -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (I : Inp F)

/-- What a half starts with. -/
def lane₀ (c : Dev nD) (g k : Fin 2) : sProp 𝕄 :=
  iprop(spots c g k 0 ∗ bigSep (Finset.Ico 0 14) (sendSup c g k) ∗ bigSep (Finset.Ico 0 14) (rsC c g k)
    ∗ bigSep (Finset.Ico 0 12) (crT c g k) ∗ bigSep (Finset.Ico 0 12) (crC c g k) ∗ readers c g k 0)

omit [FloatOps F] in
theorem ready₀_get {c : Dev nD} {g : Fin 2} (s k : Fin 2) : ready₀ (F := F) c g ⊢ ready c g s.val k := by
  unfold ready₀
  exact BI.bigSep_elim (Φ := fun sk : Fin 2 × Fin 2 => ready (F := F) c g sk.1.val sk.2) (Finset.mem_univ (s, k))

omit [FloatOps F] in
theorem ents_zero {c : Dev nD} {g : Fin 2} : entered (F := F) c ⊢ ents c g 0 := by
  unfold ents
  exact Entails.of_eq (BI.bigSep_singleton (Φ := fun j => entered (F := F) ((prv g)^[j] c)) (i := 0)).symm

/-- The first send of a half. -/
theorem first_spec {c : Dev nD} (g k : Fin 2) {h : (accH g k).view.WordExact} {t t' : ℕ} (ht : t = 50 + 2 * g.val + k.val) (ht' : t' = t + 1) {Q : PUnit → sProp 𝕄} :
    iprop(ctx I ∗ own c (accH g k) fullShare (sentV I c g k 0) ∗ lane₀ c g k ∗ ready₀ (nxt g c) g ∗ entered c ∗ due c t)
      ⊢ iprop(((lane I c g k 0 ∗ due c t') -∗ Q ⟨⟩) -∗ WP c (send (places c) g 0 k (accH g k) h) Q) := by
  unfold lane₀ lane
  iintro ⟨#Hctx, Hs, ⟨Hsp, Hsup, Hrs, HcT, HcC, Hrd⟩, #Hr0, #He, HO⟩ Hk
  ihave Hx := (ico_take (Φ := sendSup c g k) (show 0 < 14 by omega)) $$ Hsup
  icases Hx with ⟨Hx, Hsup⟩
  unfold sendSup
  icases Hx with ⟨Hd₁, Hd₂, Hw⟩
  ihave #Hr := (ready₀_get (F := F) (c := nxt g c) (g := g) 0 k) $$ Hr0
  ihave #Hre := (ctx_reached I c (.ss g (slot 0) k)) $$ Hctx
  ihave #Hen := (ents_zero (F := F) (c := c) (g := g)) $$ He
  iapply (send_spec I g 0 k (ssI g k 0) (srcM_le g k (Nat.zero_le 7)).symm (t := t) (t' := t') ht ht') $$ [Hs Hd₁ Hd₂ Hw HO]
  · isplitr; · iexact Hctx
    isplitl [Hs]; · iexact Hs
    isplitr; · iexact Hr
    isplitr; · iexact He
    isplitl [Hw]; · iexact Hw
    isplitl [Hd₁]; · iexact Hd₁
    isplitr; · iexact Hre
    isplitl [Hd₂]; · iexact Hd₂
    iexact HO
  iintro ⟨Hs, Hc, HO⟩
  iapply Hk
  isplitr [HO]; swap; · iexact HO
  isplitl [Hs]; · rw [srcM_le g k (Nat.zero_le 7)]; iexact Hs
  isplitl [Hc]; · unfold ssC; iexact Hc
  isplitl [Hsp]; · iexact Hsp
  isplitr; · iexact Hen
  isplitl [Hsup]; · iexact Hsup
  isplitl [Hrs]; · iexact Hrs
  isplitl [HcT]; · iexact HcT
  isplitl [HcC]; · iexact HcC
  iexact Hrd

/-- A ring's start. -/
theorem startRing_spec {c : Dev nD} (g : Fin 2) {t t' : ℕ} (ht : t = 50 + 2 * g.val) (ht' : t' = t + 2) {Q : PUnit → sProp 𝕄} :
    iprop(ctx I ∗ args I c ∗ held c (accM g) ∗ lane₀ c g 0 ∗ lane₀ c g 1 ∗ ready₀ (nxt g c) g ∗ entered c ∗ due c t)
      ⊢ iprop(((args I c ∗ lane I c g 0 0 ∗ lane I c g 1 0 ∗ due c t') -∗ Q ⟨⟩) -∗ WP c (startRing (places c) g) Q) := by
  iintro ⟨#Hctx, Ha, Hac, Hl0, Hl1, #Hr, #He, HO⟩ Hk
  unfold startRing
  iapply wp_seq
  iapply (fillAcc_spec I g) $$ [Ha Hac]
  · isplitl [Ha] <;> iassumption
  iintro ⟨Ha, H0, H1⟩
  iapply wp_seq
  iapply (first_spec I g 0 (t := t) (t' := t + 1) (by rw [ht]; rfl) rfl) $$ [H0 Hl0 HO]
  · isplitr; · iexact Hctx
    isplitl [H0]; · iexact H0
    isplitl [Hl0]; · iexact Hl0
    isplitr; · iexact Hr
    isplitr; · iexact He
    iexact HO
  iintro ⟨Hl0, HO⟩
  iapply (first_spec I g 1 (t := t + 1) (t' := t') (by rw [ht]; rfl) ht') $$ [H1 Hl1 HO]
  · isplitr; · iexact Hctx
    isplitl [H1]; · iexact H1
    isplitl [Hl1]; · iexact Hl1
    isplitr; · iexact Hr
    isplitr; · iexact He
    iexact HO
  iintro ⟨Hl1, HO⟩
  iapply Hk
  isplitl [Ha]; · iexact Ha
  isplitl [Hl0]; · iexact Hl0
  isplitl [Hl1]; · iexact Hl1
  iexact HO

/-- All four halves before step `s`. -/
def lanes (c : Dev nD) (s : ℕ) : sProp 𝕄 := iprop(lane I c 0 0 s ∗ lane I c 1 0 s ∗ lane I c 0 1 s ∗ lane I c 1 1 s)
/-- Both rings' credits. -/
def rings (c : Dev nD) (a b : ℕ) : sProp 𝕄 := iprop(ring c 0 a b ∗ ring c 1 a b)
/-- Both staged slabs. -/
def stags (c : Dev nD) (s : ℕ) : sProp 𝕄 := iprop(staged I c 0 s ∗ staged I c 1 s)

/-- Both slabs are staged anew. -/
theorem fillSts_spec {c : Dev nD} {s : ℕ} (hs : s < 7) {Q : PUnit → sProp 𝕄} :
    iprop(args I c ∗ held c (stM 0) ∗ held c (stM 1))
      ⊢ iprop(((args I c ∗ stags I c s) -∗ Q ⟨⟩) -∗ WP c (fillSt (places c) 0 s >>= fun _ => fillSt (places c) 1 s) Q) := by
  unfold stags
  iintro ⟨Ha, H0, H1⟩ Hk
  iapply wp_seq
  iapply (fillSt_spec I 0 hs) $$ [Ha H0]
  · isplitl [Ha] <;> iassumption
  iintro ⟨Ha, H0⟩
  iapply (fillSt_spec I 1 hs) $$ [Ha H1]
  · isplitl [Ha] <;> iassumption
  iintro ⟨Ha, H1⟩
  iapply Hk
  isplitl [Ha]; · iexact Ha
  isplitl [H0] <;> iassumption

/-- Step `s + 1`, the numbers given. -/
theorem red_at {c : Dev nD} (g k : Fin 2) (s : ℕ) (hs : s < 6) {a a' b b' t t' : ℕ} (ha : a = 2 * s + k.val) (ha' : a' = a + 1) (hb : b = a + 2) (hb' : b' = b + 1)
    (ht : t = tm (s + 1) g k) (ht' : t' = t + 10) {Q : PUnit → sProp 𝕄} :
    iprop(ctx I ∗ lane I c g k (s + 1) ∗ staged I c g (s + 1) ∗ ring c g a b ∗ due c t)
      ⊢ iprop(((lane I c g k (s + 2) ∗ staged I c g (s + 1) ∗ ring c g a' b' ∗ due c t') -∗ Q ⟨⟩)
        -∗ WP c (red (places c) g (s + 1) k) Q) := by
  subst ht' ht hb' hb ha' ha
  have h := red_spec I (c := c) g k s hs (Q := Q)
  rw [show 2 * (s + 1) + k.val = 2 * s + k.val + 2 by omega] at h
  exact h

/-- Step `0`, the numbers given. -/
theorem red0_at {c : Dev nD} (g k : Fin 2) {b b' t t' : ℕ} (hb : b = k.val) (hb' : b' = b + 1)
    (ht : t = tm 0 g k) (ht' : t' = t + 10) {Q : PUnit → sProp 𝕄} :
    iprop(ctx I ∗ lane I c g k 0 ∗ staged I c g 0 ∗ ring c g 0 b ∗ ready₀ (nxt g c) g ∗ due c t)
      ⊢ iprop(((lane I c g k 1 ∗ staged I c g 0 ∗ ring c g 0 b' ∗ due c t') -∗ Q ⟨⟩)
        -∗ WP c (red0 (places c) g k) Q) := by
  subst ht' ht hb' hb
  refine .trans ?_ (red0_spec I (c := c) g k (Q := Q))
  iintro ⟨#Hctx, Hl, Hst, Hr, Hrd, HO⟩
  isplitr; · iexact Hctx
  isplitl [Hl]; · iexact Hl
  isplitl [Hst]; · iexact Hst
  isplitl [Hr]; · iexact Hr
  isplitl [Hrd]; · iapply (ready₀_get (F := F) (c := nxt g c) (g := g) 1 k); iexact Hrd
  iexact HO

/-- A step over halves and rings, and the staging of the next. -/
theorem redStep_spec {c : Dev nD} (s : ℕ) (hs : s < 5) {Q : PUnit → sProp 𝕄} :
    iprop(ctx I ∗ args I c ∗ lanes I c (s + 1) ∗ stags I c (s + 1) ∗ rings c (2 * s) (2 * s + 2) ∗ due c (tm (s + 1) 0 0))
      ⊢ iprop(((args I c ∗ lanes I c (s + 2) ∗ stags I c (s + 2) ∗ rings c (2 * s + 2) (2 * s + 4) ∗ due c (tm (s + 2) 0 0)) -∗ Q ⟨⟩)
        -∗ WP c (redStep (places c) (s + 1)) Q) := by
  unfold lanes rings
  iintro ⟨#Hctx, Ha, ⟨L00, L10, L01, L11⟩, Hst, ⟨R0, R1⟩, HO⟩ Hk
  unfold stags
  icases Hst with ⟨S0, S1⟩
  unfold redStep
  iapply wp_seq
  iapply (red_at I 0 0 s (by omega) (a := 2 * s) (a' := 2 * s + 1) (b := 2 * s + 2) (b' := 2 * s + 3) (t := tm (s + 1) 0 0) (t' := tm (s + 1) 0 0 + 10) rfl rfl rfl rfl rfl rfl) $$ [L00 S0 R0 HO]
  · isplitr; · iexact Hctx
    isplitl [L00]; · iexact L00
    isplitl [S0]; · iexact S0
    isplitl [R0]; · iexact R0
    iexact HO
  iintro ⟨L00, S0, R0, HO⟩
  iapply wp_seq
  iapply (red_at I 1 0 s (by omega) (a := 2 * s) (a' := 2 * s + 1) (b := 2 * s + 2) (b' := 2 * s + 3) (t := tm (s + 1) 0 0 + 10) (t' := tm (s + 1) 0 0 + 20) rfl rfl rfl rfl rfl rfl) $$ [L10 S1 R1 HO]
  · isplitr; · iexact Hctx
    isplitl [L10]; · iexact L10
    isplitl [S1]; · iexact S1
    isplitl [R1]; · iexact R1
    iexact HO
  iintro ⟨L10, S1, R1, HO⟩
  iapply wp_seq
  iapply (red_at I 0 1 s (by omega) (a := 2 * s + 1) (a' := 2 * s + 2) (b := 2 * s + 3) (b' := 2 * s + 4) (t := tm (s + 1) 0 0 + 20) (t' := tm (s + 1) 0 0 + 30) rfl rfl rfl rfl rfl rfl) $$ [L01 S0 R0 HO]
  · isplitr; · iexact Hctx
    isplitl [L01]; · iexact L01
    isplitl [S0]; · iexact S0
    isplitl [R0]; · iexact R0
    iexact HO
  iintro ⟨L01, S0, R0, HO⟩
  iapply wp_seq
  iapply (red_at I 1 1 s (by omega) (a := 2 * s + 1) (a' := 2 * s + 2) (b := 2 * s + 3) (b' := 2 * s + 4) (t := tm (s + 1) 0 0 + 30) (t' := tm (s + 2) 0 0) rfl rfl rfl rfl rfl
    (by unfold tm; simp; omega)) $$ [L11 S1 R1 HO]
  · isplitr; · iexact Hctx
    isplitl [L11]; · iexact L11
    isplitl [S1]; · iexact S1
    isplitl [R1]; · iexact R1
    iexact HO
  iintro ⟨L11, S1, R1, HO⟩
  ihave S0 := (staged_held I) $$ S0
  ihave S1 := (staged_held I) $$ S1
  iapply (fillSts_spec I (show s + 2 < 7 by omega)) $$ [Ha S0 S1]
  · isplitl [Ha]; · iexact Ha
    isplitl [S0] <;> iassumption
  unfold stags
  iintro ⟨Ha, Hst⟩
  iapply Hk
  isplitl [Ha]; · iexact Ha
  isplitl [L00 L10 L01 L11]
  · isplitl [L00]; · iexact L00
    isplitl [L10]; · iexact L10
    isplitl [L01]; · iexact L01
    iexact L11
  isplitl [Hst]; · iexact Hst
  isplitl [R0 R1]
  · isplitl [R0]; · iexact R0
    iexact R1
  iexact HO

/-- A half's largest value. -/
theorem maxHalf_spec {c : Dev nD} (g k : Fin 2) (m : F .f32) {Q : F .f32 → sProp 𝕄} :
    lane I c g k 7 ⊢ iprop((lane I c g k 7 -∗ Q (maxV m (accV I c g k 7))) -∗ WP c (maxHalf g k m) Q) := by
  unfold lane
  rw [srcM_le g k (le_refl 7), sentV_le I c g k (le_refl 7)]
  iintro ⟨Hac, Hrest⟩ Hk
  unfold maxHalf
  simp only [Prog.lift, Prog.bind_op, Prog.bind_ret, Prog.pure_eq_ret]
  unfold accH
  iapply (wp_load_slice (M := accM g) (r := accR k)) $$ Hac
  iintro Hac
  iapply wp_done
  iapply Hk
  isplitl [Hac]; · iexact Hac
  iexact Hrest

omit [FloatOps F] in
theorem readyN_zero {c : Dev nD} {g : Fin 2} : (emp : sProp 𝕄) ⊢ readyN (F := F) c g 0 := by
  unfold readyN
  rw [Finset.range_zero]
  exact Entails.of_eq BI.bigSep_empty.symm

/-- The first phase: every half has seen all devices' products, and the device's own maximum is known. -/
theorem phase1_spec {c : Dev nD} {Q : F .f32 → sProp 𝕄} :
    iprop(ctx I ∗ args I c ∗ (held c (accM 0) ∗ held c (accM 1)) ∗ (held c (stM 0) ∗ held c (stM 1))
        ∗ (lane₀ c 0 0 ∗ lane₀ c 0 1 ∗ lane₀ c 1 0 ∗ lane₀ c 1 1) ∗ (crPos c 0 0 ∗ crPos c 1 0)
        ∗ (ready₀ (nxt 0 c) 0 ∗ ready₀ (nxt 1 c) 1) ∗ entered c ∗ due c 50)
      ⊢ iprop(((args I c ∗ lanes I c 7 ∗ (held c (stM 0) ∗ held c (stM 1)) ∗ rings c 12 14 ∗ due c (tm 7 0 0)) -∗ Q (mS I 0 c))
        -∗ WP c (phase1 (places c)) Q) := by
  iintro ⟨#Hctx, Ha, ⟨A0, A1⟩, ⟨S0, S1⟩, ⟨L00, L01, L10, L11⟩, ⟨R0, R1⟩, ⟨#Y0, #Y1⟩, #He, HO⟩ Hk
  unfold phase1
  iapply wp_seq
  iapply (startRing_spec I 0 (t := 50) (t' := 52) rfl rfl) $$ [Ha A0 L00 L01 HO]
  · isplitr; · iexact Hctx
    isplitl [Ha]; · iexact Ha
    isplitl [A0]; · iexact A0
    isplitl [L00]; · iexact L00
    isplitl [L01]; · iexact L01
    isplitr; · iexact Y0
    isplitr; · iexact He
    iexact HO
  iintro ⟨Ha, L00, L01, HO⟩
  iapply wp_seq
  iapply (startRing_spec I 1 (t := 52) (t' := 54) rfl rfl) $$ [Ha A1 L10 L11 HO]
  · isplitr; · iexact Hctx
    isplitl [Ha]; · iexact Ha
    isplitl [A1]; · iexact A1
    isplitl [L10]; · iexact L10
    isplitl [L11]; · iexact L11
    isplitr; · iexact Y1
    isplitr; · iexact He
    iexact HO
  iintro ⟨Ha, L10, L11, HO⟩
  ihave HO := (due_skip (F := F) (c := c) (t := 54) (t' := tm 0 0 0) (by decide +kernel)) $$ HO
  iapply wp_seq
  iapply (fillSt_spec I 0 (show 0 < 7 by omega)) $$ [Ha S0]
  · isplitl [Ha] <;> iassumption
  iintro ⟨Ha, S0⟩
  iapply wp_seq
  iapply (fillSt_spec I 1 (show 0 < 7 by omega)) $$ [Ha S1]
  · isplitl [Ha] <;> iassumption
  iintro ⟨Ha, S1⟩
  ihave N0 := (readyN_zero (F := F) (c := prv 0 c) (g := 0)) $$ []
  · iempintro
  ihave N1 := (readyN_zero (F := F) (c := prv 1 c) (g := 1)) $$ []
  · iempintro
  iapply wp_seq
  iapply (red0_at I 0 0 (b := 0) (b' := 1) (t := tm 0 0 0) (t' := tm 0 1 0) rfl rfl rfl rfl) $$ [L00 S0 R0 N0 HO]
  · isplitr; · iexact Hctx
    isplitl [L00]; · iexact L00
    isplitl [S0]; · iexact S0
    isplitl [R0 N0]
    · unfold ring; isplitl [R0] <;> iassumption
    isplitr; · iexact Y0
    iexact HO
  iintro ⟨L00, S0, R0, HO⟩
  iapply wp_seq
  iapply (red0_at I 1 0 (b := 0) (b' := 1) (t := tm 0 1 0) (t' := tm 0 0 1) rfl rfl rfl rfl) $$ [L10 S1 R1 N1 HO]
  · isplitr; · iexact Hctx
    isplitl [L10]; · iexact L10
    isplitl [S1]; · iexact S1
    isplitl [R1 N1]
    · unfold ring; isplitl [R1] <;> iassumption
    isplitr; · iexact Y1
    iexact HO
  iintro ⟨L10, S1, R1, HO⟩
  iapply wp_seq
  iapply (red0_at I 0 1 (b := 1) (b' := 2) (t := tm 0 0 1) (t' := tm 0 1 1) rfl rfl rfl rfl) $$ [L01 S0 R0 HO]
  · isplitr; · iexact Hctx
    isplitl [L01]; · iexact L01
    isplitl [S0]; · iexact S0
    isplitl [R0]; · iexact R0
    isplitr; · iexact Y0
    iexact HO
  iintro ⟨L01, S0, R0, HO⟩
  iapply wp_seq
  iapply (red0_at I 1 1 (b := 1) (b' := 2) (t := tm 0 1 1) (t' := tm 1 0 0) rfl rfl rfl rfl) $$ [L11 S1 R1 HO]
  · isplitr; · iexact Hctx
    isplitl [L11]; · iexact L11
    isplitl [S1]; · iexact S1
    isplitl [R1]; · iexact R1
    isplitr; · iexact Y1
    iexact HO
  iintro ⟨L11, S1, R1, HO⟩
  ihave S0 := (staged_held I) $$ S0
  ihave S1 := (staged_held I) $$ S1
  iapply wp_seq
  iapply (fillSt_spec I 0 (show 1 < 7 by omega)) $$ [Ha S0]
  · isplitl [Ha] <;> iassumption
  iintro ⟨Ha, S0⟩
  iapply wp_seq
  iapply (fillSt_spec I 1 (show 1 < 7 by omega)) $$ [Ha S1]
  · isplitl [Ha] <;> iassumption
  iintro ⟨Ha, S1⟩
  ihave L := (show iprop(lane I c 0 0 1 ∗ lane I c 1 0 1 ∗ lane I c 0 1 1 ∗ lane I c 1 1 1) ⊢ lanes I c 1 from Entails.of_eq rfl) $$ [L00 L10 L01 L11]
  · isplitl [L00]; · iexact L00
    isplitl [L10]; · iexact L10
    isplitl [L01] <;> iassumption
  ihave S := (show iprop(staged I c 0 1 ∗ staged I c 1 1) ⊢ stags I c 1 from Entails.of_eq rfl) $$ [S0 S1]
  · isplitl [S0] <;> iassumption
  ihave R := (show iprop(ring (F := F) c 0 0 2 ∗ ring c 1 0 2) ⊢ rings c 0 2 from Entails.of_eq rfl) $$ [R0 R1]
  · isplitl [R0] <;> iassumption
  iapply wp_seq
  iapply (redStep_spec I 0 (by omega)) $$ [Ha L S R HO]
  · isplitr; · iexact Hctx
    isplitl [Ha]; · iexact Ha
    isplitl [L]; · iexact L
    isplitl [S]; · iexact S
    isplitl [R]; · iexact R
    iexact HO
  iintro ⟨Ha, L, S, R, HO⟩
  iapply wp_seq
  iapply (redStep_spec I 1 (by omega)) $$ [Ha L S R HO]
  · isplitr; · iexact Hctx
    isplitl [Ha]; · iexact Ha
    isplitl [L]; · iexact L
    isplitl [S]; · iexact S
    isplitl [R]; · iexact R
    iexact HO
  iintro ⟨Ha, L, S, R, HO⟩
  iapply wp_seq
  iapply (redStep_spec I 2 (by omega)) $$ [Ha L S R HO]
  · isplitr; · iexact Hctx
    isplitl [Ha]; · iexact Ha
    isplitl [L]; · iexact L
    isplitl [S]; · iexact S
    isplitl [R]; · iexact R
    iexact HO
  iintro ⟨Ha, L, S, R, HO⟩
  iapply wp_seq
  iapply (redStep_spec I 3 (by omega)) $$ [Ha L S R HO]
  · isplitr; · iexact Hctx
    isplitl [Ha]; · iexact Ha
    isplitl [L]; · iexact L
    isplitl [S]; · iexact S
    isplitl [R]; · iexact R
    iexact HO
  iintro ⟨Ha, L, S, R, HO⟩
  iapply wp_seq
  iapply (redStep_spec I 4 (by omega)) $$ [Ha L S R HO]
  · isplitr; · iexact Hctx
    isplitl [Ha]; · iexact Ha
    isplitl [L]; · iexact L
    isplitl [S]; · iexact S
    isplitl [R]; · iexact R
    iexact HO
  unfold lanes stags rings
  iintro ⟨Ha, ⟨L00, L10, L01, L11⟩, ⟨S0, S1⟩, ⟨R0, R1⟩, HO⟩
  iapply wp_seq
  iapply (red_at I 0 0 5 (by omega) (a := 10) (a' := 11) (b := 12) (b' := 13) (t := tm 6 0 0) (t' := tm 6 1 0) rfl rfl rfl rfl rfl rfl) $$ [L00 S0 R0 HO]
  · isplitr; · iexact Hctx
    isplitl [L00]; · iexact L00
    isplitl [S0]; · iexact S0
    isplitl [R0]; · iexact R0
    iexact HO
  iintro ⟨L00, S0, R0, HO⟩
  iapply wp_seq
  iapply (maxHalf_spec I 0 0 (Scalar.ofBits .f32 0x00000000#32)) $$ L00
  iintro L00
  iapply wp_seq
  iapply (red_at I 1 0 5 (by omega) (a := 10) (a' := 11) (b := 12) (b' := 13) (t := tm 6 1 0) (t' := tm 6 0 1) rfl rfl rfl rfl rfl rfl) $$ [L10 S1 R1 HO]
  · isplitr; · iexact Hctx
    isplitl [L10]; · iexact L10
    isplitl [S1]; · iexact S1
    isplitl [R1]; · iexact R1
    iexact HO
  iintro ⟨L10, S1, R1, HO⟩
  iapply wp_seq
  iapply (maxHalf_spec I 1 0 _) $$ L10
  iintro L10
  iapply wp_seq
  iapply (red_at I 0 1 5 (by omega) (a := 11) (a' := 12) (b := 13) (b' := 14) (t := tm 6 0 1) (t' := tm 6 1 1) rfl rfl rfl rfl rfl rfl) $$ [L01 S0 R0 HO]
  · isplitr; · iexact Hctx
    isplitl [L01]; · iexact L01
    isplitl [S0]; · iexact S0
    isplitl [R0]; · iexact R0
    iexact HO
  iintro ⟨L01, S0, R0, HO⟩
  iapply wp_seq
  iapply (maxHalf_spec I 0 1 _) $$ L01
  iintro L01
  iapply wp_seq
  iapply (red_at I 1 1 5 (by omega) (a := 11) (a' := 12) (b := 13) (b' := 14) (t := tm 6 1 1) (t' := tm 7 0 0) rfl rfl rfl rfl rfl rfl) $$ [L11 S1 R1 HO]
  · isplitr; · iexact Hctx
    isplitl [L11]; · iexact L11
    isplitl [S1]; · iexact S1
    isplitl [R1]; · iexact R1
    iexact HO
  iintro ⟨L11, S1, R1, HO⟩
  iapply (maxHalf_spec I 1 1 _) $$ L11
  iintro L11
  ihave S0 := (staged_held I) $$ S0
  ihave S1 := (staged_held I) $$ S1
  have hm : mS I 0 c = maxV (maxV (maxV (maxV (Scalar.ofBits .f32 0x00000000#32) (accV I c 0 0 7)) (accV I c 1 0 7)) (accV I c 0 1 7)) (accV I c 1 1 7) := by
    rw [mS]
  rw [← hm]
  iapply Hk
  isplitl [Ha]; · iexact Ha
  isplitl [L00 L10 L01 L11]
  · isplitl [L00]; · iexact L00
    isplitl [L10]; · iexact L10
    isplitl [L01]; · iexact L01
    iexact L11
  isplitl [S0 S1]
  · isplitl [S0]; · iexact S0
    iexact S1
  isplitl [R0 R1]
  · isplitl [R0]; · iexact R0
    iexact R1
  iexact HO

end Cert.KernelIdeal.Hand

end

end
-- ==== Proof.Gather.lean ====
module

public import proofs.«01_k».proof.Proof.Phase2
public import proofs.«01_k».proof.Proof.Sum

/-! # The second phase, whole -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (I : Inp F)

/-- All four halves' copies before step `7 + n`. -/
def stos (c : Dev nD) (n : ℕ) : sProp 𝕄 := iprop(sto I c 0 0 n ∗ sto I c 1 0 n ∗ sto I c 0 1 n ∗ sto I c 1 1 n)
/-- All four halves' copies of step `7 + n`, under way. -/
def stoFs (c : Dev nD) (n : ℕ) : sProp 𝕄 := iprop(stoF I c 0 0 n ∗ stoF I c 1 0 n ∗ stoF I c 0 1 n ∗ stoF I c 1 1 n)

/-- Step `n + 8` over halves and rings. -/
theorem gatStep_spec {c : Dev nD} (n : ℕ) (hn : n < 5) {a a' : ℕ} (ha : a = 2 * (n + 7)) (ha' : a' = a + 2) {Q : PUnit → sProp 𝕄} :
    iprop(ctx I ∗ lanes I c (n + 8) ∗ stoFs I c n ∗ rings c a a ∗ due c (tm (n + 11) 0 0))
      ⊢ iprop(((lanes I c (n + 9) ∗ stoFs I c (n + 1) ∗ rings c a' a' ∗ due c (tm (n + 12) 0 0)) -∗ Q ⟨⟩)
        -∗ WP c (gatStep (places c) (mF I c) n) Q) := by
  subst ha'
  unfold lanes stoFs rings
  iintro ⟨#Hctx, ⟨L00, L10, L01, L11⟩, ⟨F00, F10, F01, F11⟩, ⟨R0, R1⟩, HO⟩ Hk
  unfold gatStep
  iapply wp_seq
  iapply (gat_spec I 0 0 n hn (a := a) (a' := a + 1) (t := tm (n + 11) 0 0) (t' := tm (n + 11) 0 0 + 10) ha rfl rfl rfl) $$ [L00 F00 R0 HO]
  · isplitr; · iexact Hctx
    isplitl [L00]; · iexact L00
    isplitl [F00]; · iexact F00
    isplitl [R0]; · iexact R0
    iexact HO
  iintro ⟨L00, F00, R0, HO⟩
  iapply wp_seq
  iapply (gat_spec I 1 0 n hn (a := a) (a' := a + 1) (t := tm (n + 11) 0 0 + 10) (t' := tm (n + 11) 0 0 + 20) ha rfl rfl rfl) $$ [L10 F10 R1 HO]
  · isplitr; · iexact Hctx
    isplitl [L10]; · iexact L10
    isplitl [F10]; · iexact F10
    isplitl [R1]; · iexact R1
    iexact HO
  iintro ⟨L10, F10, R1, HO⟩
  iapply wp_seq
  iapply (gat_spec I 0 1 n hn (a := a + 1) (a' := a + 2) (t := tm (n + 11) 0 0 + 20) (t' := tm (n + 11) 0 0 + 30) (by rw [ha]; rfl) rfl rfl rfl) $$ [L01 F01 R0 HO]
  · isplitr; · iexact Hctx
    isplitl [L01]; · iexact L01
    isplitl [F01]; · iexact F01
    isplitl [R0]; · iexact R0
    iexact HO
  iintro ⟨L01, F01, R0, HO⟩
  iapply wp_seq
  iapply (gat_spec I 1 1 n hn (a := a + 1) (a' := a + 2) (t := tm (n + 11) 0 0 + 30) (t' := tm (n + 12) 0 0) (by rw [ha]; rfl) rfl rfl (by unfold tm; simp; omega)) $$ [L11 F11 R1 HO]
  · isplitr; · iexact Hctx
    isplitl [L11]; · iexact L11
    isplitl [F11]; · iexact F11
    isplitl [R1]; · iexact R1
    iexact HO
  iintro ⟨L11, F11, R1, HO⟩
  iapply wp_seq
  iapply (storeLane_spec I 0 0 (n + 1) (by omega) (s := n + 9) rfl) $$ [L00 F00]
  · isplitr; · iexact Hctx
    isplitl [L00]; · iexact L00
    iexact F00
  iintro ⟨L00, F00⟩
  iapply wp_seq
  iapply (storeLane_spec I 0 1 (n + 1) (by omega) (s := n + 9) rfl) $$ [L01 F01]
  · isplitr; · iexact Hctx
    isplitl [L01]; · iexact L01
    iexact F01
  iintro ⟨L01, F01⟩
  iapply wp_seq
  iapply (storeLane_spec I 1 0 (n + 1) (by omega) (s := n + 9) rfl) $$ [L10 F10]
  · isplitr; · iexact Hctx
    isplitl [L10]; · iexact L10
    iexact F10
  iintro ⟨L10, F10⟩
  iapply (storeLane_spec I 1 1 (n + 1) (by omega) (s := n + 9) rfl) $$ [L11 F11]
  · isplitr; · iexact Hctx
    isplitl [L11]; · iexact L11
    iexact F11
  iintro ⟨L11, F11⟩
  iapply Hk
  isplitl [L00 L10 L01 L11]
  · isplitl [L00]; · iexact L00
    isplitl [L10]; · iexact L10
    isplitl [L01]; · iexact L01
    iexact L11
  isplitl [F00 F10 F01 F11]
  · isplitl [F00]; · iexact F00
    isplitl [F10]; · iexact F10
    isplitl [F01]; · iexact F01
    iexact F11
  isplitl [R0 R1]
  · isplitl [R0]; · iexact R0
    iexact R1
  iexact HO

/-- The start of a half's copies: its own block and the first one it received. -/
theorem stores_spec {c : Dev nD} (g k : Fin 2) {α : Type} {P : KProg F α} {Q : α → sProp 𝕄} :
    iprop(ctx I ∗ own c (accH g k) fullShare (accV I c g k 7) ∗ ownSup c g k ∗ lane I c g k 8 ∗ sto I c g k 0)
      ⊢ iprop(((ownF c g k ∗ lane I c g k 8 ∗ stoF I c g k 0) -∗ WP c P Q)
        -∗ WP c (storeOwn (places c) (mF I c) g k >>= fun _ => storeAt (places c) (mF I c) g 0 k >>= fun _ => P) Q) := by
  iintro ⟨#Hctx, Hac, Hs, L, S⟩ Hk
  iapply wp_seq
  iapply (storeOwn_spec I g k) $$ [Hac Hs]
  · isplitr; · iexact Hctx
    isplitl [Hac] <;> iassumption
  iintro Ho
  iapply wp_seq
  iapply (storeLane_spec I g k 0 (by omega) (s := 8) rfl) $$ [L S]
  · isplitr; · iexact Hctx
    isplitl [L] <;> iassumption
  iintro ⟨L, S⟩
  iapply Hk
  isplitl [Ho]; · iexact Ho
  isplitl [L] <;> iassumption

/-- What a half's second phase leaves. -/
def halfEnd (c : Dev nD) (g k : Fin 2) : sProp 𝕄 := iprop(fin I c g k ∗ ownEnd I c g k ∗ sto I c g k 7)

/-- The end of a half's copies. -/
theorem waits_spec {c : Dev nD} (g k : Fin 2) {Q : PUnit → sProp 𝕄} :
    iprop(ctx I ∗ ownF c g k ∗ fin I c g k ∗ stoF I c g k 6 ∗ due c (tm 18 0 0))
      ⊢ iprop(((halfEnd I c g k ∗ due c (tm 18 0 0)) -∗ Q ⟨⟩)
        -∗ WP c (waitOwn (places c) g k >>= fun _ => waitSt (places c) g 6 k) Q) := by
  have h : tm (uu 14) g k ≤ tm 18 0 0 := by
    have := g.isLt; have := k.isLt
    unfold tm uu; simp; omega
  unfold halfEnd
  iintro ⟨#Hctx, Ho, Hf, S, HO⟩ Hk
  iapply wp_seq
  iapply (waitOwn_spec I g k h) $$ [Ho HO]
  · isplitr; · iexact Hctx
    isplitl [Ho] <;> iassumption
  iintro ⟨Ho, HO⟩
  iapply (waitSt_spec I g k 6 (by omega) h) $$ [S HO]
  · isplitr; · iexact Hctx
    isplitl [S] <;> iassumption
  iintro ⟨S, HO⟩
  iapply Hk
  isplitr [HO]; swap; · iexact HO
  isplitl [Hf]; · iexact Hf
  isplitl [Ho]; · iexact Ho
  iexact S

/-- The same with more to come. -/
theorem waits_then {c : Dev nD} (g k : Fin 2) {α : Type} {P : KProg F α} {Q : α → sProp 𝕄} :
    iprop(ctx I ∗ ownF c g k ∗ fin I c g k ∗ stoF I c g k 6 ∗ due c (tm 18 0 0))
      ⊢ iprop(((halfEnd I c g k ∗ due c (tm 18 0 0)) -∗ WP c P Q)
        -∗ WP c (waitOwn (places c) g k >>= fun _ => waitSt (places c) g 6 k >>= fun _ => P) Q) := by
  have h := (waits_spec I (c := c) g k (Q := fun _ => WP c P Q))
  refine h.trans (wand_mono_right ?_)
  have h2 := wp_seq (c := c) (p := waitOwn (F := F) (places c) g k >>= fun _ => waitSt (places c) g 6 k) (k := fun _ => P) (Q := Q)
  rw [Prog.bind_assoc] at h2
  exact h2

/-- The last copy of a half, out of what its last step brought. -/
theorem storeFin_spec {c : Dev nD} (g k : Fin 2) {Q : PUnit → sProp 𝕄} :
    iprop(ctx I ∗ fin I c g k ∗ sto I c g k 6)
      ⊢ iprop(((fin I c g k ∗ stoF I c g k 6) -∗ Q ⟨⟩) -∗ WP c (storeAt (places c) (mF I c) g 6 k) Q) := by
  unfold fin
  iintro ⟨#Hctx, ⟨Hrv, Hr⟩, S⟩ Hk
  iapply (storeAt_spec I g k 6 (by omega) (q := fullShare)) $$ [Hrv S]
  · isplitr; · iexact Hctx
    isplitl [Hrv]; · iexact Hrv
    iexact S
  iintro ⟨Hrv, S⟩
  iapply Hk
  isplitr [S]; swap; · iexact S
  isplitl [Hrv]; · iexact Hrv
  iexact Hr

/-- The second phase: every block of the result is written. -/
theorem phase2_spec {c : Dev nD} {Q : PUnit → sProp 𝕄} :
    iprop(ctx I ∗ lanes I c 7 ∗ rings c 12 14 ∗ stos I c 0
        ∗ (ownSup c 0 0 ∗ ownSup c 0 1 ∗ ownSup c 1 0 ∗ ownSup c 1 1) ∗ due c (tm 10 0 0))
      ⊢ iprop((((halfEnd I c 0 0 ∗ halfEnd I c 0 1 ∗ halfEnd I c 1 0 ∗ halfEnd I c 1 1) ∗ rings c 24 24 ∗ due c (tm 18 0 0)) -∗ Q ⟨⟩)
        -∗ WP c (phase2 (places c) (mF I c)) Q) := by
  unfold lanes rings ring stos
  iintro ⟨#Hctx, ⟨L00, L10, L01, L11⟩, ⟨⟨R0, N0⟩, ⟨R1, N1⟩⟩, ⟨S00, S10, S01, S11⟩, ⟨O00, O01, O10, O11⟩, HO⟩ Hk
  unfold phase2
  iapply wp_seq
  iapply (gat0_spec I 0 0 (a := 12) (a' := 13) (t := tm 10 0 0) (t' := tm 10 1 0) rfl rfl rfl rfl) $$ [L00 R0 HO]
  · isplitr; · iexact Hctx
    isplitl [L00]; · iexact L00
    isplitl [R0]; · iexact R0
    iexact HO
  iintro ⟨A00, L00, R0, HO⟩
  iapply wp_seq
  iapply (gat0_spec I 1 0 (a := 12) (a' := 13) (t := tm 10 1 0) (t' := tm 10 0 1) rfl rfl rfl rfl) $$ [L10 R1 HO]
  · isplitr; · iexact Hctx
    isplitl [L10]; · iexact L10
    isplitl [R1]; · iexact R1
    iexact HO
  iintro ⟨A10, L10, R1, HO⟩
  iapply wp_seq
  iapply (gat0_spec I 0 1 (a := 13) (a' := 14) (t := tm 10 0 1) (t' := tm 10 1 1) rfl rfl rfl rfl) $$ [L01 R0 HO]
  · isplitr; · iexact Hctx
    isplitl [L01]; · iexact L01
    isplitl [R0]; · iexact R0
    iexact HO
  iintro ⟨A01, L01, R0, HO⟩
  iapply wp_seq
  iapply (gat0_spec I 1 1 (a := 13) (a' := 14) (t := tm 10 1 1) (t' := tm 11 0 0) rfl rfl rfl rfl) $$ [L11 R1 HO]
  · isplitr; · iexact Hctx
    isplitl [L11]; · iexact L11
    isplitl [R1]; · iexact R1
    iexact HO
  iintro ⟨A11, L11, R1, HO⟩
  iapply (stores_spec I 0 0) $$ [A00 O00 L00 S00]
  · isplitr; · iexact Hctx
    isplitl [A00]; · iexact A00
    isplitl [O00]; · iexact O00
    isplitl [L00] <;> iassumption
  iintro ⟨O00, L00, S00⟩
  iapply (stores_spec I 0 1) $$ [A01 O01 L01 S01]
  · isplitr; · iexact Hctx
    isplitl [A01]; · iexact A01
    isplitl [O01]; · iexact O01
    isplitl [L01] <;> iassumption
  iintro ⟨O01, L01, S01⟩
  iapply (stores_spec I 1 0) $$ [A10 O10 L10 S10]
  · isplitr; · iexact Hctx
    isplitl [A10]; · iexact A10
    isplitl [O10]; · iexact O10
    isplitl [L10] <;> iassumption
  iintro ⟨O10, L10, S10⟩
  iapply (stores_spec I 1 1) $$ [A11 O11 L11 S11]
  · isplitr; · iexact Hctx
    isplitl [A11]; · iexact A11
    isplitl [O11]; · iexact O11
    isplitl [L11] <;> iassumption
  iintro ⟨O11, L11, S11⟩
  ihave L := (show iprop(lane I c 0 0 8 ∗ lane I c 1 0 8 ∗ lane I c 0 1 8 ∗ lane I c 1 1 8) ⊢ lanes I c 8 from Entails.of_eq rfl) $$ [L00 L10 L01 L11]
  · isplitl [L00]; · iexact L00
    isplitl [L10]; · iexact L10
    isplitl [L01] <;> iassumption
  ihave S := (show iprop(stoF I c 0 0 0 ∗ stoF I c 1 0 0 ∗ stoF I c 0 1 0 ∗ stoF I c 1 1 0) ⊢ stoFs I c 0 from Entails.of_eq rfl) $$ [S00 S10 S01 S11]
  · isplitl [S00]; · iexact S00
    isplitl [S10]; · iexact S10
    isplitl [S01] <;> iassumption
  ihave R := (show iprop((crPos c 0 14 ∗ readyN (prv 0 c) 0 14) ∗ (crPos c 1 14 ∗ readyN (prv 1 c) 1 14)) ⊢ rings (F := F) c 14 14 from Entails.of_eq rfl) $$ [R0 R1 N0 N1]
  · isplitl [R0 N0]
    · isplitl [R0] <;> iassumption
    isplitl [R1] <;> iassumption
  iapply wp_seq
  iapply (gatStep_spec I 0 (by omega) (a := 14) (a' := 16) rfl rfl) $$ [L S R HO]
  · isplitr; · iexact Hctx
    isplitl [L]; · iexact L
    isplitl [S]; · iexact S
    isplitl [R]; · iexact R
    iexact HO
  iintro ⟨L, S, R, HO⟩
  iapply wp_seq
  iapply (gatStep_spec I 1 (by omega) (a := 16) (a' := 18) rfl rfl) $$ [L S R HO]
  · isplitr; · iexact Hctx
    isplitl [L]; · iexact L
    isplitl [S]; · iexact S
    isplitl [R]; · iexact R
    iexact HO
  iintro ⟨L, S, R, HO⟩
  iapply wp_seq
  iapply (gatStep_spec I 2 (by omega) (a := 18) (a' := 20) rfl rfl) $$ [L S R HO]
  · isplitr; · iexact Hctx
    isplitl [L]; · iexact L
    isplitl [S]; · iexact S
    isplitl [R]; · iexact R
    iexact HO
  iintro ⟨L, S, R, HO⟩
  iapply wp_seq
  iapply (gatStep_spec I 3 (by omega) (a := 20) (a' := 22) rfl rfl) $$ [L S R HO]
  · isplitr; · iexact Hctx
    isplitl [L]; · iexact L
    isplitl [S]; · iexact S
    isplitl [R]; · iexact R
    iexact HO
  iintro ⟨L, S, R, HO⟩
  iapply wp_seq
  iapply (gatStep_spec I 4 (by omega) (a := 22) (a' := 24) rfl rfl) $$ [L S R HO]
  · isplitr; · iexact Hctx
    isplitl [L]; · iexact L
    isplitl [S]; · iexact S
    isplitl [R]; · iexact R
    iexact HO
  unfold lanes stoFs
  iintro ⟨⟨L00, L10, L01, L11⟩, ⟨S00, S10, S01, S11⟩, R, HO⟩
  iapply wp_seq
  iapply (gatLast_spec I 0 0 (t := tm 16 0 0) (t' := tm 16 1 0) rfl rfl) $$ [L00 S00 HO]
  · isplitr; · iexact Hctx
    isplitl [L00]; · iexact L00
    isplitl [S00]; · iexact S00
    iexact HO
  iintro ⟨L00, S00, HO⟩
  iapply wp_seq
  iapply (gatLast_spec I 1 0 (t := tm 16 1 0) (t' := tm 16 0 1) rfl rfl) $$ [L10 S10 HO]
  · isplitr; · iexact Hctx
    isplitl [L10]; · iexact L10
    isplitl [S10]; · iexact S10
    iexact HO
  iintro ⟨L10, S10, HO⟩
  iapply wp_seq
  iapply (gatLast_spec I 0 1 (t := tm 16 0 1) (t' := tm 16 1 1) rfl rfl) $$ [L01 S01 HO]
  · isplitr; · iexact Hctx
    isplitl [L01]; · iexact L01
    isplitl [S01]; · iexact S01
    iexact HO
  iintro ⟨L01, S01, HO⟩
  iapply wp_seq
  iapply (gatLast_spec I 1 1 (t := tm 16 1 1) (t' := tm 17 0 0) rfl rfl) $$ [L11 S11 HO]
  · isplitr; · iexact Hctx
    isplitl [L11]; · iexact L11
    isplitl [S11]; · iexact S11
    iexact HO
  iintro ⟨L11, S11, HO⟩
  iapply wp_seq
  iapply (storeFin_spec I 0 0) $$ [L00 S00]
  · isplitr; · iexact Hctx
    isplitl [L00] <;> iassumption
  iintro ⟨L00, S00⟩
  iapply wp_seq
  iapply (storeFin_spec I 0 1) $$ [L01 S01]
  · isplitr; · iexact Hctx
    isplitl [L01] <;> iassumption
  iintro ⟨L01, S01⟩
  iapply wp_seq
  iapply (storeFin_spec I 1 0) $$ [L10 S10]
  · isplitr; · iexact Hctx
    isplitl [L10] <;> iassumption
  iintro ⟨L10, S10⟩
  iapply wp_seq
  iapply (storeFin_spec I 1 1) $$ [L11 S11]
  · isplitr; · iexact Hctx
    isplitl [L11] <;> iassumption
  iintro ⟨L11, S11⟩
  ihave HO := (due_skip (F := F) (c := c) (t := tm 17 0 0) (t' := tm 18 0 0) (end_skip (by decide +kernel) (by decide +kernel))) $$ HO
  iapply (waits_then I 0 0) $$ [O00 L00 S00 HO]
  · isplitr; · iexact Hctx
    isplitl [O00]; · iexact O00
    isplitl [L00]; · iexact L00
    isplitl [S00] <;> iassumption
  iintro ⟨H00, HO⟩
  iapply (waits_then I 0 1) $$ [O01 L01 S01 HO]
  · isplitr; · iexact Hctx
    isplitl [O01]; · iexact O01
    isplitl [L01]; · iexact L01
    isplitl [S01] <;> iassumption
  iintro ⟨H01, HO⟩
  iapply (waits_then I 1 0) $$ [O10 L10 S10 HO]
  · isplitr; · iexact Hctx
    isplitl [O10]; · iexact O10
    isplitl [L10]; · iexact L10
    isplitl [S10] <;> iassumption
  iintro ⟨H10, HO⟩
  iapply (waits_spec I 1 1) $$ [O11 L11 S11 HO]
  · isplitr; · iexact Hctx
    isplitl [O11]; · iexact O11
    isplitl [L11]; · iexact L11
    isplitl [S11] <;> iassumption
  iintro ⟨H11, HO⟩
  iapply Hk
  isplitl [H00 H01 H10 H11]
  · isplitl [H00]; · iexact H00
    isplitl [H01]; · iexact H01
    isplitl [H10]; · iexact H10
    iexact H11
  unfold rings ring
  isplitl [R]; · iexact R
  iexact HO

end Cert.KernelIdeal.Hand

end

end
-- ==== Proof.Entry.lean ====
module

public import proofs.«01_k».proof.Proof.Steps

/-! # The handshake

A device offers its landing places and waits until both neighbours have. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

omit [FloatOps F] in
/-- A family over a sum of types. -/
theorem big_sum {α β : Type} [Fintype α] [Fintype β] (Φ : α ⊕ β → sProp 𝕄) :
    bigSep Finset.univ Φ = iprop((bigSep Finset.univ fun a => Φ (.inl a)) ∗ bigSep Finset.univ fun b => Φ (.inr b)) := BI.bigSep_univ_sum Φ
omit [FloatOps F] in
/-- A family over two. -/
theorem big_two (Φ : Fin 2 → sProp 𝕄) : bigSep Finset.univ Φ = iprop(Φ 0 ∗ Φ 1) := BI.bigSep_fin_two Φ
omit [FloatOps F] in
/-- A family over three. -/
theorem big_three (Φ : Fin 3 → sProp 𝕄) : bigSep Finset.univ Φ = iprop(Φ 0 ∗ Φ 1 ∗ Φ 2) := bigSep_univ_eq_bigSepL [0, 1, 2] (by decide) (by decide) Φ
omit [FloatOps F] in
/-- A family over the four halves. -/
theorem big_four (Φ : Fin 2 → Fin 2 → sProp 𝕄) :
    (bigSep Finset.univ fun h : Fin 2 × Fin 2 => Φ h.1 h.2) = iprop(Φ 0 0 ∗ Φ 0 1 ∗ Φ 1 0 ∗ Φ 1 1) :=
  bigSep_univ_eq_bigSepL [(0, 0), (0, 1), (1, 0), (1, 1)] (by decide) (by decide) _

variable (I : Inp F)

theorem sx_set (p : Fin 3) : (sxrH p).view.set.Nonempty := View.set_nonempty (by decide)

/-- Every landing place is given up once: it is free for its first arrival. -/
theorem release_all {c : Dev nD} :
    iprop(ctx I ∗ (bigSep Finset.univ fun x : Place => placeOf (F := F) (c, x)) ∗ (bigSep Finset.univ fun x : Place => readerAt ES (c, x) 0))
      ⊢ |={Set.univ}=> iprop((bigSep Finset.univ fun x : Place => readerAt ES (c, x) 1) ∗ (bigSep Finset.univ fun x : Place => released ES (c, x) 1) : sProp 𝕄) := by
  rw [← bigSep_sep', ← bigSep_sep']
  refine .trans (BI.bigSep_with_persistent (R := ctx I) (Ψ := fun x : Place => iprop(|={Set.univ}=> (readerAt ES (c, x) 1 ∗ released ES (c, x) 1))) fun x _ => ?_) (BI.bigSep_fupd _ _)
  iintro ⟨#Hctx, Hp, Hr⟩
  ihave Hi := (ctx_slot I (c, x)) $$ Hctx
  icases Hi with ⟨%n, Hi⟩
  have hS : iprop(placeOf (F := F) (c, x) ∗ placeOf (c, x)) ⊢ (False : sProp 𝕄) := by
    obtain ⟨g, b, k⟩ | p := x
    · exact held_held (rv_set g b k)
    · exact held_held (sx_set p)
  iapply (slot_release ES (Set.mem_univ n) hS 0)
  isplitl [Hi]; · iexact Hi
  isplitl [Hr]; · iexact Hr
  iexact Hp

/-- The landing places of ring `g`, free, with their cells at the first round. -/
theorem ready₀_intro {c : Dev nD} (g : Fin 2) :
    iprop(ctx I ∗ (bigSep Finset.univ fun x : Place => (released ES (c, x) 1 : sProp 𝕄))) ⊢ ready₀ c g := by
  unfold ready₀
  refine BI.bigSep_intro_persistent (R := iprop(ctx I ∗ (bigSep Finset.univ fun x : Place => (released ES (c, x) 1 : sProp 𝕄))))
    (Φ := fun sk : Fin 2 × Fin 2 => ready (F := F) c g sk.1.val sk.2) fun sk _ => ?_
  have h : sk.1.val / 2 = 0 := by have := sk.1.isLt; omega
  unfold ready
  rw [h]
  iintro ⟨#Hctx, #Hr⟩
  isplitr
  · iapply (show (bigSep Finset.univ fun x : Place => (released ES (c, x) 1 : sProp 𝕄)) ⊢ released ES (c, .inl (g, slot sk.1.val, sk.2)) (0 + 1)
      from BI.bigSep_elim (Finset.mem_univ (Sum.inl (g, slot sk.1.val, sk.2)))); iexact Hr
  · iapply (ctx_reached I c (.rs g (slot sk.1.val) sk.2)); iexact Hctx

/-- The exchange blocks, free. -/
theorem entered_intro {c : Dev nD} : (bigSep Finset.univ fun x : Place => (released ES (c, x) 1 : sProp 𝕄)) ⊢ entered c := by
  unfold entered
  rw [big_sum]
  iintro ⟨-, H⟩
  iexact H

/-- The readers of every half. -/
theorem readers_intro {c : Dev nD} : (bigSep Finset.univ fun x : Place => (readerAt ES (c, x) 1 : sProp 𝕄))
    ⊢ bigSep Finset.univ fun h : Fin 2 × Fin 2 => readers c h.1 h.2 0 := by
  rw [big_sum, big_four (fun g k => readers (F := F) c g k 0)]
  have h : (bigSep Finset.univ fun t : Fin 2 × Fin 2 × Fin 2 => (readerAt ES (c, (Sum.inl t : Place)) 1 : sProp 𝕄))
      = bigSep Finset.univ fun h : Fin 2 × Fin 2 => iprop(readerAt ES (c, .inl (h.1, 0, h.2)) 1 ∗ readerAt ES (c, .inl (h.1, 1, h.2)) 1) := by
    rw [BI.bigSep_univ_prod, BI.bigSep_univ_prod]
    refine BI.bigSep_congr fun g _ => ?_
    rw [BI.bigSep_univ_prod, BI.bigSep_univ_comm]
    exact BI.bigSep_congr fun k _ => big_two _
  iintro ⟨H, -⟩
  ihave H := (Entails.of_eq (h.trans (big_four fun g k => iprop(readerAt ES (c, .inl (g, 0, k)) 1 ∗ readerAt ES (c, .inl (g, 1, k)) 1)))) $$ H
  unfold readers
  iexact H

/-- The wait of the handshake: both neighbours are ready. -/
theorem entry_wait {c : Dev nD} {Q : PUnit → sProp 𝕄} :
    iprop(ctx I ∗ (cred (tallyAt (cell c .bar) 10 1) ∗ cred (tallyAt (cell c .bar) 10 1)) ∗ due c 3 ∗ atPos ER (cell c .bar) 0 ∅ 0)
      ⊢ iprop(((due c 50 ∗ atPos ER (cell c .bar) 1 ∅ 0 ∗ ready₀ (nxt 0 c) 0 ∗ ready₀ (nxt 1 c) 1) -∗ Q ⟨⟩)
          -∗ WP c (semWaitWord barS.sem 2#32) Q) := by
  have he := expect_bar I c
  have hp : bigSep ((sched I).duties (cell c .bar) 0 \ ∅) (fun d => (sched I).payload (cell c .bar) 0 d)
      = iprop(ready₀ (F := F) (nxt 0 c) 0 ∗ ready₀ (nxt 1 c) 1) := by
    rw [Finset.sdiff_empty, duties_cell, show dutiesK .bar 0 = {0, 1} from by decide, BI.bigSep_insert (by decide), BI.bigSep_singleton]
    rw [payload_cell, payload_cell]; rfl
  have hc : iprop(cred (tallyAt (cell c .bar) 10 1) ∗ cred (tallyAt (cell c .bar) 10 1)) ⊢ (cred (tallyAt (cell c .bar) 10 2) : sProp 𝕄) := by
    refine (cred_add _ _).2.trans (Entails.of_eq (congrArg cred (tallyAt_add (cell c .bar) 10 1 1)))
  iintro ⟨#Hctx, Hc, HO, Hat⟩ Hk
  ihave Hc := hc $$ Hc
  ihave Hi := (ctx_cell I c .bar) $$ Hctx
  icases Hi with ⟨%n, #Hi⟩
  ihave #Hl := (ctx_lev I) $$ Hctx
  unfold due
  icases HO with ⟨%W, HO⟩
  simp only [semWaitWord, Prog.lift]
  iapply (Rounds.wp_wait_rest_token 𝒱₀ ER (sched I) (c : Thread nD τ) none (κ := n) (sm := .reg barS.sem) (k' := 2)
      (wpE_semWait_eq 𝒱₀ (c : Thread nD τ) none Set.univ) (Set.mem_univ _) 10 (O := owedFrom 3 c) (W := W) (R := 0) (m := 0) (T := ∅)
      (by rw [Nat.zero_add]; exact he.symm)) $$ [Hc HO Hat]
  · isplitr; · iexact Hi
    isplitl [Hc]; · iexact Hc
    isplitl [HO]; · iexact HO
    isplitr; · iapply (may_wait c (.reg barS.sem) (by decide) (by decide +kernel)); iexact Hl
    iexact Hat
  iintro ⟨HO, Hat, -, Hp⟩
  ihave Hp := (show bigSep ((sched I).duties ((c : Thread nD τ), .reg barS.sem) 0 \ ∅) (fun d => (sched I).payload ((c : Thread nD τ), .reg barS.sem) 0 d) ⊢ _
    from Entails.of_eq hp) $$ Hp
  icases Hp with ⟨H0, H1⟩
  rw [wp_ret]
  imodintro
  iapply Hk
  isplitl [HO]
  · rw [owedFrom_skip (t := 3) (t' := 50) (by decide +kernel)]
    iexists _; iexact HO
  isplitl [Hat]; · iexact Hat
  isplitl [H0] <;> iassumption

/-- What the handshake spends. -/
def enSup (c : Dev nD) : sProp 𝕄 :=
  iprop((dutyTok ER (cell (prv 0 c) .bar) 0 0 ∗ dutyTok ER (cell (prv 1 c) .bar) 0 1)
    ∗ (cred (tallyAt (cell c .bar) 10 1) ∗ cred (tallyAt (cell c .bar) 10 1)) ∗ atPos ER (cell c .bar) 0 ∅ 0)

/-- The handshake: the device's landing places are offered and both neighbours' are known to be free. -/
theorem entry_spec {c : Dev nD} {Q : PUnit → sProp 𝕄} :
    iprop(ctx I ∗ (bigSep Finset.univ fun x : Place => placeOf (F := F) (c, x)) ∗ (bigSep Finset.univ fun x : Place => readerAt ES (c, x) 0)
        ∗ enSup c ∗ due c 0)
      ⊢ iprop((((bigSep Finset.univ fun h : Fin 2 × Fin 2 => readers c h.1 h.2 0) ∗ (ready₀ (nxt 0 c) 0 ∗ ready₀ (nxt 1 c) 1) ∗ entered c
            ∗ atPos ER (cell c .bar) 1 ∅ 0 ∗ due c 50) -∗ Q ⟨⟩)
          -∗ WP c (entry (places c)) Q) := by
  unfold enSup
  iintro ⟨#Hctx, Hp, Hr, ⟨⟨T0, T1⟩, Hc, Hat⟩, HO⟩ Hk
  imod (release_all I (c := c)) $$ [Hp Hr] with ⟨Hr, #Hrel⟩
  · isplitr; · iexact Hctx
    isplitl [Hp] <;> iassumption
  ihave #H0 := (ready₀_intro I (c := c) 0) $$ [Hrel]
  · isplitr <;> iassumption
  ihave #H1 := (ready₀_intro I (c := c) 1) $$ [Hrel]
  · isplitr <;> iassumption
  ihave #He := (entered_intro (F := F) (c := c)) $$ Hrel
  ihave Hr := (readers_intro (F := F) (c := c)) $$ Hr
  have hrgt : (places c).rgt = Ob.payee c (.bar 1) := by
    have h : ∀ c : Dev nD, (places c).rgt = Ob.payee c (.bar 1) := by decide
    exact h c
  have h0 : ready₀ c 0 ⊢ payK I (Ob.payee c (.bar 0)) .bar 0 0 := by
    show ready₀ c 0 ⊢ ready₀ (nxt 0 (prv 0 c)) 0
    rw [nxt_prv]
  have h1 : ready₀ c 1 ⊢ payK I (Ob.payee c (.bar 1)) .bar 0 1 := by
    show ready₀ c 1 ⊢ ready₀ (nxt 1 (prv 1 c)) 1
    rw [nxt_prv]
  ihave HO := (due_skip (F := F) (c := c) (t := 0) (t' := 1) (by decide +kernel)) $$ HO
  unfold entry
  iapply wp_seq
  iapply (signal_spec I (c := c) (d := (places c).lft) (.bar 0) rfl .bar rfl rfl rfl 0 (by decide) rfl (t := 1) (t' := 2) rfl rfl) $$ [T0 HO]
  · isplitr; · iexact Hctx
    isplitl [T0]; · iexact T0
    isplitr; · iapply h0; iexact H0
    iexact HO
  iintro HO
  iapply wp_seq
  iapply (signal_spec I (c := c) (d := (places c).rgt) (.bar 1) hrgt .bar rfl rfl rfl 1 (by decide) rfl (t := 2) (t' := 3) rfl rfl) $$ [T1 HO]
  · isplitr; · iexact Hctx
    isplitl [T1]; · iexact T1
    isplitr; · iapply h1; iexact H1
    iexact HO
  iintro HO
  iapply (entry_wait I) $$ [Hc HO Hat]
  · isplitr; · iexact Hctx
    isplitl [Hc]; · iexact Hc
    isplitl [HO] <;> iassumption
  iintro ⟨HO, Hat, R0, R1⟩
  iapply Hk
  isplitl [Hr]; · iexact Hr
  isplitl [R0 R1]
  · isplitl [R0] <;> iassumption
  isplitr; · iexact He
  isplitl [Hat] <;> iassumption

end Cert.KernelIdeal.Hand

end

end
-- ==== Proof.Exch.lean ====
module

public import proofs.«01_k».proof.Proof.Steps

/-! # The exchange of the maximum

A load of one element of a landed block, and the three exchanges. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable {c : Dev nD} {cs : CoreSpace} {s : Shape} {e : EltTy} {M : Memref sig .tc cs s e}

/-- A load within a squeezed slice that reads one value everywhere reads that value. -/
theorem wp_load_const {α : Type} {Q : α → sProp 𝕄} {r r' : Rect s} {hr : ∀ a, r.stride a = 1} {s' : Shape} {hs : r.shape.Squeezes s'}
    (hsub : r'.set ⊆ r.set) {hl : M.view.LoadsAt r'.toLoadRect}
    {k : (r'.shape.Idx → Elt F e) → KProg F α} {q : PosShare TreeShare} {x : Elt F e} :
    own c ((M.slice r hr).squeeze s' hs) q (fun _ => x)
      ⊢ iprop((own c ((M.slice r hr).squeeze s' hs) q (fun _ => x) -∗ WP c (k fun _ => x) Q)
        -∗ WP c (.op (.load M r'.toLoadRect hl) k) Q) := by
  unfold own owns
  iintro ⟨%f, %hf, H⟩ Hk
  have hset : ((M.slice r hr).squeeze s' hs).view.set = (M.access r).set := View.set_reshape _ _
  have hle : (M.access r').set ⊆ (M.access r).set := by
    show (M.view.slice r').set ⊆ (M.view.slice r).set
    rw [View.set_slice, View.set_slice]
    exact Finset.map_subset_map.mpr hsub
  have hv : (M.access r').read (Elt F) f = fun _ => x := by
    funext i
    have hi : r'.emb i ∈ r.set := hsub (by rw [← Rect.map_emb_univ]; exact Finset.mem_map_of_mem _ (Finset.mem_univ i))
    rw [← Rect.map_emb_univ] at hi
    obtain ⟨j, -, hj⟩ := Finset.mem_map.mp hi
    have h := congrFun hf ((Shape.reshapeEquiv hs.numel_eq).symm j)
    have h2 : M.view.read (Elt F) f (r.emb (Shape.reshapeEquiv hs.numel_eq ((Shape.reshapeEquiv hs.numel_eq).symm j))) = x := h
    rw [Equiv.apply_symm_apply, hj] at h2
    exact h2
  rw [hset]
  iapply (wp_load_rect 𝒱₀ (c : Thread nD τ) none Set.univ (m := M) (r := r') hle) $$ H
  iintro H
  rw [hv]
  iapply Hk
  iexists f
  isplitr; · ipureintro; exact hf
  iexact H

omit [FloatOps F] in
/-- A round trip of at most seven devices meets every exchange partner. -/
theorem mate_iter (p : Fin 3) (c : Dev nD) : ∃ j, j ≤ 7 ∧ (prv 0)^[j] c = mate p c := by
  have h : ∀ (p : Fin 3) (c : Dev nD), ∃ j : Fin 8, (prv 0)^[j.val] c = mate p c := by decide
  obtain ⟨j, hj⟩ := h p c
  exact ⟨j.val, by have := j.isLt; omega, hj⟩

omit [FloatOps F] in
theorem ents_mate (p : Fin 3) {c : Dev nD} : ents (F := F) c 0 7 ⊢ released ES (mate p c, .inr p) 1 := by
  obtain ⟨j, hj, he⟩ := mate_iter p c
  refine (ents_get j hj).trans ?_
  rw [he]
  unfold entered
  exact BI.bigSep_elim (Φ := fun p : Fin 3 => (released ES (mate _ c, .inr p) 1 : sProp 𝕄)) (Finset.mem_univ p)

/-- When exchange `p` begins. -/
def tx (p : ℕ) : ℕ := tm (7 + p) 0 0

/-- What exchange `p` starts with. -/
def exSup (c : Dev nD) (p : Fin 3) : sProp 𝕄 :=
  iprop(dutyTok ER (cell c (.sxs p)) 0 0 ∗ dutyTok ER (cell (mate p c) (.sxr p)) 0 0 ∗ writeTok ES (mate p c, .inr p) 1
    ∗ cred (tallyAt (cell c (.sxr p)) (tx p + 3) nX) ∗ atPos ER (cell c (.sxs p)) 0 ∅ 0 ∗ atPos ER (cell c (.sxr p)) 0 ∅ 0)

/-- What exchange `p` leaves. -/
def exEnd (c : Dev nD) (p : Fin 3) : sProp 𝕄 :=
  iprop(atPos ER (cell c (.sxs p)) 1 ∅ 0 ∗ atPos ER (cell c (.sxr p)) 1 ∅ 0 ∗ held c (sxrH p))

theorem tx_skip (p : Fin 3) (o : Ob) : tx p ≤ o.time ↔ tx p + 1 ≤ o.time := by
  have := p.isLt
  cases o with
  | bar g' => have := g'.isLt; simp only [Ob.time, tm, tx] at *; omega
  | snd g' k' s' =>
    have := g'.isLt; have := k'.isLt; have := s'.isLt
    simp only [Ob.time, tm, tx, uu] at *; split_ifs <;> omega
  | crd g' k' s' =>
    have := g'.isLt; have := k'.isLt; have := s'.isLt
    simp only [Ob.time, tm, tx, uu] at *; split_ifs <;> omega
  | sx p' => have := p'.isLt; simp only [Ob.time, tm, tx] at *; simp; omega

theorem tx_next (p : Fin 3) (o : Ob) : tx p + 2 ≤ o.time ↔ tx (p.val + 1) ≤ o.time := by
  have := p.isLt
  cases o with
  | bar g' => have := g'.isLt; simp only [Ob.time, tm, tx] at *; omega
  | snd g' k' s' =>
    have := g'.isLt; have := k'.isLt; have := s'.isLt
    simp only [Ob.time, tm, tx, uu] at *; split_ifs <;> omega
  | crd g' k' s' =>
    have := g'.isLt; have := k'.isLt; have := s'.isLt
    simp only [Ob.time, tm, tx, uu] at *; split_ifs <;> omega
  | sx p' => have := p'.isLt; simp only [Ob.time, tm, tx] at *; simp; omega

theorem tx_lev (p : Fin 3) (o : Ob) (h : tx p + 2 ≤ o.time) : tx p + 3 < o.lev := by
  have := p.isLt
  cases o with
  | bar g' => have := g'.isLt; simp only [Ob.time, Ob.lev, tm, tx] at *; omega
  | snd g' k' s' =>
    have := g'.isLt; have := k'.isLt; have := s'.isLt
    simp only [Ob.time, Ob.lev, tm, tx, uu] at *; split_ifs at * <;> omega
  | crd g' k' s' =>
    have := g'.isLt; have := k'.isLt; have := s'.isLt
    simp only [Ob.time, Ob.lev, tm, tx, uu] at *; split_ifs at * <;> omega
  | sx p' => have := p'.isLt; simp only [Ob.time, Ob.lev, tm, tx] at *; simp at *; omega

theorem tx_lt (p : Fin 3) : tx p + 3 < levBound := by
  have := p.isLt; unfold tx tm levBound; simp; omega

variable (I : Inp F)

/-- The transfer of exchange `p` to device `n`. -/
def exTo (n : Dev nD) (p : Fin 3) : KProg F PUnit :=
  Prog.lift (.enqueueDma sxsM (.remote (Dev.tc n) (sxrH p) (.dma (sem3 cc0_scratch16 p))) (.dma (sem3 cc0_scratch17 p)) (Memref.isWhole_whole _).wordExact ((View.wordExact_bits rfl).reshape _ _) ⟨⟨rfl, Or.inl rfl⟩, trivial⟩)

/-- The exchange's transfer: the partner's block is written with the device's maximum. -/
theorem exTo_spec {c : Dev nD} (p : Fin 3) {t t' : ℕ} (ht : t = tx p + 1) (ht' : t' = t + 1) {Q : PUnit → sProp 𝕄} :
    iprop(ctx I ∗ own c sxsM fullShare (fun _ => mS I p c) ∗ released ES (mate p c, .inr p) 1 ∗ writeTok ES (mate p c, .inr p) 1
        ∗ dutyTok ER (cell c (.sxs p)) 0 0 ∗ dutyTok ER (cell (mate p c) (.sxr p)) 0 0 ∗ due c t)
      ⊢ iprop(((cred (tallyAt (cell c (.sxs p)) (tx p + 2) nX) ∗ due c t') -∗ Q ⟨⟩)
          -∗ WP c (exTo (mate p c) p) Q) := by
  subst ht'
  have ht : t = (Ob.sx p).time := ht
  subst ht
  have hmem : ∀ (d : Dev nD) (κ : CellK), single κ → 0 < roundsK κ → 0 ∈ (sched I).duties (cell d κ) 0 := fun d κ h1 h2 => by
    rw [duties_cell, dutiesK_single h1 h2]; exact Finset.mem_singleton_self _
  unfold exTo Prog.lift
  unfold due
  iintro ⟨#Hctx, Hsrc, #Hrel, Hw, Hts, Htr, ⟨%W, HO⟩⟩ Hk
  ihave Hi₁ := (ctx_cell I c (.sxs p)) $$ Hctx
  icases Hi₁ with ⟨%n₁, #Hi₁⟩
  ihave Hi₂ := (ctx_cell I (mate p c) (.sxr p)) $$ Hctx
  icases Hi₂ with ⟨%n₂, #Hi₂⟩
  ihave Hi₃ := (ctx_slot_sx I (mate p c) p) $$ Hctx
  icases Hi₃ with ⟨%n₃, #Hi₃⟩
  ihave #Hr₁ := (ctx_reached I c (.sxs p)) $$ Hctx
  ihave #Hr₂ := (ctx_reached I (mate p c) (.sxr p)) $$ Hctx
  imod (slot_take ES (Set.mem_univ n₃) 1) $$ [Hw] with Hh
  · isplitr; · iexact Hi₃
    isplitr; · iexact Hrel
    iexact Hw
  unfold held own owns
  icases Hh with ⟨%X, %fd, -, Hd⟩
  icases Hsrc with ⟨%fs, %hfs, Hl⟩
  iapply (Rounds.wp_send_pointsTo_with 𝒱₀ ER (sched I) (c : Thread nD τ) none (κ₁ := n₁) (κ₂ := n₂) (r₁ := 0) (r₂ := 0) (d₁ := 0) (d₂ := 0)
      (F := iprop(emp)) (q := fullShare) (fs := fs) (fd := fd)
      (hmem c (.sxs p) trivial Nat.one_pos) (hmem (mate p c) (.sxr p) trivial Nat.one_pos)
      (Ob.sx p).lev (tx p + 2) nX (credit_sxr p) (amount_cell I c (.sxs p) _ _) (amount_cell I (mate p c) (.sxr p) _ _)
      (owedFrom ((Ob.sx p).time + 1) c) (owedFrom_pay (Ob.sx p) c) (W := W)
      (by
        refine .trans ?_ (Entails.of_eq (payload_cell I c (.sxs p) 0 0).symm)
        show _ ⊢ held c sxsM
        unfold held own owns
        iintro H; iexists _; iexists fs
        isplitr; · ipureintro; exact hfs
        iexact H)
      (by
        refine .trans ?_ (Entails.of_eq (payload_cell I (mate p c) (.sxr p) 0 0).symm)
        show _ ⊢ own (mate p c) (sxrH p) fullShare (fun _ => mS I p.val (mate p (mate p c)))
        rw [mate_mate]
        unfold own owns
        iintro ⟨H, -⟩
        iexists _
        isplitr; swap; · iexact H
        ipureintro
        rw [View.read_write_univ, hfs])) $$ [Hl Hd HO Hts Htr]
  · isplitr; · iexact Hi₁
    isplitr; · iexact Hi₂
    isplitl [Hl]; · iexact Hl
    isplitl [Hd]
    · isplitl [Hd]; · iexact Hd
      iempintro
    isplitl [HO]; · iexact HO
    isplitl [Hts]; · iexact Hts
    isplitr; · iexact Hr₁
    isplitl [Htr]; · iexact Htr
    iexact Hr₂
  iintro ⟨Hc, HO⟩
  rw [wp_ret]
  imodintro
  iapply Hk
  isplitl [Hc]; · iexact Hc
  iexists _; iexact HO

theorem exch_eq (c : Dev nD) (p : Fin 3) (m : F .f32) : exch (places c) p m = (do
    let _o : Vec F S8x128 .f32 ← Prog.lift (.load sxsM (Rect.unit (s := S8x128) ![0, 0] S8x128.size inb_S8x128_S8x128_0_0).toLoadRect (View.loadsAt_vmem h_S8x128))
    Prog.lift (.store sxsM (Rect.unit (s := S8x128) ![0, 0] S8x128.size inb_S8x128_S8x128_0_0) (shapeCast S8x128 (broadcast S8x128 m) shapeCasts_S8x128_S8x128) Finset.univ (View.stores_vmem_bits_univ h_S8x128 rfl) (.inl rfl))
    exTo (mate p c) p
    Prog.lift (.waitDma2 (sem3 cc0_scratch16 p) (sxrH p) sxsM ((View.wordExact_bits rfl).reshape _ _) (Memref.isWhole_whole _).wordExact)
    Prog.lift (.waitDma2 (sem3 cc0_scratch17 p) sxsM (sxrH p) (Memref.isWhole_whole _).wordExact ((View.wordExact_bits rfl).reshape _ _))
    let v : Vec F S1x1x1 .f32 ← Prog.lift (.load sxrM (Rect.unit (s := S3x8x128) ![p.val, 0, 0] S1x1x1.size (inb_sx1 p)).toLoadRect (View.loadsAt_vmem h_S1x1x1))
    pure (k0_pay56 m v)) := rfl

theorem whole_emb (i : S8x128.Idx) : (Rect.unit (s := S8x128) ![0, 0] S8x128.size inb_S8x128_S8x128_0_0).emb i = i := by
  funext a
  apply Fin.ext
  show (![0, 0] : Fin 2 → ℕ) a + 1 * (i a).val = (i a).val
  fin_cases a <;> simp

theorem sx_sub (p : Fin 3) : (Rect.unit (s := S3x8x128) ![p.val, 0, 0] S1x1x1.size (inb_sx1 p)).set
    ⊆ (Rect.unit (s := S3x8x128) ![p.val, 0, 0] S1x8x128.size (inb_sx p)).set := by
  intro x hx
  rw [Rect.mem_set_unit] at hx ⊢
  intro a
  refine ⟨(hx a).1, lt_of_lt_of_le (hx a).2 (Nat.add_le_add_left ?_ _)⟩
  fin_cases a <;> decide

/-- Exchange `p`: the device's maximum becomes the larger of its own and its partner's. -/
theorem exch_spec {c : Dev nD} (p : Fin 3) {m : F .f32} (hm : m = mS I p c) {Q : F .f32 → sProp 𝕄} :
    iprop(ctx I ∗ held c sxsM ∗ exSup c p ∗ ents c 0 7 ∗ due c (tx p))
      ⊢ iprop(((held c sxsM ∗ exEnd c p ∗ due c (tx (p.val + 1))) -∗ Q (mS I (p.val + 1) c))
        -∗ WP c (exch (places c) p m) Q) := by
  subst hm
  rw [exch_eq]
  unfold exSup exEnd
  iintro ⟨#Hctx, Hs, ⟨Hd₁, Hd₂, Hw, Hc, Hp₁, Hp₂⟩, #He, HO⟩ Hk
  ihave #Hrel := (ents_mate (F := F) p (c := c)) $$ He
  ihave HO := (due_skip (tx_skip p)) $$ HO
  simp only [Prog.lift, Prog.bind_op, Prog.bind_ret, Prog.pure_eq_ret]
  unfold held
  icases Hs with ⟨%X, Hs⟩
  iapply (wp_load_own (M := sxsM)) $$ Hs
  iintro Hs
  iapply (wp_store_own (M := sxsM)) $$ Hs
  iintro %X' %hX' Hs
  have hX : X' = fun _ => mS I p c := by
    funext i
    have h := hX' i
    rw [whole_emb] at h
    exact h
  subst hX
  iapply wp_seq
  iapply (exTo_spec I p (t := tx p + 1) (t' := tx p + 2) rfl rfl) $$ [Hs Hd₁ Hd₂ Hw HO]
  · isplitr; · iexact Hctx
    isplitl [Hs]; · iexact Hs
    isplitr; · iexact Hrel
    isplitl [Hw]; · iexact Hw
    isplitl [Hd₁]; · iexact Hd₁
    isplitl [Hd₂]; · iexact Hd₂
    iexact HO
  iintro ⟨Hcs, HO⟩
  iapply (wp_seq (p := Prog.lift (.waitDma2 (sem3 cc0_scratch16 p) (sxrH p) sxsM ((View.wordExact_bits rfl).reshape _ _) (Memref.isWhole_whole _).wordExact)))
  iapply (wait_spec I (.sxs p) trivial 0 Nat.one_pos (t := tx p + 2) (tx p + 2) (Nat.lt_of_succ_lt (tx_lt p))
    (fun o h => Nat.lt_of_succ_lt (tx_lev p o h)) (src := sxrH p) (dst := sxsM) (h₁ := (View.wordExact_bits rfl).reshape _ _)
    (h₂ := (Memref.isWhole_whole _).wordExact) rfl credit_sxs) $$ [Hcs Hp₁ HO]
  · isplitr; · iexact Hctx
    isplitl [Hcs]; · iexact Hcs
    isplitl [HO]; · iexact HO
    iexact Hp₁
  iintro ⟨HO, Hp₁, -, Hs⟩
  have hs : payK I c (.sxs p) 0 0 ⊢ held c sxsM := Entails.of_eq rfl
  ihave Hs := hs $$ Hs
  iapply (wp_seq (p := Prog.lift (.waitDma2 (sem3 cc0_scratch17 p) sxsM (sxrH p) (Memref.isWhole_whole _).wordExact ((View.wordExact_bits rfl).reshape _ _))))
  iapply (wait_spec I (.sxr p) trivial 0 Nat.one_pos (t := tx p + 2) (tx p + 3) (tx_lt p)
    (tx_lev p) (src := sxsM) (dst := sxrH p) (h₁ := (Memref.isWhole_whole _).wordExact)
    (h₂ := (View.wordExact_bits rfl).reshape _ _) rfl (credit_sxr p)) $$ [Hc Hp₂ HO]
  · isplitr; · iexact Hctx
    isplitl [Hc]; · iexact Hc
    isplitl [HO]; · iexact HO
    iexact Hp₂
  iintro ⟨HO, Hp₂, -, Hr⟩
  have hr : payK I c (.sxr p) 0 0 ⊢ own c (sxrH p) fullShare (fun _ => mS I p.val (mate p c)) := Entails.of_eq rfl
  ihave Hr := hr $$ Hr
  unfold sxrH
  iapply (wp_load_const (M := sxrM) (sx_sub p)) $$ Hr
  iintro Hr
  iapply wp_done
  ihave HO := (due_skip (tx_next p)) $$ HO
  have hv : mS I (p.val + 1) c = k0_pay56 (mS I p c) (fun _ => mS I p.val (mate p c)) := by
    rw [mS, show (⟨p.val % 3, Nat.mod_lt _ (by decide)⟩ : Fin 3) = p from Fin.ext (Nat.mod_eq_of_lt p.isLt)]
    rfl
  have hQ : Q (mS I (p.val + 1) c) ⊢ Q (k0_pay56 (mS I p c)
      (fun _ : (Rect.unit (s := S3x8x128) ![p.val, 0, 0] S1x1x1.size (inb_sx1 p)).shape.Idx => mS I p.val (mate p c))) := Entails.of_eq (congrArg Q hv)
  iapply hQ
  iapply Hk
  isplitl [Hs]; · unfold held; iexact Hs
  isplitl [Hp₁ Hp₂ Hr]
  · isplitl [Hp₁]; · iexact Hp₁
    isplitl [Hp₂]; · iexact Hp₂
    iexists _; iexact Hr
  iexact HO

/-- The three exchanges. -/
theorem exchAll_spec {c : Dev nD} {Q : F .f32 → sProp 𝕄} :
    iprop(ctx I ∗ held c sxsM ∗ (exSup c 0 ∗ exSup c 1 ∗ exSup c 2) ∗ ents c 0 7 ∗ due c (tm 7 0 0))
      ⊢ iprop(((held c sxsM ∗ (exEnd c 0 ∗ exEnd c 1 ∗ exEnd c 2) ∗ due c (tm 10 0 0)) -∗ Q (mF I c))
        -∗ WP c (exchAll (places c) (mS I 0 c)) Q) := by
  iintro ⟨#Hctx, Hs, ⟨X0, X1, X2⟩, #He, HO⟩ Hk
  unfold exchAll
  iapply wp_seq
  iapply (exch_spec I 0 (m := mS I 0 c) rfl) $$ [Hs X0 HO]
  · isplitr; · iexact Hctx
    isplitl [Hs]; · iexact Hs
    isplitl [X0]; · iexact X0
    isplitr; · iexact He
    iexact HO
  iintro ⟨Hs, X0, HO⟩
  iapply wp_seq
  iapply (exch_spec I 1 (m := mS I 1 c) rfl) $$ [Hs X1 HO]
  · isplitr; · iexact Hctx
    isplitl [Hs]; · iexact Hs
    isplitl [X1]; · iexact X1
    isplitr; · iexact He
    iexact HO
  iintro ⟨Hs, X1, HO⟩
  iapply (exch_spec I 2 (m := mS I 2 c) rfl) $$ [Hs X2 HO]
  · isplitr; · iexact Hctx
    isplitl [Hs]; · iexact Hs
    isplitl [X2]; · iexact X2
    isplitr; · iexact He
    iexact HO
  iintro ⟨Hs, X2, HO⟩
  have hQ : Q (mF I c) ⊢ Q (mS I ((2 : Fin 3).val + 1) c) := Entails.of_eq rfl
  iapply hQ
  iapply Hk
  isplitl [Hs]; · iexact Hs
  isplitl [X0 X1 X2]
  · isplitl [X0]; · iexact X0
    isplitl [X1]; · iexact X1
    iexact X2
  iexact HO

end Cert.KernelIdeal.Hand

end

end
-- ==== Proof.Regroup.lean ====
module

public import proofs.«01_k».proof.Proof.Gather
public import proofs.«01_k».proof.Proof.Entry
public import proofs.«01_k».proof.Proof.Exch
public import Idealize.ShloMosaic.Lib.Pipeline.Launch

/-! # What a device starts with, and how it ends

The launch mints every cell's tokens on the cell's own device; here they are dealt to the devices that
use them and sorted by the part of the body that does. At the end every cell is closed. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ## Families over the roles, the payments and the tokens -/

/-- A ring and a half of its columns. -/
abbrev Half : Type := Fin 2 × Fin 2

omit [FloatOps F] in
/-- A family over one. -/
theorem big_one (Φ : Unit → sProp 𝕄) : bigSep Finset.univ Φ = Φ () := bigSep_univ_eq_bigSepL [()] (by decide) (by decide) Φ

omit [FloatOps F] in
/-- A family over the first `n` numbers. -/
theorem big_fin (n : ℕ) (Φ : ℕ → sProp 𝕄) : (bigSep Finset.univ fun j : Fin n => Φ j.val) = bigSep (Finset.Ico 0 n) Φ := by
  have h : Finset.Ico 0 n = (Finset.univ : Finset (Fin n)).map Fin.valEmbedding := by
    ext i; simp only [Finset.mem_Ico, Finset.mem_map, Finset.mem_univ, true_and, Fin.valEmbedding_apply]
    exact ⟨fun h => ⟨⟨i, h.2⟩, rfl⟩, fun ⟨a, ha⟩ => ⟨Nat.zero_le _, ha ▸ a.isLt⟩⟩
  rw [h, bigSep_map]; rfl

omit [FloatOps F] in
/-- A family over halves and something else. -/
theorem big_half {β : Type} [Fintype β] (Φ : Half × β → sProp 𝕄) :
    bigSep Finset.univ Φ = bigSep Finset.univ fun h : Half => bigSep Finset.univ fun b => Φ (h, b) := bigSep_univ_prod Φ

omit [FloatOps F] in
/-- A family over the exchanges' two ends. -/
theorem big_ends (Φ : Fin 3 × Fin 2 → sProp 𝕄) : bigSep Finset.univ Φ = bigSep Finset.univ fun p : Fin 3 => iprop(Φ (p, 0) ∗ Φ (p, 1)) := by
  rw [bigSep_univ_prod]; simp only [big_two]

/-- The roles of the kernel's own semaphores, grouped. -/
abbrev RoleI : Type := Fin 2 ⊕ ((Half × ((Fin 2 ⊕ Fin 2) ⊕ (Fin 2 ⊕ Unit))) ⊕ (Fin 3 × Fin 2))

/-- The role of an index. -/
def roleAt : RoleI → CellK
  | .inl g => .cr g
  | .inr (.inl (h, .inl (.inl b))) => .ss h.1 b h.2
  | .inr (.inl (h, .inl (.inr b))) => .rs h.1 b h.2
  | .inr (.inl (h, .inr (.inl b))) => .st h.1 b h.2
  | .inr (.inl (h, .inr (.inr _))) => .os h.1 h.2
  | .inr (.inr (p, d)) => if d = 0 then .sxs p else .sxr p

/-- All the roles: the handshake's, and the others. -/
def roleAll : Unit ⊕ RoleI → CellK
  | .inl _ => .bar
  | .inr i => roleAt i

set_option maxRecDepth 65536 in
set_option synthInstance.maxHeartbeats 400000 in
set_option synthInstance.maxSize 4096 in
theorem roleAll_bij : Function.Bijective roleAll := by
  have h₁ : ∀ a b, roleAll a = roleAll b → a = b := by decide +kernel
  have h₂ : ∀ b, ∃ a, roleAll a = b := by decide +kernel
  exact ⟨fun a b => h₁ a b, h₂⟩

/-- A half's cells. -/
def cellsH (Φ : CellK → sProp 𝕄) (g k : Fin 2) : sProp 𝕄 :=
  iprop(((Φ (.ss g 0 k) ∗ Φ (.ss g 1 k)) ∗ (Φ (.rs g 0 k) ∗ Φ (.rs g 1 k))) ∗ ((Φ (.st g 0 k) ∗ Φ (.st g 1 k)) ∗ Φ (.os g k)))

omit [FloatOps F] in
/-- A family over the roles: the handshake's, and the others. -/
theorem big_roles (Φ : CellK → sProp 𝕄) : bigSep Finset.univ Φ = iprop(Φ .bar ∗ bigSep Finset.univ fun i : RoleI => Φ (roleAt i)) := by
  rw [bigSep_univ_equiv (Equiv.ofBijective roleAll roleAll_bij) Φ, big_sum, big_one]; rfl

omit [FloatOps F] in
/-- A family over the roles, grouped. -/
theorem big_cells (Φ : CellK → sProp 𝕄) :
    bigSep Finset.univ Φ = iprop(Φ .bar ∗ (Φ (.cr 0) ∗ Φ (.cr 1)) ∗ (bigSep Finset.univ fun h : Half => cellsH Φ h.1 h.2)
      ∗ bigSep Finset.univ fun p : Fin 3 => iprop(Φ (.sxs p) ∗ Φ (.sxr p))) := by
  rw [big_roles, big_sum, big_two, big_sum, big_half, big_ends]
  simp only [big_sum, big_two, big_one]
  rfl

/-- The payments, grouped. -/
abbrev ObI : Type := Fin 2 ⊕ ((Half × (Fin 14 ⊕ Fin 12)) ⊕ Fin 3)

/-- The payment of an index. -/
def obAt : ObI → Ob
  | .inl g => .bar g
  | .inr (.inl (h, .inl j)) => .snd h.1 h.2 j
  | .inr (.inl (h, .inr j)) => .crd h.1 h.2 j
  | .inr (.inr p) => .sx p

set_option maxRecDepth 65536 in
theorem obAt_bij : Function.Bijective obAt := by
  have h₁ : ∀ a b, obAt a = obAt b → a = b := by decide +kernel
  have h₂ : ∀ b, ∃ a, obAt a = b := by decide +kernel
  exact ⟨fun a b => h₁ a b, h₂⟩

/-! ## What moves between the devices at the launch -/

/-- Ring `g` as a permutation of the devices. -/
def ringE (g : Fin 2) : Dev nD ≃ Dev nD := ⟨nxt g, prv g, prv_nxt g, nxt_prv g⟩
/-- Exchange `p` as a permutation of the devices. -/
def mateE (p : Fin 3) : Dev nD ≃ Dev nD := ⟨mate p, mate p, mate_mate p, mate_mate p⟩

omit [FloatOps F] in
/-- A family over devices and indices, each index's part moved along a permutation of the devices. -/
theorem deal {ι : Type} [Fintype ι] (e : ι → Dev nD ≃ Dev nD) (Φ : Dev nD → ι → sProp 𝕄) :
    (bigSep Finset.univ fun c : Dev nD => bigSep Finset.univ fun i => Φ c i)
      = bigSep Finset.univ fun c : Dev nD => bigSep Finset.univ fun i => Φ (e i c) i := by
  rw [bigSep_univ_comm, bigSep_univ_comm (fun c i => Φ (e i c) i)]
  exact bigSep_congr fun i _ => bigSep_univ_equiv (e i) fun c => Φ c i

/-- The duties' tokens of a device's cells, grouped. -/
abbrev TokI : Type := (Half × ((Fin 14 ⊕ Fin 14) ⊕ (Fin 12 ⊕ (Fin 7 ⊕ Unit)))) ⊕ ((Fin 3 × Fin 2) ⊕ Fin 2)

/-- The role, the round and the duty of a token. -/
def tokK : TokI → CellK × ℕ × ℕ
  | .inl (h, .inl (.inl j)) => (.ss h.1 (slot j.val) h.2, j.val / 2, 0)
  | .inl (h, .inl (.inr j)) => (.rs h.1 (slot j.val) h.2, j.val / 2, 0)
  | .inl (h, .inr (.inl j)) => (.cr h.1, 0, 2 * j.val + h.2.val)
  | .inl (h, .inr (.inr (.inl n))) => (.st h.1 (slot (n.val + 7)) h.2, n.val / 2, 0)
  | .inl (h, .inr (.inr (.inr _))) => (.os h.1 h.2, 0, 0)
  | .inr (.inl (p, d)) => (if d = 0 then .sxs p else .sxr p, 0, 0)
  | .inr (.inr g) => (.bar, 0, g.val)

set_option maxRecDepth 65536 in
set_option synthInstance.maxHeartbeats 400000 in
set_option synthInstance.maxSize 4096 in
theorem tokK_inj : Function.Injective tokK := by
  have h : ∀ a b, tokK a = tokK b → a = b := by decide +kernel
  exact fun a b => h a b

/-- Whose cell a device's token is for. -/
def tokE : TokI → Dev nD ≃ Dev nD
  | .inl (h, .inl (.inr _)) => ringE h.1
  | .inl (h, .inr (.inl _)) => (ringE h.1).symm
  | .inr (.inl (p, d)) => if d = 0 then Equiv.refl _ else mateE p
  | .inr (.inr g) => (ringE g).symm
  | _ => Equiv.refl _

/-- The rights to write into a device's landing places, grouped. -/
abbrev WrI : Type := (Half × Fin 14) ⊕ Fin 3

/-- The place and the trip of a right to write. -/
def wrK : WrI → Place × ℕ
  | .inl (h, j) => (.inl (h.1, slot j.val, h.2), j.val / 2)
  | .inr p => (.inr p, 0)

set_option maxRecDepth 65536 in
theorem wrK_inj : Function.Injective wrK := by
  have h : ∀ a b, wrK a = wrK b → a = b := by decide +kernel
  exact fun a b => h a b

theorem wrK_lt (i : WrI) : (wrK i).2 < 7 := by
  rcases i with ⟨h, j⟩ | p
  · show j.val / 2 < 7; omega
  · show 0 < 7; omega

/-- Whose landing place a device's right to write is for. -/
def wrE : WrI → Dev nD ≃ Dev nD
  | .inl (h, _) => ringE h.1
  | .inr p => mateE p

/-- A device's positions at its cells. -/
def allPos (c : Dev nD) : sProp 𝕄 := bigSep Finset.univ fun κ : CellK => atPos ER (cell c κ) 0 ∅ 0
/-- The tokens of the duties a device pays. -/
def allTok (c : Dev nD) : sProp 𝕄 := bigSep Finset.univ fun i : TokI => dutyTok ER (cell (tokE i c) (tokK i).1) (tokK i).2.1 (tokK i).2.2
/-- A device's rights to write. -/
def allWr (c : Dev nD) : sProp 𝕄 := bigSep Finset.univ fun i : WrI => writeTok ES (wrE i c, (wrK i).1) ((wrK i).2 + 1)
/-- A device's rights to wait for others. -/
def allCred (c : Dev nD) : sProp 𝕄 := bigSep Finset.univ fun o : Ob => cred (tallyAt (cell c o.role) o.lev o.amt)

/-! ## The launch credit -/

/-- What all devices owe together is what all devices wait for. -/
theorem owed_sum : (∑ d, owedFrom 0 d) = ∑ d : Dev nD, ∑ o : Ob, tallyAt (cell d o.role) o.lev o.amt := by
  unfold owedFrom
  simp only [Nat.zero_le, Finset.filter_true]
  rw [Finset.sum_comm, Finset.sum_comm (s := (Finset.univ : Finset (Dev nD)))]
  refine Finset.sum_congr rfl fun o _ => ?_
  exact Equiv.sum_comp (⟨fun c => o.payee c, fun c => o.payer c, fun c => Ob.payer_payee c o, fun c => Ob.payee_payer c o⟩ : Dev nD ≃ Dev nD)
    fun d => tallyAt (cell d o.role) o.lev o.amt

/-- What a device waits for is on its own cells. -/
theorem waits_own (d : Dev nD) (g : GSem nD τ sig) (h : (∑ o : Ob, tallyAt (cell d o.role) o.lev o.amt : CellTallies nD τ sig ℕ) g ≠ 0) :
    g.1 = (d.tc : Thread nD τ) := by
  by_contra hn
  refine h ?_
  rw [Finset.sum_apply]
  refine Finset.sum_eq_zero fun o _ => ?_
  exact tallyAt_ne_cell (fun h' => hn (by rw [h'])) _ _

omit [FloatOps F] in
/-- The launch credit of a device is its rights to wait for others. -/
theorem allCred_intro (c : Dev nD) : (Pipeline.launchCred (owedFrom 0) c : sProp 𝕄) ⊢ allCred c := by
  rw [Pipeline.launchCred_of_sum (owedFrom 0) _ owed_sum waits_own c, Pipeline.cred_finsetSum]
  exact BI.Entails.refl _

/-! ## What a device starts with -/

/-- A half's positions, tokens and rights. -/
def halfSup (c : Dev nD) (g k : Fin 2) : sProp 𝕄 :=
  iprop(((atPos ER (cell c (.ss g 0 k)) 0 ∅ 0 ∗ atPos ER (cell c (.ss g 1 k)) 0 ∅ 0)
      ∗ (atPos ER (cell c (.rs g 0 k)) 0 ∅ 0 ∗ atPos ER (cell c (.rs g 1 k)) 0 ∅ 0))
    ∗ (bigSep (Finset.Ico 0 14) (sendSup c g k) ∗ bigSep (Finset.Ico 0 14) (rsC c g k)
      ∗ bigSep (Finset.Ico 0 12) (crT c g k) ∗ bigSep (Finset.Ico 0 12) (crC c g k))
    ∗ ((atPos ER (cell c (.st g 0 k)) 0 ∅ 0 ∗ atPos ER (cell c (.st g 1 k)) 0 ∅ 0) ∗ bigSep (Finset.Ico 0 7) (stT c g k))
    ∗ (atPos ER (cell c (.os g k)) 0 ∅ 0 ∗ dutyTok ER (cell c (.os g k)) 0 0))

/-- A device's positions, tokens and rights. -/
def supply (c : Dev nD) : sProp 𝕄 :=
  iprop(enSup c ∗ (atPos ER (cell c (.cr 0)) 0 ∅ 0 ∗ atPos ER (cell c (.cr 1)) 0 ∅ 0)
    ∗ (bigSep Finset.univ fun h : Half => halfSup c h.1 h.2) ∗ bigSep Finset.univ fun p : Fin 3 => exSup c p)

/-- A half's tokens. -/
def tokH (c : Dev nD) (g k : Fin 2) : sProp 𝕄 :=
  iprop((bigSep (Finset.Ico 0 14) (fun j => dutyTok ER (cell c (.ss g (slot j) k)) (j / 2) 0)
      ∗ bigSep (Finset.Ico 0 14) (fun j => dutyTok ER (cell (nxt g c) (.rs g (slot j) k)) (j / 2) 0))
    ∗ (bigSep (Finset.Ico 0 12) (crT c g k) ∗ (bigSep (Finset.Ico 0 7) (stT c g k) ∗ dutyTok ER (cell c (.os g k)) 0 0)))

omit [FloatOps F] in
theorem allTok_eq (c : Dev nD) :
    allTok (F := F) c = iprop((bigSep Finset.univ fun h : Half => tokH c h.1 h.2)
      ∗ ((bigSep Finset.univ fun p : Fin 3 => iprop(dutyTok ER (cell c (.sxs p)) 0 0 ∗ dutyTok ER (cell (mate p c) (.sxr p)) 0 0))
        ∗ (dutyTok ER (cell (prv 0 c) .bar) 0 0 ∗ dutyTok ER (cell (prv 1 c) .bar) 0 1))) := by
  unfold allTok
  rw [big_sum, big_sum, big_two, big_half, big_ends]
  simp only [big_sum, big_one]
  refine congr (congrArg BIBase.sep (bigSep_congr fun h _ => ?_)) rfl
  unfold tokH
  rw [← big_fin 14, ← big_fin 14, ← big_fin 12, ← big_fin 7]
  rfl

omit [FloatOps F] in
theorem allWr_eq (c : Dev nD) :
    allWr (F := F) c = iprop((bigSep Finset.univ fun h : Half => bigSep (Finset.Ico 0 14) fun j => writeTok ES (nxt h.1 c, .inl (h.1, slot j, h.2)) (j / 2 + 1))
      ∗ (bigSep Finset.univ fun p : Fin 3 => writeTok ES (mate p c, .inr p) 1)) := by
  unfold allWr
  rw [big_sum, big_half]
  refine congr (congrArg BIBase.sep (bigSep_congr fun h _ => ?_)) rfl
  rw [← big_fin 14]
  rfl

omit [FloatOps F] in
theorem allCred_eq (c : Dev nD) :
    allCred (F := F) c = iprop((cred (tallyAt (cell c .bar) 10 1) ∗ cred (tallyAt (cell c .bar) 10 1))
      ∗ ((bigSep Finset.univ fun h : Half => iprop(bigSep (Finset.Ico 0 14) (rsC c h.1 h.2) ∗ bigSep (Finset.Ico 0 12) (crC c h.1 h.2)))
        ∗ bigSep Finset.univ fun p : Fin 3 => cred (tallyAt (cell c (.sxr p)) (tx p + 3) nX))) := by
  unfold allCred
  rw [bigSep_univ_equiv (Equiv.ofBijective obAt obAt_bij), big_sum, big_sum, big_two, big_half]
  simp only [big_sum]
  refine congr (congrArg BIBase.sep rfl) (congr (congrArg BIBase.sep (bigSep_congr fun h _ => ?_)) rfl)
  rw [← big_fin 14, ← big_fin 12]
  rfl

/-- The launch's shares, sorted by the parts of the body that use them. -/
theorem supply_intro (c : Dev nD) : iprop(allPos (F := F) c ∗ allTok c ∗ allWr c ∗ allCred c) ⊢ supply c := by
  unfold allPos supply
  rw [allTok_eq, allWr_eq, allCred_eq, big_cells]
  iintro ⟨⟨PB, PC, PH, PX⟩, ⟨TH, TX, TB⟩, ⟨WH, WX⟩, CB, CH, CX⟩
  isplitl [PB TB CB]
  · unfold enSup
    isplitl [TB]; · iexact TB
    isplitl [CB]; · iexact CB
    iexact PB
  isplitl [PC]; · iexact PC
  isplitl [PH TH WH CH]
  · have h : iprop((bigSep Finset.univ fun h : Half => cellsH (F := F) (fun κ => atPos ER (cell c κ) 0 ∅ 0) h.1 h.2) ∗ (bigSep Finset.univ fun h : Half => tokH c h.1 h.2)
        ∗ (bigSep Finset.univ fun h : Half => bigSep (Finset.Ico 0 14) fun j => writeTok ES (nxt h.1 c, .inl (h.1, slot j, h.2)) (j / 2 + 1))
        ∗ (bigSep Finset.univ fun h : Half => iprop(bigSep (Finset.Ico 0 14) (rsC c h.1 h.2) ∗ bigSep (Finset.Ico 0 12) (crC c h.1 h.2))))
        ⊢ bigSep Finset.univ fun h : Half => halfSup c h.1 h.2 := by
      rw [← bigSep_sep', ← bigSep_sep', ← bigSep_sep']
      refine bigSep_mono fun h _ => ?_
      show iprop(cellsH (F := F) (fun κ => atPos ER (cell c κ) 0 ∅ 0) h.1 h.2 ∗ tokH c h.1 h.2
        ∗ (bigSep (Finset.Ico 0 14) fun j => writeTok ES (nxt h.1 c, .inl (h.1, slot j, h.2)) (j / 2 + 1))
        ∗ (bigSep (Finset.Ico 0 14) (rsC c h.1 h.2) ∗ bigSep (Finset.Ico 0 12) (crC c h.1 h.2))) ⊢ halfSup c h.1 h.2
      unfold cellsH tokH halfSup
      iintro ⟨⟨⟨PS, PR⟩, PT, PO⟩, ⟨⟨TS, TR⟩, TC, TT, TO⟩, W, CR, CC⟩
      isplitl [PS PR]
      · isplitl [PS] <;> iassumption
      isplitl [TS TR TC W CR CC]
      · isplitl [TS TR W]
        · unfold sendSup
          rw [bigSep_sep', bigSep_sep']
          isplitl [TS]; · iexact TS
          isplitl [TR]; · iexact TR
          iexact W
        isplitl [CR]; · iexact CR
        isplitl [TC]; · iexact TC
        iexact CC
      isplitl [PT TT]
      · isplitl [PT] <;> iassumption
      isplitl [PO] <;> iassumption
    iapply h
    isplitl [PH]; · iexact PH
    isplitl [TH]; · iexact TH
    isplitl [WH]; · iexact WH
    iexact CH
  · unfold exSup
    simp only [bigSep_sep']
    icases PX with ⟨PX0, PX1⟩
    icases TX with ⟨TX0, TX1⟩
    isplitl [TX0]; · iexact TX0
    isplitl [TX1]; · iexact TX1
    isplitl [WX]; · iexact WX
    isplitl [CX]; · iexact CX
    isplitl [PX0]; · iexact PX0
    iexact PX1

/-! ## Closing the cells -/

variable (I : Inp F)

/-- The kernel done, every cell of a device is closed at zero. -/
theorem close_all (c : Dev nD) :
    iprop(ctx I ∗ bigSep Finset.univ fun κ : CellK => atPos ER (cell c κ) (roundsK κ) ∅ 0)
      ⊢ |={Set.univ}=> (bigSep Finset.univ fun κ : CellK => semVal (cell c κ) 0 : sProp 𝕄) := by
  refine (bigSep_with_persistent (S := Finset.univ) (Φ := fun κ : CellK => (atPos ER (cell c κ) (roundsK κ) ∅ 0 : sProp 𝕄))
    (Ψ := fun κ => iprop(|={Set.univ}=> semVal (cell c κ) 0)) fun κ _ => ?_).trans (bigSep_fupd _ _)
  have h : iprop(ctx I ∗ atPos ER (cell c κ) (roundsK κ) ∅ 0) ⊢ (|={Set.univ}=> semVal (cell c κ) 0 : sProp 𝕄) := by
    iintro ⟨Hc, Hp⟩
    ihave Hi := (ctx_cell I c κ) $$ Hc
    icases Hi with ⟨%n, Hi⟩
    iapply (Rounds.cell_close ER (sched I) (Set.mem_univ n) (fun h => h) (R := roundsK κ) (duties_after I c κ le_rfl))
    isplitl [Hi] <;> iassumption
  exact h

/-- A device's credits of a ring all taken, the cell's only round is over. -/
theorem cr_done (c : Dev nD) (g : Fin 2) :
    iprop(ctx I ∗ crPos c g 24) ⊢ (|={Set.univ}=> atPos ER (cell c (.cr g)) 1 ∅ 0 : sProp 𝕄) := by
  unfold crPos
  iintro ⟨Hc, %T, %hT, Hp, -⟩
  ihave Hi := (ctx_cell I c (.cr g)) $$ Hc
  icases Hi with ⟨%n, Hi⟩
  have hT' : Finset.range 24 ⊆ T := (Finset.eq_of_subset_of_card_le hT.1 (by rw [Finset.card_range]; exact hT.2)).symm ▸ Finset.Subset.refl _
  imod (Rounds.fupd_skip ER (sched I) (g := cell c (.cr g)) (R := 0) (m := 24) (T := T) (by rw [duties_cell]; exact hT') (expect_cr I c g).symm (Set.mem_univ n)) $$ [Hi Hp] with ⟨H, -⟩
  · isplitl [Hi] <;> iassumption
  imodintro
  iexact H

end Cert.KernelIdeal.Hand

end

end
-- ==== Proof.Mem.lean ====
module

public import proofs.«01_k».proof.Proof.Phase2

/-! # Buffers in parts

The landing slabs, the accumulators, the exchange blocks and the result, cut into the parts the
body moves and put together again. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

/-! ## A family of parts -/

section Parts

variable {c : Dev nD} {sp : Space} {sh : Shape} {e : EltTy} {T : Type} [Fintype T] [DecidableEq T]
  (M : Memref sig .tc sp sh e) (r : T → Rect sh) (hr : ∀ t a, (r t).stride a = 1)
  (hd : ∀ t t', t ≠ t' → Disjoint (r t).set (r t').set)
  (hcov : (Finset.univ : Finset T).biUnion (fun t => (r t).set) = Finset.univ)

omit [FloatOps F] in
include hd in
/-- An index lies in one part, at one place. -/
theorem parts_inj (p p' : (t : T) × (r t).shape.Idx) (h : (r p.1).emb p.2 = (r p'.1).emb p'.2) : p = p' := by
  obtain ⟨t, j⟩ := p
  obtain ⟨t', j'⟩ := p'
  have hm : ∀ (t : T) (j : (r t).shape.Idx), (r t).emb j ∈ (r t).set := fun t j => by
    rw [← Rect.map_emb_univ]; exact Finset.mem_map_of_mem _ (Finset.mem_univ _)
  by_cases ht : t = t'
  · subst ht
    exact congrArg (Sigma.mk t) ((r t).emb.injective h)
  · exact absurd (h ▸ hm t' j' : (r t).emb j ∈ (r t').set) (Finset.disjoint_left.mp (hd t t' ht) (hm t j))

open Classical in
/-- The whole's contents out of the parts'. -/
def glue {α : Type} [Nonempty α] (Xs : (t : T) → (r t).shape.Idx → α) (i : sh.Idx) : α :=
  if h : ∃ p : (t : T) × (r t).shape.Idx, (r p.1).emb p.2 = i then Xs h.choose.1 h.choose.2 else Classical.arbitrary α

include hd in
theorem glue_at {α : Type} [Nonempty α] (Xs : (t : T) → (r t).shape.Idx → α) (t : T) (j : (r t).shape.Idx) : glue r Xs ((r t).emb j) = Xs t j := by
  have h : ∃ p : (t : T) × (r t).shape.Idx, (r p.1).emb p.2 = (r t).emb j := ⟨⟨t, j⟩, rfl⟩
  unfold glue
  rw [dif_pos h]
  exact congrArg (fun p : (t : T) × (r t).shape.Idx => Xs p.1 p.2) (parts_inj r hd _ ⟨t, j⟩ h.choose_spec)

omit [FloatOps F] in
include hd hcov in
/-- A memref held is every part held. -/
theorem held_split : held (F := F) c M ⊢ bigSep Finset.univ fun t => held c (M.slice (r t) (hr t)) := by
  have h : ∀ X, own (F := F) c M fullShare X ⊢ bigSep Finset.univ fun t => held c (M.slice (r t) (hr t)) := fun X =>
    (owns_rects (c : Thread nD τ) M fullShare r hr hd hcov X).trans (BI.bigSep_mono fun t _ => own_held)
  unfold held at h ⊢
  iintro ⟨%X, H⟩
  iapply (h X); iexact H

include hd hcov in
/-- Every part owned is the memref owned at the parts' contents. -/
theorem own_join (Xs : (t : T) → (r t).shape.Idx → Elt F e) :
    (bigSep Finset.univ fun t => own c (M.slice (r t) (hr t)) fullShare (Xs t)) ⊢ own c M fullShare (glue r Xs) := by
  refine .trans (BI.bigSep_mono fun t _ => ?_) (owns_of_rects (c : Thread nD τ) M fullShare r hr hd hcov (glue r Xs))
  exact Entails.of_eq (congrArg (own c (M.slice (r t) (hr t)) fullShare) (funext fun j => (glue_at r hd Xs t j).symm))

include hd hcov in
/-- Every part held is the memref held. -/
theorem held_join : (bigSep Finset.univ fun t => held (F := F) c (M.slice (r t) (hr t))) ⊢ held c M := by
  unfold held
  refine .trans (BI.bigSep_exists_pi Finset.univ fun t (X : (r t).shape.Idx → Elt F e) => own c (M.slice (r t) (hr t)) fullShare X) ?_
  iintro ⟨%Xs, H⟩
  iexists _
  iapply (own_join M r hr hd hcov Xs)
  iexact H

end Parts

omit [FloatOps F] in
/-- A squeezed memref is held with the memref. -/
theorem held_squeeze {c : Dev nD} {sp : Space} {s s' : Shape} {e : EltTy} (M : Memref sig .tc sp s e) (hs : s.Squeezes s') :
    held (F := F) c (M.squeeze s' hs) = held c M := by
  have hset : (M.squeeze s' hs).view.set = M.view.set := View.set_reshape _ _
  unfold held own owns
  rw [hset]
  have h₁ : iprop(∃ X f, ⌜(M.squeeze s' hs).view.read (Elt F) f = X⌝ ∗ (M.view.loc (c : Thread nD τ) ↦[M.view.set]{fullShare} f))
      ⊢ (iprop(∃ X f, ⌜M.view.read (Elt F) f = X⌝ ∗ (M.view.loc (c : Thread nD τ) ↦[M.view.set]{fullShare} f)) : sProp 𝕄) := by
    iintro ⟨%X, %f, -, H⟩
    iexists _; iexists f
    isplitr; · ipureintro; rfl
    iexact H
  have h₂ : (iprop(∃ X f, ⌜M.view.read (Elt F) f = X⌝ ∗ (M.view.loc (c : Thread nD τ) ↦[M.view.set]{fullShare} f)) : sProp 𝕄)
      ⊢ iprop(∃ X f, ⌜(M.squeeze s' hs).view.read (Elt F) f = X⌝ ∗ (M.view.loc (c : Thread nD τ) ↦[M.view.set]{fullShare} f)) := by
    iintro ⟨%X, %f, -, H⟩
    iexists _; iexists f
    isplitr; · ipureintro; rfl
    iexact H
  exact BI.Entails.antisymm h₁ h₂

/-! ## The slabs -/

/-- The four halves of two slabs. -/
abbrev slotP (t : Fin 2 × Fin 2) : Rect S2x512x1024 := slotR t.1 t.2

theorem slotP_disj (t t' : Fin 2 × Fin 2) (h : t ≠ t') : Disjoint (slotP t).set (slotP t').set := by
  rw [Finset.disjoint_left]
  intro x hx hx'
  have h0 : t.1.val ≤ (x 0).val ∧ (x 0).val < t.1.val + 1 := Rect.mem_set_unit.mp hx 0
  have h0' : t'.1.val ≤ (x 0).val ∧ (x 0).val < t'.1.val + 1 := Rect.mem_set_unit.mp hx' 0
  have h1 : 512 * t.2.val ≤ (x 2).val ∧ (x 2).val < 512 * t.2.val + 512 := Rect.mem_set_unit.mp hx 2
  have h1' : 512 * t'.2.val ≤ (x 2).val ∧ (x 2).val < 512 * t'.2.val + 512 := Rect.mem_set_unit.mp hx' 2
  exact h (Prod.ext (Fin.ext (by omega)) (Fin.ext (by omega)))

theorem slotP_cover : (Finset.univ : Finset (Fin 2 × Fin 2)).biUnion (fun t => (slotP t).set) = Finset.univ := by
  refine Finset.eq_univ_of_forall fun x => Finset.mem_biUnion.mpr ?_
  have h0 : (x 0).val < 2 := (x 0).isLt
  have h1 : (x 1).val < 512 := (x 1).isLt
  have h2 : (x 2).val < 1024 := (x 2).isLt
  refine ⟨(⟨(x 0).val, h0⟩, ⟨(x 2).val / 512, by omega⟩), Finset.mem_univ _, Rect.mem_set_unit.mpr fun a => ?_⟩
  fin_cases a
  · show (x 0).val ≤ (x 0).val ∧ (x 0).val < (x 0).val + 1; omega
  · show 0 ≤ (x 1).val ∧ (x 1).val < 0 + 512; omega
  · show 512 * ((x 2).val / 512) ≤ (x 2).val ∧ (x 2).val < 512 * ((x 2).val / 512) + 512; omega

omit [FloatOps F] in
/-- Two slabs are their four halves. -/
theorem slots_split {c : Dev nD} (M : Memref sig .tc .vmem S2x512x1024 .f32) :
    held (F := F) c M ⊢ bigSep Finset.univ fun t : Fin 2 × Fin 2 =>
      held c ((M.slice (slotR t.1 t.2) (fun _ => rfl)).squeeze S512x512 squeezes_S1x512x512_S512x512) := by
  refine (held_split M slotP (fun _ _ => rfl) slotP_disj slotP_cover).trans (BI.bigSep_mono fun t _ => ?_)
  exact Entails.of_eq (held_squeeze _ squeezes_S1x512x512_S512x512).symm

theorem slots_join {c : Dev nD} (M : Memref sig .tc .vmem S2x512x1024 .f32) :
    (bigSep Finset.univ fun t : Fin 2 × Fin 2 => held (F := F) c ((M.slice (slotR t.1 t.2) (fun _ => rfl)).squeeze S512x512 squeezes_S1x512x512_S512x512)) ⊢ held c M := by
  refine .trans (BI.bigSep_mono fun t _ => ?_) (held_join M slotP (fun _ _ => rfl) slotP_disj slotP_cover)
  exact Entails.of_eq (held_squeeze _ squeezes_S1x512x512_S512x512)

/-- The accumulator back from its two halves. -/
theorem acc_join {c : Dev nD} (g : Fin 2) : iprop(held (F := F) c (accH g 0) ∗ held c (accH g 1)) ⊢ held c (accM g) := by
  refine .trans (Entails.of_eq (BI.bigSep_fin_two (fun k => held (F := F) c (accH g k))).symm) ?_
  exact held_join (accM g) accR (fun _ _ => rfl) accR_disj accR_cover

/-! ## The exchange blocks -/

/-- Block `p` of the three. -/
abbrev sxP (p : Fin 3) : Rect S3x8x128 := Rect.unit (s := S3x8x128) ![p.val, 0, 0] S1x8x128.size (inb_sx p)

theorem sxP_disj (p p' : Fin 3) (h : p ≠ p') : Disjoint (sxP p).set (sxP p').set := by
  rw [Finset.disjoint_left]
  intro x hx hx'
  have h0 : p.val ≤ (x 0).val ∧ (x 0).val < p.val + 1 := Rect.mem_set_unit.mp hx 0
  have h0' : p'.val ≤ (x 0).val ∧ (x 0).val < p'.val + 1 := Rect.mem_set_unit.mp hx' 0
  exact h (Fin.ext (by omega))

theorem sxP_cover : (Finset.univ : Finset (Fin 3)).biUnion (fun p => (sxP p).set) = Finset.univ := by
  refine Finset.eq_univ_of_forall fun x => Finset.mem_biUnion.mpr ?_
  have h0 : (x 0).val < 3 := (x 0).isLt
  have h1 : (x 1).val < 8 := (x 1).isLt
  have h2 : (x 2).val < 128 := (x 2).isLt
  refine ⟨⟨(x 0).val, h0⟩, Finset.mem_univ _, Rect.mem_set_unit.mpr fun a => ?_⟩
  fin_cases a
  · show (x 0).val ≤ (x 0).val ∧ (x 0).val < (x 0).val + 1; omega
  · show 0 ≤ (x 1).val ∧ (x 1).val < 0 + 8; omega
  · show 0 ≤ (x 2).val ∧ (x 2).val < 0 + 128; omega

omit [FloatOps F] in
theorem sx_split {c : Dev nD} : held (F := F) c sxrM ⊢ bigSep Finset.univ fun p : Fin 3 => held c (sxrH p) := by
  refine (held_split sxrM sxP (fun _ _ => rfl) sxP_disj sxP_cover).trans (BI.bigSep_mono fun t _ => ?_)
  exact Entails.of_eq (held_squeeze _ squeezes_S1x8x128_S8x128).symm

theorem sx_join {c : Dev nD} : (bigSep Finset.univ fun p : Fin 3 => held (F := F) c (sxrH p)) ⊢ held c sxrM := by
  refine .trans (BI.bigSep_mono fun t _ => ?_) (held_join sxrM sxP (fun _ _ => rfl) sxP_disj sxP_cover)
  exact Entails.of_eq (held_squeeze _ squeezes_S1x8x128_S8x128)

/-! ## The result -/

omit [FloatOps F] in
theorem sep_swap (P Q : sProp 𝕄) : (iprop(P ∗ Q) : sProp 𝕄) = iprop(Q ∗ P) := by
  have h₁ : iprop(P ∗ Q) ⊢ iprop(Q ∗ P) := sep_symm
  have h₂ : iprop(Q ∗ P) ⊢ iprop(P ∗ Q) := sep_symm
  exact BI.Entails.antisymm h₁ h₂

/-- A block of the result. -/
abbrev yP (t : Fin 8 × Fin 2 × Fin 2) : Rect S4096x2048 :=
  Rect.unit (s := S4096x2048) (yAt t.1 t.2.1 t.2.2).1 S512x512.size (yAt t.1 t.2.1 t.2.2).2

theorem yP_disj (t t' : Fin 8 × Fin 2 × Fin 2) (h : t ≠ t') : Disjoint (yP t).set (yP t').set := by
  rw [Finset.disjoint_left]
  intro x hx hx'
  have h0 : 512 * t.1.val ≤ (x 0).val ∧ (x 0).val < 512 * t.1.val + 512 := Rect.mem_set_unit.mp hx 0
  have h0' : 512 * t'.1.val ≤ (x 0).val ∧ (x 0).val < 512 * t'.1.val + 512 := Rect.mem_set_unit.mp hx' 0
  have h1 : 1024 * t.2.1.val + 512 * t.2.2.val ≤ (x 1).val ∧ (x 1).val < 1024 * t.2.1.val + 512 * t.2.2.val + 512 := Rect.mem_set_unit.mp hx 1
  have h1' : 1024 * t'.2.1.val + 512 * t'.2.2.val ≤ (x 1).val ∧ (x 1).val < 1024 * t'.2.1.val + 512 * t'.2.2.val + 512 := Rect.mem_set_unit.mp hx' 1
  have := t.2.1.isLt; have := t.2.2.isLt; have := t'.2.1.isLt; have := t'.2.2.isLt
  exact h (Prod.ext (Fin.ext (by omega)) (Prod.ext (Fin.ext (by omega)) (Fin.ext (by omega))))

theorem yP_cover : (Finset.univ : Finset (Fin 8 × Fin 2 × Fin 2)).biUnion (fun t => (yP t).set) = Finset.univ := by
  refine Finset.eq_univ_of_forall fun x => Finset.mem_biUnion.mpr ?_
  have h0 : (x 0).val < 4096 := (x 0).isLt
  have h1 : (x 1).val < 2048 := (x 1).isLt
  refine ⟨(⟨(x 0).val / 512, by omega⟩, ⟨(x 1).val / 1024, by omega⟩, ⟨(x 1).val % 1024 / 512, by omega⟩), Finset.mem_univ _, Rect.mem_set_unit.mpr fun a => ?_⟩
  fin_cases a
  · show 512 * ((x 0).val / 512) ≤ (x 0).val ∧ (x 0).val < 512 * ((x 0).val / 512) + 512; omega
  · show 1024 * ((x 1).val / 1024) + 512 * ((x 1).val % 1024 / 512) ≤ (x 1).val
      ∧ (x 1).val < 1024 * ((x 1).val / 1024) + 512 * ((x 1).val % 1024 / 512) + 512
    omega

/-- The row blocks in the order ring `g` writes them on device `c`. -/
def rowE (g : Fin 2) (c : Dev nD) : Fin 8 ≃ Fin 8 :=
  Equiv.ofBijective (fun n => row g n.val c) (by
    have h : ∀ (g : Fin 2) (c : Dev nD) (a b : Fin 8), row g a.val c = row g b.val c → a = b := by decide +kernel
    exact Finite.injective_iff_bijective.mp fun a b => h g c a b)

omit [FloatOps F] in
/-- The blocks of the result in the order the rings write them. -/
theorem y_order {c : Dev nD} (Φ : Fin 8 → Fin 2 → Fin 2 → sProp 𝕄) :
    (bigSep Finset.univ fun t : Fin 8 × Fin 2 × Fin 2 => Φ t.1 t.2.1 t.2.2)
      = bigSep Finset.univ fun h : Fin 2 × Fin 2 => iprop(bigSep (Finset.range 7) (fun n => Φ (row h.1 n c) h.1 h.2) ∗ Φ (row h.1 7 c) h.1 h.2) := by
  rw [BI.bigSep_univ_prod, BI.bigSep_univ_comm]
  refine BI.bigSep_congr fun h _ => ?_
  rw [BI.bigSep_univ_equiv (rowE h.1 c) (fun r => Φ r h.1 h.2)]
  have hf : (Finset.univ : Finset (Fin 8)).map Fin.valEmbedding = insert 7 (Finset.range 7) := by decide
  have h1 := BI.bigSep_map (s := (Finset.univ : Finset (Fin 8))) Fin.valEmbedding (Φ := fun n => Φ (row h.1 n c) h.1 h.2)
  rw [hf, BI.bigSep_insert (by decide)] at h1
  refine h1.symm.trans ?_
  exact sep_swap _ _

omit [FloatOps F] in
/-- The result, block by block. -/
theorem y_split {c : Dev nD} : held (F := F) c yM ⊢ bigSep Finset.univ fun h : Fin 2 × Fin 2 => iprop(bigSep (Finset.Ico 0 7) (yOld c h.1 h.2) ∗ yOld c h.1 h.2 7) := by
  refine (held_split yM yP (fun _ _ => rfl) yP_disj yP_cover).trans ?_
  refine (Entails.of_eq (y_order (c := c) fun r g k => held (F := F) c (yH (yAt r g k)))).trans ?_
  rw [Finset.range_eq_Ico]
  exact .rfl

variable (I : Inp F)

instance nonempty_f32 : Nonempty (F .f32) := ⟨Scalar.ofBits .f32 0x00000000#32⟩

/-- Device `c`'s result. -/
def yOut (c : Dev nD) : S4096x2048.Idx → F .f32 := glue (α := F .f32) yP fun t => yV I c t.1 t.2.1 t.2.2

/-- The result from its blocks. -/
theorem y_join {c : Dev nD} : (bigSep Finset.univ fun h : Fin 2 × Fin 2 => iprop(bigSep (Finset.range 7) (yNew I c h.1 h.2) ∗ yNew I c h.1 h.2 7))
    ⊢ own c yM fullShare (yOut I c) := by
  refine .trans ?_ (own_join yM yP (fun _ _ => rfl) yP_disj yP_cover fun t => yV I c t.1 t.2.1 t.2.2)
  exact Entails.of_eq (y_order (c := c) fun r g k => own c (yH (yAt r g k)) fullShare (yV I c r g k)).symm

end Cert.KernelIdeal.Hand

end

end
-- ==== Proof.Body.lean ====
module

public import proofs.«01_k».proof.Proof.Regroup
public import proofs.«01_k».proof.Proof.Mem

/-! # The body from beginning to end

The handshake, the first phase, the exchanges and the second phase after one another, from a device's
start to its end with every cell closed and every buffer whole. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (I : Inp F)

/-! ## The buffers and their parts -/

/-- The kernel's own buffers, whatever they hold. -/
def scr (c : Dev nD) : sProp 𝕄 :=
  iprop((held c (accM 0) ∗ held c (accM 1)) ∗ (held c (stM 0) ∗ held c (stM 1)) ∗ (held c (rvM 0) ∗ held c (rvM 1)) ∗ held c sxsM ∗ held c sxrM)

omit [FloatOps F] in
theorem rv_split {c : Dev nD} (g : Fin 2) : held (F := F) c (rvM g) ⊢ bigSep Finset.univ fun t : Fin 2 × Fin 2 => held c (rvH g t.1 t.2) := slots_split (rvM g)
omit [FloatOps F] in
theorem st_split {c : Dev nD} (g : Fin 2) : held (F := F) c (stM g) ⊢ bigSep Finset.univ fun t : Fin 2 × Fin 2 => held c (stH g t.1 t.2) := slots_split (stM g)

/-- The landing buffers are the landing places. -/
theorem places_intro {c : Dev nD} :
    iprop((held c (rvM 0) ∗ held c (rvM 1)) ∗ held c sxrM) ⊢ bigSep Finset.univ fun x : Place => placeOf (F := F) (c, x) := by
  rw [big_sum, bigSep_univ_prod, big_two]
  iintro ⟨⟨R0, R1⟩, X⟩
  isplitl [R0 R1]
  · isplitl [R0]
    · iapply (rv_split 0) $$ R0
    · iapply (rv_split 1) $$ R1
  · iapply sx_split $$ X

/-- A staging buffer's four parts by half. -/
theorem st_parts {c : Dev nD} (g : Fin 2) :
    held (F := F) c (stM g) ⊢ iprop((held c (stH g 0 0) ∗ held c (stH g 1 0)) ∗ (held c (stH g 0 1) ∗ held c (stH g 1 1))) := by
  refine (st_split g).trans ?_
  rw [big_four fun b k => held (F := F) c (stH g b k)]
  iintro ⟨H00, H01, H10, H11⟩
  isplitl [H00 H10]
  · isplitl [H00] <;> iassumption
  · isplitl [H01] <;> iassumption

theorem st_whole {c : Dev nD} (g : Fin 2) :
    iprop((held c (stH g 0 0) ∗ held c (stH g 1 0)) ∗ (held c (stH g 0 1) ∗ held c (stH g 1 1))) ⊢ held (F := F) c (stM g) := by
  refine BI.Entails.trans ?_ (slots_join (stM g))
  have h : (bigSep Finset.univ fun t : Fin 2 × Fin 2 => held (F := F) c (stH g t.1 t.2))
      = iprop(held c (stH g 0 0) ∗ held c (stH g 0 1) ∗ held c (stH g 1 0) ∗ held c (stH g 1 1)) := big_four fun b k => held (F := F) c (stH g b k)
  refine BI.Entails.trans ?_ (Entails.of_eq h.symm)
  show iprop((held c (stH g 0 0) ∗ held c (stH g 1 0)) ∗ (held c (stH g 0 1) ∗ held c (stH g 1 1)))
    ⊢ iprop(held (F := F) c (stH g 0 0) ∗ held c (stH g 0 1) ∗ held c (stH g 1 0) ∗ held c (stH g 1 1))
  iintro ⟨⟨H00, H10⟩, H01, H11⟩
  isplitl [H00]; · iexact H00
  isplitl [H01]; · iexact H01
  isplitl [H10]; · iexact H10
  iexact H11

theorem rv_whole {c : Dev nD} (g : Fin 2) :
    iprop((held c (rvH g 0 0) ∗ held c (rvH g 1 0)) ∗ (held c (rvH g 0 1) ∗ held c (rvH g 1 1))) ⊢ held (F := F) c (rvM g) := by
  refine BI.Entails.trans ?_ (slots_join (rvM g))
  have h : (bigSep Finset.univ fun t : Fin 2 × Fin 2 => held (F := F) c (rvH g t.1 t.2))
      = iprop(held c (rvH g 0 0) ∗ held c (rvH g 0 1) ∗ held c (rvH g 1 0) ∗ held c (rvH g 1 1)) := big_four fun b k => held (F := F) c (rvH g b k)
  refine BI.Entails.trans ?_ (Entails.of_eq h.symm)
  show iprop((held c (rvH g 0 0) ∗ held c (rvH g 1 0)) ∗ (held c (rvH g 0 1) ∗ held c (rvH g 1 1)))
    ⊢ iprop(held (F := F) c (rvH g 0 0) ∗ held c (rvH g 0 1) ∗ held c (rvH g 1 0) ∗ held c (rvH g 1 1))
  iintro ⟨⟨H00, H10⟩, H01, H11⟩
  isplitl [H00]; · iexact H00
  isplitl [H01]; · iexact H01
  isplitl [H10]; · iexact H10
  iexact H11

/-! ## A half before and after -/

/-- What a half's copies to the result need besides memory. -/
def outSup (c : Dev nD) (g k : Fin 2) : sProp 𝕄 :=
  iprop((stAt c g k 0 ∗ bigSep (Finset.Ico 0 7) (stT c g k)) ∗ (dutyTok ER (cell c (.os g k)) 0 0 ∗ atPos ER (cell c (.os g k)) 0 ∅ 0))

/-- A half's positions, tokens and rights, sorted by phase. -/
theorem half_start {c : Dev nD} (g k : Fin 2) : iprop(ctx I ∗ halfSup c g k ∗ readers c g k 0) ⊢ iprop(lane₀ c g k ∗ outSup c g k) := by
  unfold halfSup lane₀ outSup
  iintro ⟨#Hctx, ⟨⟨⟨S0, S1⟩, R0, R1⟩, ⟨TS, CR, TC, CC⟩, ⟨⟨P0, P1⟩, TT⟩, PO, TO⟩, Hr⟩
  isplitl [S0 S1 R0 R1 TS CR TC CC Hr]
  · isplitl [S0 S1 R0 R1]
    · unfold spots
      isplitl [S0]; · iexact S0
      isplitl [S1]; · iexact S1
      isplitl [R0]; · iexact R0
      isplitl [R1]; · iexact R1
      isplitr
      · iapply (ctx_reached I c (.ss g 1 k)); iexact Hctx
      · iapply (ctx_reached I c (.rs g 1 k)); iexact Hctx
    isplitl [TS]; · iexact TS
    isplitl [CR]; · iexact CR
    isplitl [TC]; · iexact TC
    isplitl [CC]; · iexact CC
    iexact Hr
  · isplitl [P0 P1 TT]
    · isplitl [P0 P1]
      · unfold stAt
        isplitl [P1]; · iexact P1
        isplitl [P0]; · iexact P0
        isplitr
        · iapply (ctx_reached I c (.st g 1 k)); iexact Hctx
        · iapply (ctx_reached I c (.st g 0 k)); iexact Hctx
      iexact TT
    isplitl [TO]; · iexact TO
    iexact PO

/-- A device's final positions. -/
abbrev posEnd (c : Dev nD) (κ : CellK) : sProp 𝕄 := atPos ER (cell c κ) (roundsK κ) ∅ 0

/-- A half done: its cells' last positions, its parts of the buffers, and its blocks of the result. -/
theorem half_done {c : Dev nD} (g k : Fin 2) :
    halfEnd I c g k ⊢ iprop(cellsH (posEnd c) g k ∗ (held c (rvH g 0 k) ∗ held c (rvH g 1 k)) ∗ (held c (stH g 0 k) ∗ held c (stH g 1 k))
      ∗ held c (accH g k) ∗ (bigSep (Finset.range 7) (yNew I c g k) ∗ yNew I c g k 7)) := by
  unfold halfEnd fin ownEnd sto spots stAt cellsH
  iintro ⟨⟨V1, V0, S0, S1, R0, R1, -, -⟩, ⟨Y7, A, PO⟩, T0, T1, ⟨P0, P1, -, -⟩, -, -, Y⟩
  isplitl [S0 S1 R0 R1 P0 P1 PO]
  · isplitl [S0 S1 R0 R1]
    · isplitl [S0 S1]
      · isplitl [S0]
        · iexact S0
        · iexact S1
      · isplitl [R0]
        · iexact R0
        · iexact R1
    · isplitl [P0 P1]
      · isplitl [P0]
        · iexact P0
        · iexact P1
      · iexact PO
  isplitl [V0 V1]
  · isplitl [V0]
    · iexact V0
    · ihave V1 := own_held $$ V1
      iexact V1
  isplitl [T0 T1]
  · isplitl [T0]
    · iexact T0
    · iexact T1
  isplitl [A]; · iexact A
  isplitl [Y]; · iexact Y
  iexact Y7

/-- All halves done. -/
theorem halves_done {c : Dev nD} :
    iprop(halfEnd I c 0 0 ∗ halfEnd I c 0 1 ∗ halfEnd I c 1 0 ∗ halfEnd I c 1 1)
      ⊢ iprop((bigSep Finset.univ fun h : Half => cellsH (F := F) (posEnd c) h.1 h.2)
        ∗ (held c (rvM 0) ∗ held c (rvM 1)) ∗ (held c (stM 0) ∗ held c (stM 1)) ∗ (held c (accM 0) ∗ held c (accM 1)) ∗ own c yM fullShare (yOut I c)) := by
  have h : (bigSep Finset.univ fun h : Half => halfEnd I c h.1 h.2)
      ⊢ iprop((bigSep Finset.univ fun h : Half => cellsH (F := F) (posEnd c) h.1 h.2)
        ∗ bigSep Finset.univ fun h : Half => iprop((held c (rvH h.1 0 h.2) ∗ held c (rvH h.1 1 h.2)) ∗ (held c (stH h.1 0 h.2) ∗ held c (stH h.1 1 h.2))
          ∗ held c (accH h.1 h.2) ∗ (bigSep (Finset.range 7) (yNew I c h.1 h.2) ∗ yNew I c h.1 h.2 7))) := by
    rw [← bigSep_sep']; exact bigSep_mono fun h _ => half_done I h.1 h.2
  iintro H
  ihave H := (Entails.of_eq (big_four fun g k => halfEnd I c g k).symm) $$ H
  ihave H := h $$ H
  icases H with ⟨P, H⟩
  ihave H := (Entails.of_eq (bigSep_sep' _ _ _)) $$ H
  icases H with ⟨V, H⟩
  ihave H := (Entails.of_eq (bigSep_sep' _ _ _)) $$ H
  icases H with ⟨T, H⟩
  ihave H := (Entails.of_eq (bigSep_sep' _ _ _)) $$ H
  icases H with ⟨A, Y⟩
  ihave V := (Entails.of_eq (big_four fun g k => iprop(held (F := F) c (rvH g 0 k) ∗ held c (rvH g 1 k)))) $$ V
  ihave T := (Entails.of_eq (big_four fun g k => iprop(held (F := F) c (stH g 0 k) ∗ held c (stH g 1 k)))) $$ T
  ihave A := (Entails.of_eq (big_four fun g k => held (F := F) c (accH g k))) $$ A
  icases V with ⟨V00, V01, V10, V11⟩
  icases T with ⟨T00, T01, T10, T11⟩
  icases A with ⟨A00, A01, A10, A11⟩
  isplitl [P]; · iexact P
  isplitl [V00 V01 V10 V11]
  · isplitl [V00 V01]
    · iapply (rv_whole 0); isplitl [V00] <;> iassumption
    · iapply (rv_whole 1); isplitl [V10] <;> iassumption
  isplitl [T00 T01 T10 T11]
  · isplitl [T00 T01]
    · iapply (st_whole 0); isplitl [T00] <;> iassumption
    · iapply (st_whole 1); isplitl [T10] <;> iassumption
  isplitl [A00 A01 A10 A11]
  · isplitl [A00 A01]
    · iapply (acc_join 0); isplitl [A00] <;> iassumption
    · iapply (acc_join 1); isplitl [A10] <;> iassumption
  iapply (y_join I); iexact Y

/-- A half's copies before the first. -/
theorem sto_zero {c : Dev nD} (g k : Fin 2) :
    iprop((held c (stH g 0 k) ∗ held c (stH g 1 k)) ∗ stAt c g k 0 ∗ bigSep (Finset.Ico 0 7) (stT c g k) ∗ bigSep (Finset.Ico 0 7) (yOld c g k)) ⊢ sto I c g k 0 := by
  unfold sto
  iintro ⟨⟨H0, H1⟩, P, T, Y⟩
  isplitl [H1]; · iexact H1
  isplitl [H0]; · iexact H0
  isplitl [P]; · iexact P
  isplitl [T]; · iexact T
  isplitl [Y]; · iexact Y
  rw [Finset.range_zero, BI.bigSep_empty]; iempintro

/-! ## The body -/

/-- No credit of a ring taken yet. -/
theorem crPos_zero {c : Dev nD} (g : Fin 2) : atPos ER (cell c (.cr g)) 0 ∅ 0 ⊢ crPos (F := F) c g 0 := by
  unfold crPos
  iintro H
  iexists ∅
  isplitr; · ipureintro; exact ⟨Finset.empty_subset _, Nat.le_refl _⟩
  isplitl [H]; · iexact H
  rw [BI.bigSep_empty]; iempintro

theorem body_spec {c : Dev nD} {Q : PUnit → sProp 𝕄} :
    iprop(ctx I ∗ args I c ∗ supply c ∗ (bigSep Finset.univ fun x : Place => readerAt ES (c, x) 0) ∗ scr c ∗ held c yM ∗ due c 0)
      ⊢ iprop(((args I c ∗ scr c ∗ own c yM fullShare (yOut I c) ∗ (bigSep Finset.univ fun κ : CellK => semVal (cell c κ) 0) ∗ due c (tm 18 0 0)) -∗ Q ⟨⟩)
        -∗ WP c (body (places c)) Q) := by
  unfold supply scr
  iintro ⟨#Hctx, Hargs, ⟨Hen, ⟨C0, C1⟩, Hsup, Hex⟩, Hrd, ⟨⟨A0, A1⟩, ⟨S0, S1⟩, HV, HX, HR⟩, Hy, HO⟩ Hk
  ihave Hpl := (places_intro (c := c)) $$ [HV HR]
  · isplitl [HV] <;> iassumption
  unfold body
  iapply (wp_fupd frame _ Set.univ)
  iapply wp_seq
  iapply (entry_spec I) $$ [Hen Hrd Hpl HO]
  · isplitr; · iexact Hctx
    isplitl [Hpl]; · iexact Hpl
    isplitl [Hrd]; · iexact Hrd
    isplitl [Hen]; · iexact Hen
    iexact HO
  iintro ⟨Hrd, ⟨#Y0, #Y1⟩, #He, Hbar, HO⟩
  ihave Hlo := (show iprop(ctx I ∗ (bigSep Finset.univ fun h : Half => halfSup c h.1 h.2) ∗ bigSep Finset.univ fun h : Fin 2 × Fin 2 => readers c h.1 h.2 0)
      ⊢ iprop((bigSep Finset.univ fun h : Half => lane₀ c h.1 h.2) ∗ bigSep Finset.univ fun h : Half => outSup c h.1 h.2) from by
    rw [← bigSep_sep', ← bigSep_sep']
    exact bigSep_with_persistent fun h _ => half_start I h.1 h.2) $$ [Hsup Hrd]
  · isplitr; · iexact Hctx
    isplitl [Hsup] <;> iassumption
  icases Hlo with ⟨Hl, Ho⟩
  ihave Hl := (Entails.of_eq (big_four fun g k => lane₀ (F := F) c g k)) $$ Hl
  ihave Ho := (Entails.of_eq (big_four fun g k => outSup (F := F) c g k)) $$ Ho
  iapply wp_seq
  iapply (phase1_spec I) $$ [Hargs A0 A1 S0 S1 Hl C0 C1 HO]
  · isplitr; · iexact Hctx
    isplitl [Hargs]; · iexact Hargs
    isplitl [A0 A1]; · isplitl [A0] <;> iassumption
    isplitl [S0 S1]; · isplitl [S0] <;> iassumption
    isplitl [Hl]; · iexact Hl
    isplitl [C0 C1]
    · isplitl [C0]
      · iapply (crPos_zero 0) $$ C0
      · iapply (crPos_zero 1) $$ C1
    isplitr
    · isplitr
      · iexact Y0
      · iexact Y1
    isplitr; · iexact He
    iexact HO
  iintro ⟨Hargs, Hl, ⟨S0, S1⟩, Hrings, HO⟩
  ihave Hl' := (show lanes I c 7 ⊢ iprop(ents c 0 7 ∗ lanes I c 7) from by
    refine persistent_entails_right ?_
    unfold lanes lane
    iintro ⟨⟨-, -, -, He, -⟩, -⟩
    iexact He) $$ Hl
  icases Hl' with ⟨#Hents, Hl⟩
  iapply wp_seq
  iapply (exchAll_spec I) $$ [HX Hex HO]
  · isplitr; · iexact Hctx
    isplitl [HX]; · iexact HX
    isplitl [Hex]; · iapply (Entails.of_eq (big_three fun p => exSup (F := F) c p)) $$ Hex
    isplitr; · iexact Hents
    iexact HO
  iintro ⟨HX, Hex, HO⟩
  ihave S0 := (st_parts (c := c) 0) $$ S0
  ihave S1 := (st_parts (c := c) 1) $$ S1
  icases S0 with ⟨⟨S000, S010⟩, S001, S011⟩
  icases S1 with ⟨⟨S100, S110⟩, S101, S111⟩
  ihave Hy := (y_split (c := c)) $$ Hy
  ihave Hy := (Entails.of_eq (big_four fun g k => iprop(bigSep (Finset.Ico 0 7) (yOld (F := F) c g k) ∗ yOld c g k 7))) $$ Hy
  icases Hy with ⟨⟨Y00, Z00⟩, ⟨Y01, Z01⟩, ⟨Y10, Z10⟩, Y11, Z11⟩
  unfold outSup
  icases Ho with ⟨⟨⟨P00, T00⟩, O00⟩, ⟨⟨P01, T01⟩, O01⟩, ⟨⟨P10, T10⟩, O10⟩, ⟨P11, T11⟩, O11⟩
  iapply (phase2_spec I) $$ [Hl Hrings S000 S010 S001 S011 S100 S110 S101 S111 Y00 Z00 Y01 Z01 Y10 Z10 Y11 Z11 P00 T00 O00 P01 T01 O01 P10 T10 O10 P11 T11 O11 HO]
  · isplitr; · iexact Hctx
    isplitl [Hl]; · iexact Hl
    isplitl [Hrings]; · iexact Hrings
    isplitl [S000 S010 S001 S011 S100 S110 S101 S111 Y00 Y01 Y10 Y11 P00 T00 P01 T01 P10 T10 P11 T11]
    · unfold stos
      isplitl [S000 S010 Y00 P00 T00]
      · iapply (sto_zero I 0 0)
        isplitl [S000 S010]
        · isplitl [S000] <;> iassumption
        isplitl [P00]; · iexact P00
        isplitl [T00]; · iexact T00
        iexact Y00
      isplitl [S100 S110 Y10 P10 T10]
      · iapply (sto_zero I 1 0)
        isplitl [S100 S110]
        · isplitl [S100] <;> iassumption
        isplitl [P10]; · iexact P10
        isplitl [T10]; · iexact T10
        iexact Y10
      isplitl [S001 S011 Y01 P01 T01]
      · iapply (sto_zero I 0 1)
        isplitl [S001 S011]
        · isplitl [S001] <;> iassumption
        isplitl [P01]; · iexact P01
        isplitl [T01]; · iexact T01
        iexact Y01
      · iapply (sto_zero I 1 1)
        isplitl [S101 S111]
        · isplitl [S101] <;> iassumption
        isplitl [P11]; · iexact P11
        isplitl [T11]; · iexact T11
        iexact Y11
    isplitr [HO]
    · unfold ownSup
      isplitl [Z00 O00]; · isplitl [Z00] <;> iassumption
      isplitl [Z01 O01]; · isplitl [Z01] <;> iassumption
      isplitl [Z10 O10]; · isplitl [Z10] <;> iassumption
      isplitl [Z11] <;> iassumption
    iexact HO
  iintro ⟨Hend, Hrings, HO⟩
  ihave Hend := (halves_done I) $$ Hend
  icases Hend with ⟨Hpos, HV, HS, HA, Hy⟩
  unfold rings ring
  icases Hrings with ⟨⟨C0, -⟩, C1, -⟩
  imod (cr_done I c 0) $$ [C0] with C0
  · isplitr; · iexact Hctx
    iexact C0
  imod (cr_done I c 1) $$ [C1] with C1
  · isplitr; · iexact Hctx
    iexact C1
  ihave Hex := (Entails.of_eq (big_three fun p => exEnd (F := F) c p).symm) $$ Hex
  ihave Hex := (show (bigSep Finset.univ fun p : Fin 3 => exEnd c p) ⊢ iprop((bigSep Finset.univ fun p : Fin 3 => iprop(posEnd c (.sxs p) ∗ posEnd c (.sxr p))) ∗ held (F := F) c sxrM) from by
    unfold exEnd
    rw [bigSep_sep', bigSep_sep', bigSep_sep']
    iintro ⟨H0, H1, H⟩
    isplitl [H0 H1]
    · isplitl [H0]
      · iexact H0
      · iexact H1
    iapply sx_join; iexact H) $$ Hex
  icases Hex with ⟨Hex, HR⟩
  imod (close_all I c) $$ [Hbar C0 C1 Hpos Hex] with Hz
  · isplitr; · iexact Hctx
    iapply (Entails.of_eq (big_cells (posEnd (F := F) c)).symm)
    isplitl [Hbar]; · iexact Hbar
    isplitl [C0 C1]
    · isplitl [C0]
      · iexact C0
      · iexact C1
    isplitl [Hpos]; · iexact Hpos
    iexact Hex
  imodintro
  iapply Hk
  isplitl [Hargs]; · iexact Hargs
  isplitl [HA HS HV HX HR]
  · isplitl [HA]; · iexact HA
    isplitl [HS]; · iexact HS
    isplitl [HV]; · iexact HV
    isplitl [HX]; · iexact HX
    iexact HR
  isplitl [Hy]; · iexact Hy
  isplitl [Hz]; · iexact Hz
  iexact HO

end Cert.KernelIdeal.Hand

end

end
-- ==== Proof.Ghost.lean ====
module

public import proofs.«01_k».proof.Proof.Regroup
public import Idealize.ShloMosaic.Lib.Pipeline.CollectiveSegs

/-! # The ghost state of the launch

It is made once, dealt to the devices, and every cell's and every landing place's invariant made of it. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

variable (I : Inp F)

/-! ## The ghost state made before the launch -/

/-- The kernel's cells. -/
def kCells : Finset (GSem nD τ sig) := Finset.univ.map
  ⟨fun x : Dev nD × CellK => cell x.1 x.2, fun _ _ h => Prod.ext (cell_inj h).1 (cell_inj h).2⟩

/-- A device's own cells' tokens. -/
abbrev tokAt (x : Dev nD × TokI) : GSem nD τ sig × ℕ × ℕ := (cell x.1 (tokK x.2).1, (tokK x.2).2.1, (tokK x.2).2.2)

theorem tokAt_inj : Function.Injective tokAt := by
  intro x y h
  have hc := cell_inj (congrArg Prod.fst h)
  have hr := congrArg Prod.snd h
  exact Prod.ext hc.1 (tokK_inj (Prod.ext hc.2 hr))

/-- The tokens of all duties. -/
def kToks : Finset (GSem nD τ sig × ℕ × ℕ) := Finset.univ.map ⟨tokAt, tokAt_inj⟩

/-- The rights to write into a device's landing places. -/
abbrev wrAt (x : Dev nD × WrI) : (Dev nD × Place) × ℕ := ((x.1, (wrK x.2).1), (wrK x.2).2)

theorem wrAt_inj : Function.Injective wrAt := by
  intro x y h
  have h1 : x.1 = y.1 := congrArg (fun z : (Dev nD × Place) × ℕ => z.1.1) h
  have h2 : (wrK x.2).1 = (wrK y.2).1 := congrArg (fun z : (Dev nD × Place) × ℕ => z.1.2) h
  have h3 : (wrK x.2).2 = (wrK y.2).2 := congrArg (fun z : (Dev nD × Place) × ℕ => z.2) h
  exact Prod.ext h1 (wrK_inj (Prod.ext h2 h3))

/-- The ghost state at launch. -/
def u₀ : UU :=
  (initOf (Pipeline.cells cfgs cellOf_inj) (Pipeline.launchToks cfgs cellOf_inj), (initOf kCells kToks, initSlots (Finset.univ : Finset (Dev nD × Place)) 7))

/-- What a device keeps of it, besides facts. -/
def lin (c : Dev nD) : sProp 𝕄 :=
  iprop(allPos c ∗ allTok c ∗ (bigSep Finset.univ fun x : Place => readerAt ES (c, x) 0) ∗ allWr c)

/-- Every landing place's invariant, at some names. -/
def slots : sProp 𝕄 := iprop(∃ J : Dev nD × Place → ℕ, bigSep Finset.univ fun x : Dev nD × Place => slotInv ES (J x) x (placeOf (F := F) x))

instance slots_persistent : BI.Persistent (slots (F := F)) := by unfold slots; infer_instance

/-- A device's share of the ghost state. -/
def G (c : Dev nD) : sProp 𝕄 :=
  iprop((bigSep Finset.univ fun κ : CellK => roundState ER (sched I) (cell c κ) 0) ∗ (bigSep Finset.univ fun κ : CellK => reached ER (cell c κ) 0) ∗ slots ∗ lin c)

theorem fund_cells : BI.own (ER (initOf kCells kToks))
    ⊢ (|==> ((bigSep Finset.univ fun c : Dev nD => bigSep Finset.univ fun κ : CellK => roundState ER (sched I) (cell c κ) 0)
      ∗ (bigSep Finset.univ fun c : Dev nD => bigSep Finset.univ fun κ : CellK => reached ER (cell c κ) 0)
      ∗ (bigSep Finset.univ fun c : Dev nD => allPos c) ∗ bigSep Finset.univ fun c : Dev nD => allTok c) : sProp 𝕄) := by
  have hX (Φ : GSem nD τ sig → sProp 𝕄) : bigSep kCells Φ = bigSep Finset.univ fun c : Dev nD => bigSep Finset.univ fun κ : CellK => Φ (cell c κ) := by
    unfold kCells; rw [bigSep_map, bigSep_univ_prod]; rfl
  have hT : bigSep kToks (fun x => (dutyTok ER x.1 x.2.1 x.2.2 : sProp 𝕄)) = bigSep Finset.univ fun c : Dev nD => allTok c := by
    unfold kToks allTok
    rw [bigSep_map, bigSep_univ_prod]
    exact deal tokE fun c i => dutyTok ER (cell c (tokK i).1) (tokK i).2.1 (tokK i).2.2
  iintro HX
  imod (Rounds.fund ER (sched I) kCells kToks) $$ HX with ⟨Hst, Hr, Hat, Htok⟩
  imodintro
  ihave Hst' := (Entails.of_eq (hX fun g => roundState ER (sched I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  isplitl [Hst']; · iexact Hst'
  isplitl [Hr']; · iexact Hr'
  isplitl [Hat']; · iexact Hat'
  iexact Htok'

theorem fund_slots : BI.own (ES (initSlots (Finset.univ : Finset (Dev nD × Place)) 7))
    ⊢ (|={Set.univ}=> (slots ∗ (bigSep Finset.univ fun c : Dev nD => bigSep Finset.univ fun x : Place => readerAt ES (c, x) 0)
      ∗ bigSep Finset.univ fun c : Dev nD => allWr c) : sProp 𝕄) := by
  have hW : (bigSep ((Finset.univ : Finset (Dev nD × Place)) ×ˢ Finset.range 7) fun x => (writeTok ES x.1 (x.2 + 1) : sProp 𝕄)) ⊢ bigSep Finset.univ fun c : Dev nD => allWr c := by
    have hs : (Finset.univ : Finset (Dev nD × WrI)).map ⟨wrAt, wrAt_inj⟩ ⊆ (Finset.univ : Finset (Dev nD × Place)) ×ˢ Finset.range 7 := by
      intro y hy
      obtain ⟨x, -, rfl⟩ := Finset.mem_map.mp hy
      exact Finset.mem_product.mpr ⟨Finset.mem_univ _, Finset.mem_range.mpr (wrK_lt x.2)⟩
    have he : (bigSep ((Finset.univ : Finset (Dev nD × WrI)).map ⟨wrAt, wrAt_inj⟩) fun x => (writeTok ES x.1 (x.2 + 1) : sProp 𝕄)) = bigSep Finset.univ fun c : Dev nD => allWr c := by
      unfold allWr
      rw [bigSep_map, bigSep_univ_prod]
      exact deal wrE fun c i => writeTok ES (c, (wrK i).1) ((wrK i).2 + 1)
    rw [← he]
    exact BI.bigSep_subset hs
  iintro HX
  imod (slots_init (Es := Set.univ) ES (Finset.univ : Finset (Dev nD × Place)) 7 (placeOf (F := F))) $$ HX with ⟨%J, -, HI, HR, HW⟩
  imodintro
  ihave HW := hW $$ HW
  ihave HR := (Entails.of_eq (bigSep_univ_prod fun x : Dev nD × Place => (readerAt ES x 0 : sProp 𝕄))) $$ HR
  isplitl [HI]; · unfold slots; iexists J; iexact HI
  isplitl [HR]; · iexact HR
  iexact HW

/-- The ghost state dealt to the devices. -/
theorem fund_all : (ownU (u₀) : sProp 𝕄)
    ⊢ |={Set.univ}=> iprop(BI.own (EP (initOf (Pipeline.cells cfgs cellOf_inj) (Pipeline.launchToks cfgs cellOf_inj))) ∗ bigSep Finset.univ (G I)) := by
  unfold u₀
  iintro Hu
  ihave H := (ownU_pair _ _) $$ Hu
  icases H with ⟨HP, HX⟩
  ihave H := (own_pair_emb embR _ _) $$ HX
  icases H with ⟨HR, HS⟩
  imod (fund_cells I) $$ HR with ⟨Hst, Hre, Hpos, Htok⟩
  imod (fund_slots (F := F)) $$ HS with ⟨#HI, Hrd, Hwr⟩
  imodintro
  isplitl [HP]; · iexact HP
  unfold G lin
  simp only [bigSep_sep']
  isplitl [Hst]; · iexact Hst
  isplitl [Hre]; · iexact Hre
  isplitr
  · iapply (BI.bigSep_of_persistent Finset.univ (slots (F := F))); iexact HI
  isplitl [Hpos]; · iexact Hpos
  isplitl [Htok]; · iexact Htok
  isplitl [Hrd]; · iexact Hrd
  iexact Hwr

/-! ## The cells' invariants -/

/-- The kernel's own semaphores. -/
abbrev osem (i : RoleI) : SemLoc sig := semOf (roleAt i)

omit [FloatOps F] in
/-- The handshake's semaphore is the launch's. -/
theorem unscopedSems0_eq (c : Dev nD) : (unscopedSems0 c : sProp 𝕄) = semVal (cell c .bar) 0 := by
  unfold unscopedSems0; rw [bigSep_eq_bigSepL_of_eq [SemLoc.reg barS.sem] (by decide) (by decide)]; rfl

omit [FloatOps F] in
/-- All of a device's semaphores. -/
theorem sems_eq (c : Dev nD) :
    (bigSep Finset.univ fun κ : CellK => (semVal (cell c κ) 0 : sProp 𝕄)) = iprop(unscopedSems0 c ∗ Pipeline.ownSems0 osem c) := by
  rw [big_roles, unscopedSems0_eq]; rfl

/-- What a device has once its cells' invariants are there. -/
def core (c : Dev nD) : sProp 𝕄 :=
  iprop((bigSep Finset.univ fun κ : CellK => iprop(∃ n : ℕ, cellInv ER (sched I) n (cell c κ))) ∗ (bigSep Finset.univ fun κ : CellK => reached ER (cell c κ) 0) ∗ slots ∗ lin c)

theorem core_alloc (c : Dev nD) : iprop(Pipeline.ownSems0 osem c ∗ unscopedSems0 c ∗ G I c) ⊢ |={Set.univ}=> core I c := by
  unfold G core
  iintro ⟨Hos, Hus, Hst, Hre, Hs, Hl⟩
  ihave Hv := (Entails.of_eq (sems_eq (F := F) c).symm) $$ [Hos Hus]
  · isplitl [Hus] <;> iassumption
  imod (show iprop((bigSep Finset.univ fun κ : CellK => semVal (cell c κ) 0) ∗ bigSep Finset.univ fun κ : CellK => roundState ER (sched I) (cell c κ) 0)
      ⊢ (|={Set.univ}=> bigSep Finset.univ fun κ : CellK => iprop(∃ n : ℕ, cellInv ER (sched I) n (cell c κ)) : sProp 𝕄) from by
        rw [← bigSep_sep']
        exact (bigSep_mono fun κ _ => (Rounds.body_intro ER (sched I) (cell c κ)).trans inv_alloc).trans (bigSep_fupd _ _)) $$ [Hv Hst] with Hinv
  · isplitl [Hv] <;> iassumption
  imodintro
  isplitl [Hinv]; · iexact Hinv
  isplitl [Hre]; · iexact Hre
  isplitl [Hs]; · iexact Hs
  iexact Hl

/-- The facts without the levels. -/
def recs : sProp 𝕄 :=
  iprop(∃ (K : Dev nD × CellK → ℕ) (J : Dev nD × Place → ℕ), (bigSep Finset.univ fun x : Dev nD × CellK => cellInv ER (sched I) (K x) (cell x.1 x.2))
    ∗ (bigSep Finset.univ fun x : Dev nD × Place => slotInv ES (J x) x (placeOf x))
    ∗ (bigSep Finset.univ fun x : Dev nD × CellK => reached ER (cell x.1 x.2) 0))

instance recs_persistent : BI.Persistent (recs I) := by unfold recs; infer_instance

/-- With the levels, they are all the facts. -/
theorem ctx_intro : iprop(recs I ∗ levAts LL lvl) ⊢ ctx I := by
  unfold recs ctx facts
  iintro ⟨⟨%K, %J, H1, H2, H3⟩, H4⟩
  iexists K; iexists J
  isplitl [H1]; · iexact H1
  isplitl [H2]; · iexact H2
  isplitl [H3]; · iexact H3
  iexact H4

/-- What a device has once every device's invariants are there. -/
def G' (c : Dev nD) : sProp 𝕄 := iprop(recs I ∗ lin c)

theorem regroup : (bigSep Finset.univ fun c => core I c) ⊢ bigSep Finset.univ (G' I) := by
  unfold core G'
  simp only [bigSep_sep']
  iintro ⟨HI, HR, HS, HL⟩
  ihave HI := (Entails.of_eq (bigSep_univ_prod fun x : Dev nD × CellK => iprop(∃ n : ℕ, cellInv ER (sched I) n (cell x.1 x.2))).symm) $$ HI
  ihave HR := (Entails.of_eq (bigSep_univ_prod fun x : Dev nD × CellK => (reached ER (cell x.1 x.2) 0 : sProp 𝕄)).symm) $$ HR
  ihave HS := (show (bigSep Finset.univ fun _ : Dev nD => slots (F := F)) ⊢ slots from BI.bigSep_elim (Finset.mem_univ (0 : Dev nD))) $$ HS
  ihave HK := (BI.bigSep_exists_pi Finset.univ (fun (x : Dev nD × CellK) (n : ℕ) => (cellInv ER (sched I) n (cell x.1 x.2) : sProp 𝕄))) $$ HI
  icases HK with ⟨%K, HI⟩
  unfold slots
  icases HS with ⟨%J, HS⟩
  isplitl [HI HR HS]
  · iapply (BI.bigSep_of_persistent Finset.univ (recs I))
    unfold recs
    iexists K; iexists J
    isplitl [HI]; · iexact HI
    isplitl [HS]; · iexact HS
    iexact HR
  iexact HL

/-- Every cell's invariant made at once. -/
theorem glob : (bigSep Finset.univ fun c => iprop(Pipeline.ownSems0 osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

end Cert.KernelIdeal.Hand

end

end
-- ==== Proof.Launch.lean ====
module

public import proofs.«01_k».proof.Proof.Body
public import proofs.«01_k».proof.Proof.Ghost
public import proofs.«01_k».proof.Proof.Gen.KernelIdeal.Frame

/-! # The launch

From the devices' memories to a run of the whole program. -/

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Cert.KernelIdeal Cert.KernelIdeal.Gen

variable {F : FTy → Type} [FloatOps F]

local notation "𝕄" => MT nD τ sig ℕ (Elt F) ℕ UU ℕ

open Idealize.ShloMosaic.Pipeline (Dat BodyObligation)

variable (m : (ℓ : Loc nD τ sig) → Buf (Elt F) ℓ) (ρ : Dev nD → PrngReg)

/-! ## What a device starts from and what it leaves -/

/-- The blocks of the arguments the devices hold. -/
def inp : Inp F := ⟨fun c => iblk m c 0 t0_0, fun c => iblk m c 1 t0_0⟩

/-- What a device starts from, besides the kernel's own buffers. -/
def start (c : Dev nD) : sProp 𝕄 :=
  iprop(ctx (inp m) ∗ supply c ∗ (bigSep Finset.univ fun x : Place => readerAt ES (c, x) 0) ∗ held c yM)

/-- Before the one point of the grid. -/
def Φ₀ (c : Dev nD) : sProp 𝕄 := iprop(start m c ∗ scr c)

/-- After it: the result, and every semaphore at zero. -/
def Φ₁ (c : Dev nD) : sProp 𝕄 :=
  iprop(scr c ∗ own c yM fullShare (yOut (inp m) c) ∗ bigSep Finset.univ fun κ : CellK => semVal (cell c κ) 0)

/-- The proof data: both arguments are staged whole and left as they are. -/
def dats (_ : Fin 1) (c : Dev nD) : Dat τ (Elt F) ℕ ℕ UU ℕ cfg0 c where
  A w := (s₀ m ρ).mem ((cfg0.win w).arr.view.loc (c : Thread nD τ))
  after w t := match w with
    | ⟨0, _⟩ => iblk m c (0 : Fin 2) t
    | ⟨1, _⟩ => iblk m c (1 : Fin 2) t
  Φ t := match t with
    | ⟨0, _⟩ => Φ₀ m c
    | ⟨_ + 1, _⟩ => Φ₁ m c
  q _ := fullShare
  owed t := match t with
    | ⟨0, _⟩ => owedFrom 0 c
    | ⟨_ + 1, _⟩ => 0

omit [FloatOps F] in
/-- Owning a whole buffer. -/
theorem owns_whole_eq (c : Dev nD) (b : Ref sig .tc) (X : b.ty.Contents (Elt F)) :
    (own c (Memref.whole b) fullShare X : sProp 𝕄)
      = iprop(∃ f : Buf (Elt F) ((c : Thread nD τ).loc b), ⌜f = X⌝ ∗ (((c : Thread nD τ).loc b) ↦{fullShare} f)) := by
  unfold own owns; simp only [Memref.view_whole, View.read_whole, View.set_whole]

omit [FloatOps F] in
/-- A whole buffer at some contents. -/
theorem held_whole_eq (c : Dev nD) (b : Ref sig .tc) :
    (held c (Memref.whole b) : sProp 𝕄) = iprop(∃ f : Buf (Elt F) ((c : Thread nD τ).loc b), ((c : Thread nD τ).loc b) ↦{fullShare} f) := by
  have h1 : (held c (Memref.whole b) : sProp 𝕄) ⊢ iprop(∃ f : Buf (Elt F) ((c : Thread nD τ).loc b), ((c : Thread nD τ).loc b) ↦{fullShare} f) := by
    unfold held
    simp only [owns_whole_eq]
    iintro ⟨%X, %f, -, H⟩
    iexists f; iexact H
  have h2 : iprop(∃ f : Buf (Elt F) ((c : Thread nD τ).loc b), ((c : Thread nD τ).loc b) ↦{fullShare} f) ⊢ (held c (Memref.whole b) : sProp 𝕄) := by
    unfold held
    simp only [owns_whole_eq]
    iintro ⟨%f, H⟩
    iexists f; iexists f
    isplitr; · ipureintro; rfl
    iexact H
  exact h1.antisymm h2

/-! ## The body -/

theorem before_x (c : Dev nD) (d) : (dats m ρ 0 c).before (0 : Fin 2) t0_0 d = (inp m).x c := by
  unfold Dat.before
  rw [if_pos (fetch0_0 t0_0)]; rfl

theorem before_w (c : Dev nD) (d) : (dats m ρ 0 c).before (1 : Fin 2) t0_0 d = (inp m).w c := by
  unfold Dat.before
  rw [if_pos (fetch0_1 t0_0)]; rfl

omit [FloatOps F] in
/-- Nothing is owed at the end. -/
theorem due_end (c : Dev nD) : due (F := F) c (tm 18 0 0) ⊢ iprop(∃ W, owes (c : Thread nD τ) 0 W) := by
  unfold due
  rw [owedFrom_end c (t := tm 18 0 0) (by decide +kernel)]

/-- What the body is called with. -/
def bodyPre (c : Dev nD) : sProp 𝕄 :=
  iprop(Φ₀ m c ∗ (dats m ρ 0 c).owesAt 0 (Fin.castSucc t0_0)
    ∗ (∃ d, own c xM fullShare ((dats m ρ 0 c).before (0 : Fin 2) t0_0 d)) ∗ (∃ d, own c wM fullShare ((dats m ρ 0 c).before (1 : Fin 2) t0_0 d)))

/-- What it gives back. -/
def bodyPost (c : Dev nD) : sProp 𝕄 :=
  iprop(Φ₁ m c ∗ (dats m ρ 0 c).owesAt 0 (Fin.succ t0_0) ∗ own c xM fullShare ((inp m).x c) ∗ own c wM fullShare ((inp m).w c))

/-- The body at the grid's one point. -/
theorem body_triple (c : Dev nD) : bodyPre m ρ c ⊢ WP c (bodyAt0 (F := F) t0_0) fun _ => bodyPost m ρ c := by
  rw [body_eq]
  simp only [wp_deviceId]
  rw [printed_eq]
  unfold bodyPre bodyPost Φ₀ start Dat.owesAt Pipeline.owesWithin
  iintro ⟨⟨⟨#Hctx, Hsup, Hrd, Hy⟩, Hscr⟩, ⟨%W, -, HO⟩, ⟨%dx, Hx⟩, ⟨%dw, Hw⟩⟩
  ihave Hx := (Entails.of_eq (congrArg (own c xM fullShare) (before_x m ρ c dx))) $$ Hx
  ihave Hw := (Entails.of_eq (congrArg (own c wM fullShare) (before_w m ρ c dw))) $$ Hw
  iapply (body_spec (inp m)) $$ [Hsup Hrd Hy Hscr HO Hx Hw]
  · isplitr; · iexact Hctx
    isplitl [Hx Hw]
    · unfold args
      isplitl [Hx]
      · iexact Hx
      · iexact Hw
    isplitl [Hsup]; · iexact Hsup
    isplitl [Hrd]; · iexact Hrd
    isplitl [Hscr]; · iexact Hscr
    isplitl [Hy]; · iexact Hy
    unfold due
    iexists W; iexact HO
  unfold args
  iintro ⟨⟨Hx, Hw⟩, Hscr, Hy, Hz, HO⟩
  ihave HO := (due_end c) $$ HO
  icases HO with ⟨%W', HO⟩
  unfold Φ₁
  isplitl [Hscr Hy Hz]
  · isplitl [Hscr]; · iexact Hscr
    isplitl [Hy]; · iexact Hy
    iexact Hz
  isplitl [HO]
  · iexists W'
    isplitr; · ipureintro; exact fun _ _ => Or.inl trivial
    iexact HO
  isplitl [Hx]
  · iexact Hx
  · iexact Hw

/-- The body as the launch asks for it. -/
theorem body_obligation (c : Dev nD) : BodyObligation (dats (F := F) m ρ 0 c) (defs₀ (F := F)) 𝒱₀ 0 Set.univ := fun t => by
  have hrow : defs₀ (F := F) .tc cfg0.body (cfg0.bodyArgs t0_0 (cfg0.slots t0_0)) = bodyAt0 t0_0 := by unfold defs₀; rw [Defs.onTc_tc]
  rw [show t = t0_0 from fin_N0 t, bigSep_W0, bigSep_W0, hrow]
  exact triple_restated (body_triple m ρ c) rfl .rfl fun _ => .rfl

/-! ## The launch -/

set_option synthInstance.maxHeartbeats 400000 in
set_option synthInstance.maxSize 4096 in
theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts LL lvl
        ∗ Pipeline.launchCred (owedFrom 0) c ∗ prngReg c (ρ c) ∗ G' (inp m) c)
      ⊢ |={Set.univ}=> iprop(start m c ∗ emp) := by
  rw [Pipeline.unscopedRestP_none, show Pipeline.unscopedRest (Ix := ℕ) (Name := ℕ) (U := UU) (Lvl := ℕ) (Val := Elt F) (nD := nD) (τ := τ) cfg0.spec c (fun b => m ((c : Thread nD τ).loc b)) = _ from unscopedRest0_eq c _]
  unfold G' lin start
  iintro ⟨Hy, Hlev, Hcr, -, Hrec, Hpos, Htok, Hrd, Hwr⟩
  ihave Hc := (allCred_intro (F := F) c) $$ Hcr
  ihave Hs := (supply_intro (F := F) c) $$ [Hpos Htok Hwr Hc]
  · isplitl [Hpos]; · iexact Hpos
    isplitl [Htok]; · iexact Htok
    isplitl [Hwr]; · iexact Hwr
    iexact Hc
  imodintro
  isplitl
  · isplitl [Hrec Hlev]
    · iapply (ctx_intro (inp m))
      isplitl [Hrec]; · iexact Hrec
      iexact Hlev
    isplitl [Hs]; · iexact Hs
    isplitl [Hrd]; · iexact Hrd
    iapply (Entails.of_eq (held_whole_eq (F := F) c main_v1).symm)
    iexists _; iexact Hy
  · iempintro

omit [FloatOps F] in
/-- The kernel's own buffers are those the launch lends. -/
theorem scr_eq (c : Dev nD) : (Pipeline.scopedRest cfg0.spec c : sProp 𝕄) = scr c := by
  rw [show (Pipeline.scopedRest cfg0.spec c : sProp 𝕄) = _ from scopedRest0_eq c]
  simp only [← held_whole_eq]
  have h1 : iprop(held (F := F) c (Memref.whole cc0_scratch0) ∗ held c (Memref.whole cc0_scratch1) ∗ held c (Memref.whole cc0_scratch2) ∗ held c (Memref.whole cc0_scratch3)
    ∗ held c (Memref.whole cc0_scratch4) ∗ held c (Memref.whole cc0_scratch5) ∗ held c (Memref.whole cc0_scratch6) ∗ held c (Memref.whole cc0_scratch7)) ⊢ scr c := by
    unfold scr
    iintro ⟨H0, H1, H2, H3, H4, H5, H6, H7⟩
    isplitl [H0 H1]
    · isplitl [H0]
      · iexact H0
      · iexact H1
    isplitl [H2 H3]
    · isplitl [H2]
      · iexact H2
      · iexact H3
    isplitl [H4 H5]
    · isplitl [H4]
      · iexact H4
      · iexact H5
    isplitl [H6]
    · iexact H6
    · iexact H7
  have h2 : scr c ⊢ iprop(held (F := F) c (Memref.whole cc0_scratch0) ∗ held c (Memref.whole cc0_scratch1) ∗ held c (Memref.whole cc0_scratch2) ∗ held c (Memref.whole cc0_scratch3)
    ∗ held c (Memref.whole cc0_scratch4) ∗ held c (Memref.whole cc0_scratch5) ∗ held c (Memref.whole cc0_scratch6) ∗ held c (Memref.whole cc0_scratch7)) := by
    unfold scr
    iintro ⟨⟨H0, H1⟩, ⟨H2, H3⟩, ⟨H4, H5⟩, H6, H7⟩
    isplitl [H0]; · iexact H0
    isplitl [H1]; · iexact H1
    isplitl [H2]; · iexact H2
    isplitl [H3]; · iexact H3
    isplitl [H4]; · iexact H4
    isplitl [H5]; · iexact H5
    isplitl [H6]
    · iexact H6
    · iexact H7
  exact h1.antisymm h2

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs]; · iexact Hs
  iexact Hr

theorem phi1_exit (c : Dev nD) :
    (dats m ρ 0 c).Φ (Fin.last cfg0.N)
      ⊢ iprop((unscopedSems0 c ∗ own c yM fullShare (yOut (inp m) c)) ∗ Pipeline.ownSems0 osem c ∗ Pipeline.scopedRest cfg0.spec c) := by
  rw [show (dats m ρ 0 c).Φ (Fin.last cfg0.N) = Φ₁ m c from rfl, scr_eq]
  unfold Φ₁
  iintro ⟨Hr, Hy, Hz⟩
  ihave Hz := (Entails.of_eq (sems_eq (F := F) c)) $$ Hz
  icases Hz with ⟨Hu, Ho⟩
  isplitl [Hu Hy]
  · isplitl [Hu]; · iexact Hu
    iexact Hy
  isplitl [Ho]; · iexact Ho
  iexact Hr

theorem waits (c : Dev nD) : (levAts LL lvl : sProp 𝕄) ⊢ Pipeline.cellsWaits cfgs (dats m ρ) 0 0 c :=
  Pipeline.cellsWaits_intro cfgs (dats m ρ) 0 0 c fun w s t => by
    rcases t with ⟨_ | _, ht⟩
    · exact may_wait c _ (by decide) fun o _ => lev_pos o
    · show _ ⊢ MayWait _ _ _ 0
      rw [MayWait_zero]
      iintro -
      iempintro

/-! ## The run -/

/-- What a run leaves on every device: the arguments as they were, and the result. -/
def Ends (r : PUnit × MemSt nD τ sig (Elt F)) : Prop :=
  ∀ c : Dev nD, r.2.mem ((c.tc : Thread nD τ).loc main_v1) = yOut (inp m) c
    ∧ r.2.mem ((c.tc : Thread nD τ).loc main_arg0) = m ((c.tc : Thread nD τ).loc main_arg0)
    ∧ r.2.mem ((c.tc : Thread nD τ).loc main_arg1) = m ((c.tc : Thread nD τ).loc main_arg1)

omit [FloatOps F] in
/-- The program is the one launch. -/
theorem main_eq (c : Dev nD) : main (F := F) c = .op (.customCall (Pipeline.entry (0 : Fin 1)) ()) fun _ => .ret ⟨⟩ := rfl

set_option maxRecDepth 20000 in
set_option synthInstance.maxHeartbeats 400000 in
set_option synthInstance.maxSize 4096 in
/-- From any memory with zero counters, every fair execution of the eight devices' program ends, leaves the
    arguments as they were and the result as computed, and every semaphore at zero. -/
theorem run_main : θ_run defs (onTc (τ := τ) (main (F := F))) ⟨m, fun _ => 0, ρ⟩ (fun r => Ends m r ∧ r.2.sem = fun _ => 0) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := main_eq)
    (hbody := fun c => (body_obligation m ρ c).loose) (hne := fun w => by fin_cases w <;> exact Nat.succ_pos _) (harr := arr_whole0) (hstage := stage_whole0) (hshare := share_eq m ρ)
    (hdistinct := winFacts0.arr_inj)
    (O₀ := owedFrom 0) (howed₀ := fun _ => rfl) (howedN := fun _ => rfl)
    (L := LL) (lv := lvl) (hL := LL_of_ne) (hwaits := waits m ρ)
    (G := G (inp m)) (G' := G' (inp m)) (u₀ := u₀)
    (hu₀ := fund_all (inp m))
    (hglob := glob (inp m))
    (hA := fun _ _ => rfl) (hpf := fun _ k => k.elim0)
    (X := start m) (Y := fun c => iprop(unscopedSems0 c ∗ own c yM fullShare (yOut (inp m) c))) (Z := fun _ => iprop(emp))
    (hX := start_intro m ρ) (hin := phi0_intro m ρ) (hout := phi1_exit m ρ)
    (QY := fun c s => s.mem ((c.tc : Thread nD τ).loc main_v1) = yOut (inp m) c ∧ ∀ sm : SemLoc sig, sm.isScoped .tc = false → s.sem ((c.tc : Thread nD τ), sm) = 0)
    (hY := fun c s' => by
      rw [show (own c yM fullShare (yOut (inp m) c) : sProp 𝕄) = _ from owns_whole_eq c main_v1 _]
      iintro ⟨⟨Hu, %f, %hf, Hy⟩, -, HSI⟩
      subst hf
      icombine HSI Hy gives %h
      imod (Pipeline.unscopedSems0_read (X := unscopedSems0 c) (c := c) fupd_intro s') $$ [Hu HSI] with ⟨%hs, HSI⟩
      · isplitl [Hu] <;> iassumption
      imodintro
      isplitr; · ipureintro; exact ⟨Buf.eq_of_forall_mem_univ h, hs⟩
      iexact HSI)
    (hQ := fun _ h hs => ⟨fun c => ⟨(h c).2.2.1, ((h c).1 0).trans ((dats (F := F) m ρ 0 c).arrAt_in (0 : Fin 2) rfl _),
      ((h c).1 1).trans ((dats (F := F) m ρ 0 c).arrAt_in (1 : Fin 2) rfl _)⟩, sem_eq_zero hs fun c => (h c).2.2.2⟩)

end Cert.KernelIdeal.Hand

end

end
-- ==== Proof.Words.lean ====
module

public import proofs.«01_k».proof.Proof.Prog
public import proofs.«01_k».proof.Proof.Gen.Kernel.Frame

/-! # The program on words

The program printed for words and the one printed for extended reals have the same text. -/

@[expose] public section

noncomputable section

namespace Cert.KernelIdeal.Hand

open Idealize.ShloMosaic Idealize.ShloMosaic.TcCoe
open Cert.KernelIdeal Cert.KernelIdeal.Gen

variable {F : FTy → Type} [FloatOps F]

set_option maxRecDepth 65536 in
set_option maxHeartbeats 0 in
/-- The body printed for words requests the same effects as the other's loops. -/
theorem word_body_eq :
    Cert.Kernel.Gen.bodyAt0 (F := F) Cert.Kernel.Gen.t0_0 = (.op .deviceId fun d => body (printed d)) := by
  refine op_congr rfl fun d => ?_
  repeat (refine op_congr (by rfl) fun _ => ?_)
  rfl

/-- The two body tables are the same. -/
theorem word_table : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) =>
    obtain rfl : t = Cert.Kernel.Gen.t0_0 := Cert.Kernel.Gen.fin_N0 t
    exact (word_body_eq (F := F)).trans (body_eq (F := F)).symm
  | ⟨_ + 1, h⟩, _ => exact absurd h (Nat.not_lt.2 (Nat.le_add_left _ _))

/-- The two programs' definitions are the same. -/
theorem word_defs : Cert.Kernel.defs (F := F) = Cert.KernelIdeal.defs (F := F) := congrArg (Pipeline.defs Cert.KernelIdeal.pcfgs) word_table

end Cert.KernelIdeal.Hand

end

end
-- ==== Proof.Quantiser.lean ====
module

public import Idealize.ShloMosaic.PureOps.Ideal.Laws

/-! # The two quantisers on extended reals

The kernel multiplies by `448 / a` and then by `a / 448`, where `a` is the largest value but at least a small
constant. The reference divides by `m / 448`, clips to `±448` and multiplies by `m / 448`, where `m` is the largest
value. On extended reals the two give the same result for every value not above the largest one. -/

@[expose] public section

noncomputable section

namespace Cert.Quantiser

open Idealize.ShloMosaic

/-- The largest number of the eight-bit format. -/
theorem word_448 : Ideal.ofBits .f32 0x43E00000#32 = ((448 : ℝ) : EReal) := by
  simp [Ideal.ofBits, Ideal.ieee, -EReal.coe_mul]; norm_num

/-- Its negative. -/
theorem word_neg448 : Ideal.ofBits .f32 0xC3E00000#32 = ((-448 : ℝ) : EReal) := by
  simp [Ideal.ofBits, Ideal.ieee, -EReal.coe_mul]; norm_num

/-- The kernel's small constant is a positive real. -/
theorem word_small : ∃ t : ℝ, 0 < t ∧ Ideal.ofBits .f32 0x0DA24260#32 = (t : EReal) := by
  refine ⟨_, ?_, by simp [Ideal.ofBits, Ideal.ieee, -EReal.coe_mul]; rfl⟩
  positivity

/-- A quotient of reals is the reals' quotient. -/
theorem div_real (x : ℝ) {y : ℝ} (h : y ≠ 0) : Ideal.div (x : EReal) (y : EReal) = ((x / y : ℝ) : EReal) := by
  rw [Ideal.div_coe h, ← EReal.coe_mul, mul_one_div]

/-- The larger of two reals, as an extended real. -/
theorem real_max (x y : ℝ) : ((max x y : ℝ) : EReal) = max (x : EReal) (y : EReal) := EReal.coe_strictMono.monotone.map_max

/-- The smaller of two reals, as an extended real. -/
theorem real_min (x y : ℝ) : ((min x y : ℝ) : EReal) = min (x : EReal) (y : EReal) := EReal.coe_strictMono.monotone.map_min

/-- The kernel's quantiser at the value `y`, the largest value being `m`. -/
def kernel (m y : EReal) : EReal :=
  max y 0 * Ideal.div (Ideal.ofBits .f32 0x43E00000#32) (max m (Ideal.ofBits .f32 0x0DA24260#32))
    * Ideal.div (max m (Ideal.ofBits .f32 0x0DA24260#32)) (Ideal.ofBits .f32 0x43E00000#32)

/-- The reference's quantiser. -/
def plain (m y : EReal) : EReal :=
  min (Ideal.ofBits .f32 0x43E00000#32)
      (max (Ideal.ofBits .f32 0xC3E00000#32) (Ideal.div (max y 0) (Ideal.div m (Ideal.ofBits .f32 0x43E00000#32))))
    * Ideal.div m (Ideal.ofBits .f32 0x43E00000#32)

/-- Where the largest value is a positive real, the kernel's quantiser keeps a real. -/
theorem kernel_real (R : ℝ) {M : ℝ} : kernel (M : EReal) (R : EReal) = ((max R 0 : ℝ) : EReal) := by
  obtain ⟨t, ht, e⟩ := word_small
  have ha : max M t ≠ 0 := (lt_of_lt_of_le ht (le_max_right M t)).ne'
  have e0 : max (R : EReal) 0 = ((max R 0 : ℝ) : EReal) := (real_max R 0).symm
  unfold kernel
  rw [e, word_448, e0, ← real_max, div_real _ ha, div_real _ (by norm_num), ← EReal.coe_mul, ← EReal.coe_mul]
  congr 1
  field_simp

/-- Where the largest value is a positive real, the reference's quantiser keeps a real below it. -/
theorem plain_real {R M : ℝ} (hM : 0 < M) (h : max R 0 ≤ M) : plain (M : EReal) (R : EReal) = ((max R 0 : ℝ) : EReal) := by
  have e0 : max (R : EReal) 0 = ((max R 0 : ℝ) : EReal) := (real_max R 0).symm
  have hs : 0 < M / 448 := by positivity
  have h0 : 0 ≤ max R 0 / (M / 448) := div_nonneg (le_max_right _ _) hs.le
  have h1 : max R 0 / (M / 448) ≤ 448 := by rw [div_le_iff₀ hs]; linarith
  unfold plain
  rw [word_448, word_neg448, e0, div_real _ (by norm_num), div_real _ hs.ne', ← real_max, ← real_min,
    max_eq_right (by linarith), min_eq_right h1, ← EReal.coe_mul, div_mul_cancel₀ _ hs.ne']

/-- The two quantisers agree at every value not above the largest one. -/
theorem kernel_eq_plain {m y : EReal} (h0 : 0 ≤ m) (hy : y ≤ m) : kernel m y = plain m y := by
  have hr : max y 0 ≤ m := max_le hy h0
  have hr0 : 0 ≤ max y 0 := le_max_right _ _
  induction m with
  | bot => exact absurd h0 (by simp)
  | top =>
    obtain ⟨t, ht, e⟩ := word_small
    have e1 : Ideal.div ⊤ ((448 : ℝ) : EReal) = ⊤ := by
      rw [Ideal.div_coe (by norm_num)]; exact EReal.top_mul_coe_of_pos (by norm_num)
    have e2 : ∀ x : EReal, Ideal.div x ⊤ = 0 := fun x => by unfold Ideal.div; simp
    unfold kernel plain
    rw [e, word_448, word_neg448, max_eq_left le_top, e1, e2, e2]
    have e3 : min ((448 : ℝ) : EReal) (max ((-448 : ℝ) : EReal) 0) = 0 := by
      rw [max_eq_right (by exact_mod_cast (by norm_num : (-448 : ℝ) ≤ 0)), min_eq_right (by exact_mod_cast (by norm_num : (0 : ℝ) ≤ 448))]
    rw [e3, mul_zero, zero_mul]
  | coe M =>
    rcases (EReal.coe_nonneg.mp h0).lt_or_eq with hM | hM
    · induction y with
      | top => exact absurd hy (by simp)
      | bot =>
        have e : ∀ z, kernel z ⊥ = kernel z ((0 : ℝ) : EReal) ∧ plain z ⊥ = plain z ((0 : ℝ) : EReal) := fun z => by
          unfold kernel plain; simp
        rw [(e _).1, (e _).2, kernel_real, plain_real hM (by rw [max_self]; exact hM.le)]
      | coe R =>
        rw [kernel_real, plain_real hM (max_le (EReal.coe_le_coe_iff.mp hy) hM.le)]
    · subst hM
      have e : max y 0 = 0 := le_antisymm hr hr0
      unfold kernel plain
      rw [e, word_448, div_real _ (by norm_num)]
      simp

/-- The least extended real, as the reductions start from it. -/
theorem word_least : Ideal.ofBits .f32 0xFF800000#32 = ⊥ := by simp [Ideal.ofBits, Ideal.ieee]

/-- A bound on the maximum over a whole vector bounds every entry. -/
theorem reduce_le {s t : Shape} {axes : List (Fin s.rank)} (v : FVec Ideal s .f32) (h : s.Reduces axes t)
    (hφ : FKind.Formats .f32) (hacc : (0xFF800000#32 : BitVec 32) = FKind.maximumf.neutral .f32 hφ) (ht : ∀ b, t.size b = 1) (j : t.Idx) (z : EReal) :
    multiReduction .maximumf axes t v 0xFF800000#32 h hφ hacc j ≤ z ↔ ∀ i, v i ≤ z := by
  have hj : ∀ i, h.drop i = j := fun i => funext fun b => Fin.ext (by
    have := (h.drop i b).isLt; have := (j b).isLt; have := ht b; omega)
  rw [multiReduction_maximumf_eq_fold]
  refine (Finset.fold_max_le z).trans ?_
  rw [show FloatOps.ofBits (F := Ideal) .f32 0xFF800000#32 = ⊥ from word_least]
  exact ⟨fun H i => H.2 i (Finset.mem_filter.mpr ⟨Finset.mem_univ _, hj i⟩), fun H => ⟨bot_le, fun i _ => H i⟩⟩

/-- Reshaping keeps the entries, so it keeps their bounds. -/
theorem reshape_le {s t : Shape} (v : FVec Ideal s .f32) (h : s.ShapeCasts t) (z : EReal) :
    (∀ i, shapeCast t v h i ≤ z) ↔ ∀ i, v i ≤ z :=
  ⟨fun H i => by
    have e := H ((Shape.reshapeEquiv h).symm i)
    unfold shapeCast at e
    rwa [Equiv.apply_symm_apply] at e, fun H i => H _⟩

end Cert.Quantiser

end

end
-- ==== Proof.Totals.lean ====
module

public import proofs.«01_k».proof.Proof.Mem
public import proofs.«01_k».proof.Proof.Quantiser
public import Idealize.ShloMosaic.Lib.MatmulPlain
public import Idealize.ShloMosaic.Lib.Layout

/-! # The kernel's result on extended reals

Where the devices hold the blocks of two whole arrays, every finished sum is a block of the whole product, the
maximum of every device is the largest entry of that product or zero, and the result is the product quantised by it. -/

@[expose] public section

noncomputable section

namespace Cert.KernelIdeal.Hand

open Idealize.ShloMosaic Idealize.ShloMosaic.ValueIdx Cert.KernelIdeal Cert.KernelIdeal.Gen
open scoped BigOperators

/-! ## One entry of a quantised half -/

/-- A quantised half, entry by entry, over any float values. -/
theorem pay63_entry {F : FTy → Type} [FloatOps F] (a b : F .f32) (V : Vec F S512x512 .f32) (j : S512x512.Idx) :
    k0_pay63 a b V j = FloatOps.mulf (FloatOps.extf .f32 bitsLt_fp8e4m3_f32 (FloatOps.truncf .fp8e4m3 bitsLt_fp8e4m3_f32
      (FloatOps.mulf (FloatOps.maximumf (V j) (FloatOps.ofBits .f32 0x00000000#32)) a))) b := by
  unfold k0_pay63 shapeCast
  rw [Shape.reshapeEquiv_self]
  rfl

/-- On extended reals the two conversions change nothing. -/
theorem entry_ideal (x z a b : Ideal .f32) :
    FloatOps.mulf (FloatOps.extf .f32 bitsLt_fp8e4m3_f32 (FloatOps.truncf (F := Ideal) .fp8e4m3 bitsLt_fp8e4m3_f32
      (FloatOps.mulf (FloatOps.maximumf x z) a))) b = (max x z * a * b : EReal) := rfl

/-- A constant on extended reals. -/
theorem word_ideal (w : BitVec 32) : Scalar.ofBits (F := Ideal) .f32 w = Ideal.ofBits .f32 w := rfl

/-- The kernel's factor and step on extended reals make its quantiser. -/
theorem pay63_ideal (m : EReal) (V : Vec Ideal S512x512 .f32) (j : S512x512.Idx) :
    k0_pay63 (F := Ideal) (invOf (F := Ideal) m) (sclOf (F := Ideal) m) V j = Cert.Quantiser.kernel m (V j) := by
  rw [pay63_entry, show FloatOps.ofBits (F := Ideal) .f32 0x00000000#32 = 0 from Ideal.ofBits_zero_f32, entry_ideal]
  unfold Cert.Quantiser.kernel invOf sclOf amaxOf
  rw [Ideal.scalar_divf_def, Ideal.scalar_divf_def, Ideal.scalar_maximumf_def, word_ideal, word_ideal]

/-! ## The product -/

section Sums

variable (I : Inp Ideal)

/-- An entry of the product one device contributes. -/
theorem prodV_at (c : Dev nD) (g : Fin 2) (r : Fin 8) (a : Fin 512) (b : Fin 1024) :
    prodV I c g r (ix2 a b) = ∑ q : Fin 512, xv (I.x c) r (ix2 a q) * wv (I.w c) g (ix2 q b) := by
  unfold prodV k0_pay1 shapeCast
  simp only [Shape.reshapeEquiv_self]
  refine (Ideal.matmul_plain_apply (M := 512) (K := 512) (N := 1024) _ _ _ _ a b).trans ?_
  rw [show constant (F := Ideal) S512x1024 .f32 0x00000000#32 (ix2 a b) = 0 from Ideal.ofBits_zero_f32, zero_add]

/-- The sum before step `s` has the contributions of the `s + 1` last devices, all to one row block. -/
theorem accV_sum (g k : Fin 2) (j : S512x512.Idx) (s : ℕ) (c : Dev nD) :
    accV I c g k s j = ∑ i ∈ Finset.range (s + 1), half k (prodV I ((prv g)^[i] c) g (row g s c)) j := by
  induction s generalizing c with
  | zero => rw [accV, Finset.sum_range_one]; rfl
  | succ s ih =>
    rw [Finset.sum_range_succ', accV]
    refine congrArg (· + _) ((ih (prv g c)).trans ?_)
    simp only [row_prv, Function.iterate_succ_apply]

/-- Going back along a ring meets every device once. -/
theorem round_trip : ∀ (g : Fin 2) (c : Dev nD), Function.Injective fun i : Fin 8 => (prv g)^[i.val] c := by decide

/-- A finished sum has every device's contribution. -/
theorem accV_all (g k : Fin 2) (j : S512x512.Idx) (c : Dev nD) :
    accV I c g k 7 j = ∑ d : Fin 8, half k (prodV I d g (row g 7 c)) j := by
  rw [accV_sum, Finset.sum_range]
  exact Function.Bijective.sum_comp (Finite.injective_iff_bijective.mp (round_trip g c)) fun d : Fin 8 => half k (prodV I d g (row g 7 c)) j

theorem row_owner (g : Fin 2) (r : Fin 8) : row g 7 (owner g r) = r := by revert g r; decide

variable (X : (⟨2, ![4096, 4096]⟩ : Shape).Idx → EReal) (W : S4096x2048.Idx → EReal)

/-- An entry of the whole product. -/
def prodAt (i : S4096x2048.Idx) : EReal := ∑ q : Fin 4096, X (ix2 (i 0) q) * W (ix2 q (i 1))

/-- Every device holds its blocks of the two arrays. -/
def Holds : Prop :=
  ∀ c : Dev nD, I.x c = Layout.block ⟨2, ![4096, 512]⟩ ⟨2, ![4096, 4096]⟩ 1 8 c X ∧ I.w c = Layout.block ⟨2, ![512, 2048]⟩ ⟨2, ![4096, 2048]⟩ 0 8 c W

variable {I X W} (h : Holds I X W)
include h

/-- A finished sum is a block of the whole product. -/
theorem accV_total (r : Fin 8) (g k : Fin 2) (j : S512x512.Idx) :
    accV I (owner g r) g k 7 j = prodAt X W ((yP (r, g, k)).emb j) := by
  obtain ⟨a, b, rfl⟩ : ∃ a b, j = ix2 a b := ⟨_, _, eq_ix2 j⟩
  have hb : 512 * k.val + b.val < 1024 := by omega
  have hj : (accR k).emb (ix2 a b) = ix2 (n0 := 512) (n1 := 1024) a ⟨512 * k.val + b.val, hb⟩ := by
    funext t; apply Fin.ext
    match t with
    | ⟨0, _⟩ => show 0 + 1 * a.val = a.val; omega
    | ⟨1, _⟩ => show 512 * k.val + 1 * b.val = 512 * k.val + b.val; omega
  rw [accV_all, row_owner]
  unfold half prodAt
  simp only [hj, prodV_at]
  rw [← Equiv.sum_comp (finProdFinEquiv (m := 8) (n := 512)), Fintype.sum_prod_type]
  refine Finset.sum_congr rfl fun d _ => Finset.sum_congr rfl fun q _ => ?_
  unfold xv wv
  rw [(h d).1, (h d).2, Layout.block_apply, Layout.block_apply]
  refine congrArg₂ (fun u v => X u * W v) (funext fun t => Fin.ext ?_) (funext fun t => Fin.ext ?_)
  · match t with
    | ⟨0, _⟩ => show 512 * r.val + 1 * a.val = 512 * r.val + 1 * a.val; rfl
    | ⟨1, _⟩ => show d.val * 512 + (0 + 1 * q.val) = q.val + 512 * d.val; omega
  · match t with
    | ⟨0, _⟩ => show d.val * 512 + (0 + 1 * q.val) = q.val + 512 * d.val; omega
    | ⟨1, _⟩ => show 1024 * g.val + 1 * (512 * k.val + b.val) = 1024 * g.val + 512 * k.val + 1 * b.val; omega

/-! ## The maximum -/

omit h in
/-- A bound on the running maximum. -/
theorem pay54_le (m : EReal) (V : Vec Ideal S512x512 .f32) (z : EReal) : k0_pay54 (F := Ideal) m V ≤ z ↔ m ≤ z ∧ ∀ j, V j ≤ z := by
  unfold k0_pay54
  refine max_le_iff.trans (and_congr_right fun _ => ?_)
  exact (Cert.Quantiser.reduce_le _ _ (.inl rfl) rfl (by decide) _ z).trans (Cert.Quantiser.reshape_le _ _ z)

omit h in
/-- A bound on a device's own maximum. -/
theorem mS_own (c : Dev nD) (z : EReal) : mS I 0 c ≤ z ↔ 0 ≤ z ∧ ∀ (g k : Fin 2) (j : S512x512.Idx), accV I c g k 7 j ≤ z := by
  unfold mS maxV
  rw [pay54_le, pay54_le, pay54_le, pay54_le, show Scalar.ofBits (F := Ideal) .f32 0x00000000#32 = (0 : EReal) from Ideal.ofBits_zero_f32]
  constructor
  · rintro ⟨⟨⟨⟨h0, h1⟩, h2⟩, h3⟩, h4⟩
    refine ⟨h0, fun g k => ?_⟩
    fin_cases g <;> fin_cases k
    · exact h1
    · exact h3
    · exact h2
    · exact h4
  · exact fun H => ⟨⟨⟨⟨H.1, H.2 0 0⟩, H.2 1 0⟩, H.2 0 1⟩, H.2 1 1⟩

omit h in
/-- A bound on the maximum after an exchange bounds both partners' before it. -/
theorem mS_step (p : Fin 3) (c : Dev nD) (z : EReal) : mS I (p.val + 1) c ≤ z ↔ mS I p.val c ≤ z ∧ mS I p.val (mate p c) ≤ z := by
  rw [mS, show (⟨p.val % 3, Nat.mod_lt _ (by decide)⟩ : Fin 3) = p from Fin.ext (Nat.mod_eq_of_lt p.isLt)]
  exact max_le_iff

omit h in
/-- Three exchanges reach every device. -/
theorem mates_all : ∀ c d : Dev nD, d = c ∨ d = mate 0 c ∨ d = mate 1 c ∨ d = mate 0 (mate 1 c)
    ∨ d = mate 2 c ∨ d = mate 0 (mate 2 c) ∨ d = mate 1 (mate 2 c) ∨ d = mate 0 (mate 1 (mate 2 c)) := by decide

omit h in
/-- A bound on the last maximum bounds every device's own. -/
theorem mF_own (c : Dev nD) (z : EReal) : mF I c ≤ z ↔ ∀ d, mS I 0 d ≤ z := by
  unfold mF
  have s0 := fun c => mS_step (I := I) 0 c z
  have s1 := fun c => mS_step (I := I) 1 c z
  have s2 := fun c => mS_step (I := I) 2 c z
  constructor
  · intro H d
    have h3 := (s2 c).mp H
    have a := (s1 _).mp h3.1
    have b := (s1 _).mp h3.2
    have a1 := (s0 _).mp a.1
    have a2 := (s0 _).mp a.2
    have b1 := (s0 _).mp b.1
    have b2 := (s0 _).mp b.2
    rcases mates_all c d with e | e | e | e | e | e | e | e <;> subst e
    · exact a1.1
    · exact a1.2
    · exact a2.1
    · exact a2.2
    · exact b1.1
    · exact b1.2
    · exact b2.1
    · exact b2.2
  · intro H
    exact (s2 c).mpr ⟨(s1 _).mpr ⟨(s0 _).mpr ⟨H _, H _⟩, (s0 _).mpr ⟨H _, H _⟩⟩, (s1 _).mpr ⟨(s0 _).mpr ⟨H _, H _⟩, (s0 _).mpr ⟨H _, H _⟩⟩⟩

omit h in
/-- Every entry of the result lies in one of its blocks. -/
theorem yP_at (i : S4096x2048.Idx) : ∃ (t : Fin 8 × Fin 2 × Fin 2) (j : S512x512.Idx), (yP t).emb j = i := by
  obtain ⟨t, -, ht⟩ := Finset.mem_biUnion.mp (yP_cover ▸ Finset.mem_univ i)
  obtain ⟨j, -, hj⟩ := Finset.mem_map.mp ((yP t).map_emb_univ ▸ ht)
  exact ⟨t, j, hj⟩

/-- The maximum every device quantises by is the largest entry of the whole product, or zero. -/
theorem mF_total (c : Dev nD) (z : EReal) : mF I c ≤ z ↔ 0 ≤ z ∧ ∀ i, prodAt X W i ≤ z := by
  rw [mF_own]
  simp only [mS_own]
  constructor
  · refine fun H => ⟨(H c).1, fun i => ?_⟩
    obtain ⟨⟨r, g, k⟩, j, rfl⟩ := yP_at i
    rw [← accV_total h]
    exact (H _).2 g k j
  · refine fun H d => ⟨H.1, fun g k j => ?_⟩
    rw [← owner_row g d, accV_total h]
    exact H.2 _

/-! ## The result -/

/-- Every device's result is the whole product quantised by any such maximum. -/
theorem yOut_total (c : Dev nD) {m : EReal} (hm : ∀ z, m ≤ z ↔ 0 ≤ z ∧ ∀ i, prodAt X W i ≤ z) (i : S4096x2048.Idx) :
    yOut I c i = Cert.Quantiser.plain m (prodAt X W i) := by
  have e : mF I c = m := eq_of_forall_ge_iff fun z => (mF_total h c z).trans (hm z).symm
  have hb := (hm m).mp le_rfl
  obtain ⟨⟨r, g, k⟩, j, rfl⟩ := yP_at i
  refine (glue_at (α := Ideal .f32) yP yP_disj (fun t => yV I c t.1 t.2.1 t.2.2) (r, g, k) j).trans ?_
  show quantV I c (accV I (owner g r) g k 7) j = _
  unfold quantV
  rw [pay63_ideal, accV_total h, e]
  exact Cert.Quantiser.kernel_eq_plain hb.1 (hb.2 _)

end Sums

end Cert.KernelIdeal.Hand

end

end
-- ==== Proof.Reference.lean ====
module

public import proofs.«01_k».proof.Proof.Gen.ReferenceIdeal.Value
public import proofs.«01_k».proof.Proof.Quantiser
public import Idealize.ShloMosaic.Lib.StackMember

/-! # The reference's result on extended reals

The one device's product of the whole arrays, quantised by its largest entry or zero. -/

@[expose] public section

noncomputable section

namespace Cert.ReferenceIdeal.Hand

open Idealize.ShloMosaic Idealize.ShloMosaic.TcCoe Idealize.ShloMosaic.ValueIdx Idealize.SL.Sem
open Cert.ReferenceIdeal Cert.ReferenceIdeal.Gen
open scoped BigOperators

/-! ## The quantising kernel's payload -/

/-- The largest magnitude of the positive parts. -/
def top {F : FTy → Type} [FloatOps F] (v : Vec F S4096x2048 .f32) : F .f32 :=
  extractAt ![0, 0, 0] (shapeCast S1x1x1 (multiReduction .maximumf [1, 2] S1
    (shapeCast S1x4096x2048 (absf (maximumf v (broadcast S4096x2048 (Scalar.ofBits .f32 0x00000000#32)))) shapeCasts_S4096x2048_S1x4096x2048)
    0xFF800000#32 reduces_S1x4096x2048_S1 (.inl rfl) rfl) shapeCasts_S1_S1x1x1) inpos_S1x1x1_p0_0_0

/-- The payload, entry by entry, over any float values. -/
theorem pay1_entry {F : FTy → Type} [FloatOps F] (v : Vec F S4096x2048 .f32) (i : S4096x2048.Idx) :
    k0_pay1 v i = FloatOps.mulf (FloatOps.extf .f32 bitsLt_fp8e4m3_f32 (FloatOps.truncf .fp8e4m3 bitsLt_fp8e4m3_f32
      (FloatOps.minimumf (Scalar.ofBits .f32 0x43E00000#32) (FloatOps.maximumf (Scalar.ofBits .f32 0xC3E00000#32)
        (FloatOps.divf (FloatOps.maximumf (v i) (Scalar.ofBits .f32 0x00000000#32)) (Scalar.divf (top v) (Scalar.ofBits .f32 0x43E00000#32)))))))
      (Scalar.divf (top v) (Scalar.ofBits .f32 0x43E00000#32)) := by
  have e : shapeCast S4096x2048 v shapeCasts_S4096x2048_S4096x2048 = v := by
    unfold shapeCast; funext j; rw [Shape.reshapeEquiv_self]
  unfold k0_pay1 top
  rw [e]
  rfl

/-- On extended reals the two conversions change nothing. -/
theorem entry_ideal (x z a b s : Ideal .f32) :
    FloatOps.mulf (FloatOps.extf .f32 bitsLt_fp8e4m3_f32 (FloatOps.truncf (F := Ideal) .fp8e4m3 bitsLt_fp8e4m3_f32
      (FloatOps.minimumf a (FloatOps.maximumf b (FloatOps.divf (FloatOps.maximumf x z) s))))) s = (min a (max b (Ideal.div (max x z) s)) * s : EReal) := rfl

/-- A constant on extended reals. -/
theorem word_ideal (w : BitVec 32) : Scalar.ofBits (F := Ideal) .f32 w = Ideal.ofBits .f32 w := rfl

/-- On extended reals the payload is the reference's quantiser. -/
theorem pay1_ideal (v : Vec Ideal S4096x2048 .f32) (i : S4096x2048.Idx) :
    k0_pay1 (F := Ideal) v i = Cert.Quantiser.plain (top v) (v i) := by
  rw [pay1_entry, entry_ideal]
  unfold Cert.Quantiser.plain
  rw [Ideal.scalar_divf_def, word_ideal, word_ideal, word_ideal, Ideal.ofBits_zero_f32]

/-- The positive part's magnitude on extended reals. -/
theorem part_ideal (x z : Ideal .f32) : FloatOps.absf (FloatOps.maximumf x z) = (max (max x z) (-max x z) : EReal) := rfl

/-- A bound on the largest magnitude of the positive parts bounds zero and every entry. -/
theorem top_le (v : Vec Ideal S4096x2048 .f32) (z : EReal) : top (F := Ideal) v ≤ z ↔ 0 ≤ z ∧ ∀ i, v i ≤ z := by
  unfold top
  refine ((Cert.Quantiser.reduce_le _ _ (.inl rfl) rfl (by decide) _ z).trans (Cert.Quantiser.reshape_le _ _ z)).trans ?_
  have e : ∀ i, absf (F := Ideal) (maximumf v (broadcast S4096x2048 (Scalar.ofBits .f32 0x00000000#32))) i = max (v i) 0 := fun i => by
    refine (part_ideal _ _).trans ?_
    rw [show broadcast S4096x2048 (Scalar.ofBits (F := Ideal) .f32 0x00000000#32) i = 0 from Ideal.ofBits_zero_f32]
    have h0 : (0 : EReal) ≤ max (v i) 0 := le_max_right _ _
    exact max_eq_left ((EReal.neg_le_neg_iff.mpr h0).trans (by rw [neg_zero]; exact h0))
  constructor
  · intro H
    have H' := fun i => (e i) ▸ H i
    exact ⟨(le_max_right _ _).trans (H' (ix2 (n0 := 4096) (n1 := 2048) ⟨0, by decide⟩ ⟨0, by decide⟩)), fun i => (le_max_left _ _).trans (H' i)⟩
  · intro H i
    rw [e]
    exact max_le (H.2 i) H.1

/-! ## The arrays -/

section Run

variable {F : FTy → Type} [FloatOps F]
variable (m : (ℓ : Loc nD τ sig) → Buf (Elt F) ℓ) (ρ : Dev nD → PrngReg)

/-- The input's one block is its whole array. -/
theorem read_in (X : S4096x2048.Idx → Elt F .f32) : ((cfg0.win 0).blk t0_0).view.read (Elt F) X = X := by
  funext i
  refine congrArg X (funext fun a => Fin.ext ?_)
  fin_cases a
  · show 0 * 4096 + 1 * (i 0).val = (i 0).val; omega
  · show 0 * 2048 + 1 * (i 1).val = (i 1).val; omega

/-- The output's one block is its whole array. -/
theorem read_out (X : S4096x2048.Idx → Elt F .f32) : ((cfg0.win 1).blk t0_0).view.read (Elt F) X = X := by
  funext i
  refine congrArg X (funext fun a => Fin.ext ?_)
  fin_cases a
  · show 0 * 4096 + 1 * (i 0).val = (i 0).val; omega
  · show 0 * 2048 + 1 * (i 1).val = (i 1).val; omega

/-- The product as the quantising kernel finds it. -/
theorem entry_product (c : Dev nD) : V m c main_v0 = Host.dotGeneral dot_S4096x4096_S4096x2048_S4096x2048_1_0_0_1_n_n none
    (m ((c : Thread nD τ).loc main_arg0)) (m ((c : Thread nD τ).loc main_arg1)) := rfl

/-- The reference's result: the quantising kernel's payload at the product. -/
def result (X : S4096x4096.Idx → Elt F .f32) (W : S4096x2048.Idx → Elt F .f32) : S4096x2048.Idx → Elt F .f32 :=
  k0_pay1 (Host.dotGeneral dot_S4096x4096_S4096x2048_S4096x2048_1_0_0_1_n_n none X W)

/-- The result array after the run. -/
theorem final (c : Dev nD) : (dats m 0 c).arrAt 1 cfg0.N = result (m ((c : Thread nD τ).loc main_arg0)) (m ((c : Thread nD τ).loc main_arg1)) := by
  have e := (Value.blocks1 m c t0_0 (by decide)).trans (Value.flushed1 m c t0_0)
  rw [read_out] at e
  have hi : iblk m c 0 t0_0 = V m c main_v0 := read_in _
  have z : (![0, 0] : Fin 2 → ℕ) = fun _ => 0 := by funext a; fin_cases a <;> rfl
  rw [e, hi, entry_product]
  unfold out0_1 result
  rw [View.canon_cons_unit_zero z, View.ld_unit_zero z]
  rfl

/-- From any memory with zero counters, every fair execution of the reference ends with the result as stated
    and the arguments as they were. -/
theorem run_main : θ_run defs (onTc (τ := τ) (main (F := F))) ⟨m, fun _ => 0, ρ⟩ fun r => ∀ c : Dev nD,
      r.2.mem ((c : Thread nD τ).loc main_v1) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Run

/-! ## The result on extended reals -/

/-- An entry of the product is a sum over the contracted axis. -/
theorem product_at (X : FVec Ideal S4096x4096 .f32) (W : FVec Ideal S4096x2048 .f32) (i : S4096x2048.Idx) :
    Host.dotGeneral (F := Ideal) dot_S4096x4096_S4096x2048_S4096x2048_1_0_0_1_n_n none X W i
      = ∑ q : Fin 4096, X (ix2 (i 0) q) * W (ix2 q (i 1)) := by
  obtain ⟨a, b, rfl⟩ : ∃ a b, i = ix2 a b := ⟨_, _, eq_ix2 i⟩
  exact StackMember.dotGeneral_plain_apply (m := 4096) (k := 4096) (n := 2048) none X W a b

end Cert.ReferenceIdeal.Hand

end

end
-- ==== Proof.Agree.lean ====
module

public import proofs.«01_k».proof.Defs
public import proofs.«01_k».proof.Proof.Launch
public import proofs.«01_k».proof.Proof.Totals
public import proofs.«01_k».proof.Proof.Reference

/-! # The kernel computes what the reference computes

On extended reals every device of the kernel ends with the reference's whole result. -/

@[expose] public section

noncomputable section

namespace Cert.Agree

open Idealize.ShloMosaic Idealize.ShloMosaic.TcCoe Idealize.ShloMosaic.ValueIdx Idealize.SL.Sem
open scoped BigOperators

section Blocks

open Cert.KernelIdeal Cert.KernelIdeal.Gen

variable {F : FTy → Type} [FloatOps F]

omit [FloatOps F] in
/-- The first argument is staged whole. -/
theorem read_x (X : S4096x512.Idx → Elt F .f32) : ((cfg0.win 0).blk t0_0).view.read (Elt F) X = X := by
  funext i
  refine congrArg X (funext fun a => Fin.ext ?_)
  fin_cases a
  · show 0 * 4096 + 1 * (i 0).val = (i 0).val; omega
  · show 0 * 512 + 1 * (i 1).val = (i 1).val; omega

omit [FloatOps F] in
/-- So is the second. -/
theorem read_w (W : S512x2048.Idx → Elt F .f32) : ((cfg0.win 1).blk t0_0).view.read (Elt F) W = W := by
  funext i
  refine congrArg W (funext fun a => Fin.ext ?_)
  fin_cases a
  · show 0 * 512 + 1 * (i 0).val = (i 0).val; omega
  · show 0 * 2048 + 1 * (i 1).val = (i 1).val; omega

variable (m : (ℓ : Loc nD τ sig) → Buf (Elt F) ℓ)

/-- The first argument's block on a device, as the launch finds it. -/
theorem inp_x (c : Dev nD) : (Hand.inp m).x c = m ((c : Thread nD τ).loc main_arg0) := read_x (F := F) (m ((c : Thread nD τ).loc main_arg0))
/-- The second argument's. -/
theorem inp_w (c : Dev nD) : (Hand.inp m).w c = m ((c : Thread nD τ).loc main_arg1) := read_w (F := F) (m ((c : Thread nD τ).loc main_arg1))

end Blocks

/-- Where the devices hold the blocks of two whole arrays, each one's result is the reference's. -/
theorem result_eq {I : Cert.KernelIdeal.Hand.Inp Ideal} {X : FVec Ideal ⟨2, ![4096, 4096]⟩ .f32} {W : FVec Ideal ⟨2, ![4096, 2048]⟩ .f32}
    (h : Cert.KernelIdeal.Hand.Holds I X W) (c : Dev Cert.KernelIdeal.nD) :
    Cert.KernelIdeal.Hand.yOut I c = Cert.ReferenceIdeal.Hand.result (F := Ideal) X W := by
  have e : ∀ i, Host.dotGeneral (F := Ideal) Cert.ReferenceIdeal.dot_S4096x4096_S4096x2048_S4096x2048_1_0_0_1_n_n none X W i
      = Cert.KernelIdeal.Hand.prodAt X W i := Cert.ReferenceIdeal.Hand.product_at X W
  funext i
  unfold Cert.ReferenceIdeal.Hand.result
  rw [Cert.ReferenceIdeal.Hand.pay1_ideal, e]
  refine Cert.KernelIdeal.Hand.yOut_total h c (fun z => ?_) i
  rw [Cert.ReferenceIdeal.Hand.top_le]
  simp only [e]

/-- The kernel on blocks and the reference on the whole arrays both run, and end with one result. -/
theorem algebraic : Cert.algebraic_KernelIdeal_ReferenceIdeal (hKernelIdeal := Cert.KernelIdeal.Gen.facts) (hReferenceIdeal := Cert.ReferenceIdeal.Gen.facts) :=
  fun m g m' g' _ hb => by
    have h : Cert.KernelIdeal.Hand.Holds (Cert.KernelIdeal.Hand.inp m)
        (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)) :=
      fun c => ⟨(inp_x m c).trans (hb c).1, (inp_w m c).trans (hb c).2⟩
    exact ⟨_, (θ_run Cert.KernelIdeal.defs _ _).mono (fun _ hr c => ⟨(hr.1 c).1.trans (result_eq h c), (hr.1 c).2⟩) (Cert.KernelIdeal.Hand.run_main m g),
      (θ_run Cert.ReferenceIdeal.defs _ _).mono (fun _ hr => hr 0) (Cert.ReferenceIdeal.Hand.run_main m' g')⟩

end Cert.Agree

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Launch
public import proofs.«01_k».proof.Proof.Words
public import proofs.«01_k».proof.Proof.Agree
public import Idealize.ShloMosaic.Adequacy
public import Idealize.ShloMosaic.Init

@[expose] public section

noncomputable section

namespace Cert.Proof

open Idealize.ShloMosaic Idealize.SL.Sem

/-- The kernel over any float values runs, leaves its arguments as they were and every semaphore at zero. -/
theorem arguments_kept {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2, h.2⟩) (Cert.KernelIdeal.Hand.run_main m ρ)

/-- The kernel on words runs, leaves its arguments as they were and every semaphore at zero. -/
theorem kernel_frame : Cert.quiescent_Kernel (hKernel := Cert.Kernel.Gen.facts) := fun m ρ _ => by
  rw [Cert.KernelIdeal.Hand.word_defs]
  exact arguments_kept m ρ

/-- So does the kernel on extended reals. -/
theorem kernelIdeal_frame : Cert.quiescent_KernelIdeal (hKernelIdeal := Cert.KernelIdeal.Gen.facts) := fun m ρ _ =>
  arguments_kept m ρ

/-- Every claim: the three programs run and keep their arguments, the ideal kernel is the kernel's text, and its
    result is the reference's. -/
theorem claim : Cert.Claim := ⟨Cert.Kernel.Gen.facts, Cert.KernelIdeal.Gen.facts, Cert.ReferenceIdeal.Gen.facts,
  kernel_frame, kernelIdeal_frame, fun m ρ _ => Cert.ReferenceIdeal.Gen.frame m ρ, trivial, Cert.Agree.algebraic⟩

end Cert.Proof

end
